-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_reach [hPre_in_reach : Cert.Pre_in_reach.Facts] (m : (ℓ : Loc Cert.KernelIdeal.nD Cert.KernelIdeal.τ Cert.KernelIdeal.sig) → Buf (Elt Ideal) ℓ) : Prop :=
  ∀ c : Dev Cert.KernelIdeal.nD,
    (Cert.Pre_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_reach [hPre_in_reach : Cert.Pre_in_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Distances (m : (ℓ : Loc Cert.Distances.nD Cert.Distances.τ Cert.Distances.sig) → Buf (Elt Bits) ℓ) : Prop :=
  True

def Pre_DistancesIdeal (m : (ℓ : Loc Cert.DistancesIdeal.nD Cert.DistancesIdeal.τ Cert.DistancesIdeal.sig) → Buf (Elt Ideal) ℓ) : Prop :=
  True

def Pre_ReferenceDistancesIdeal (m : (ℓ : Loc Cert.ReferenceDistancesIdeal.nD Cert.ReferenceDistancesIdeal.τ Cert.ReferenceDistancesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_reach [hKernelIdeal : Cert.KernelIdeal.Facts] [hPre_in_reach : Cert.Pre_in_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_reach m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_reach [hReferenceIdeal : Cert.ReferenceIdeal.Facts] [hPre_in_reach : Cert.Pre_in_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Distances [hDistances : Cert.Distances.Facts] : Prop :=
  ∀ (m : (ℓ : Loc Cert.Distances.nD Cert.Distances.τ Cert.Distances.sig) → Buf (Elt Bits) ℓ) (g : Dev Cert.Distances.nD → PrngReg), Pre_Distances m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1))
      ∧ r.2.sem = fun _ => 0)

def quiescent_DistancesIdeal [hDistancesIdeal : Cert.DistancesIdeal.Facts] : Prop :=
  ∀ (m : (ℓ : Loc Cert.DistancesIdeal.nD Cert.DistancesIdeal.τ Cert.DistancesIdeal.sig) → Buf (Elt Ideal) ℓ) (g : Dev Cert.DistancesIdeal.nD → PrngReg), Pre_DistancesIdeal m →
    θ_run (Cert.DistancesIdeal.defs (F := Ideal)) (onTc (τ := Cert.DistancesIdeal.τ) (Cert.DistancesIdeal.main (F := Ideal))) ⟨m, fun _ => 0, g⟩ (fun r => (∀ c : Dev Cert.DistancesIdeal.nD,
      r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
      ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1))
      ∧ r.2.sem = fun _ => 0)

def quiescent_ReferenceDistancesIdeal [hReferenceDistancesIdeal : Cert.ReferenceDistancesIdeal.Facts] : Prop :=
  ∀ (m : (ℓ : Loc Cert.ReferenceDistancesIdeal.nD Cert.ReferenceDistancesIdeal.τ Cert.ReferenceDistancesIdeal.sig) → Buf (Elt Ideal) ℓ) (g : Dev Cert.ReferenceDistancesIdeal.nD → PrngReg), Pre_ReferenceDistancesIdeal m →
    θ_run (Cert.ReferenceDistancesIdeal.defs (F := Ideal)) (onTc (τ := Cert.ReferenceDistancesIdeal.τ) (Cert.ReferenceDistancesIdeal.main (F := Ideal))) ⟨m, fun _ => 0, g⟩ (fun r => (∀ c : Dev Cert.ReferenceDistancesIdeal.nD,
      r.2.mem ((c.tc : Thread Cert.ReferenceDistancesIdeal.nD Cert.ReferenceDistancesIdeal.τ).loc Cert.ReferenceDistancesIdeal.main_arg0) = m ((c.tc : Thread Cert.ReferenceDistancesIdeal.nD Cert.ReferenceDistancesIdeal.τ).loc Cert.ReferenceDistancesIdeal.main_arg0)
      ∧ r.2.mem ((c.tc : Thread Cert.ReferenceDistancesIdeal.nD Cert.ReferenceDistancesIdeal.τ).loc Cert.ReferenceDistancesIdeal.main_arg1) = m ((c.tc : Thread Cert.ReferenceDistancesIdeal.nD Cert.ReferenceDistancesIdeal.τ).loc Cert.ReferenceDistancesIdeal.main_arg1))
      ∧ r.2.sem = fun _ => 0)

def preserves_Kernel_KernelIdeal : Prop :=
  True

def algebraic_KernelIdeal_ReferenceIdeal_pre_in_reach [hKernelIdeal : Cert.KernelIdeal.Facts] [hReferenceIdeal : Cert.ReferenceIdeal.Facts] [hPre_in_reach : Cert.Pre_in_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Distances_DistancesIdeal : Prop :=
  True

def algebraic_DistancesIdeal_ReferenceDistancesIdeal [hDistancesIdeal : Cert.DistancesIdeal.Facts] [hReferenceDistancesIdeal : Cert.ReferenceDistancesIdeal.Facts] : Prop :=
  ∀ (m : (ℓ : Loc Cert.DistancesIdeal.nD Cert.DistancesIdeal.τ Cert.DistancesIdeal.sig) → Buf (Elt Ideal) ℓ) (g : Dev Cert.DistancesIdeal.nD → PrngReg)
    (m' : (ℓ : Loc Cert.ReferenceDistancesIdeal.nD Cert.ReferenceDistancesIdeal.τ Cert.ReferenceDistancesIdeal.sig) → Buf (Elt Ideal) ℓ) (g' : Dev Cert.ReferenceDistancesIdeal.nD → PrngReg), Pre_DistancesIdeal m →
    (∀ c : Dev Cert.DistancesIdeal.nD,
      m' ((c.tc : Thread Cert.ReferenceDistancesIdeal.nD Cert.ReferenceDistancesIdeal.τ).loc Cert.ReferenceDistancesIdeal.main_arg0) = m ((c.tc : Thread Cert.DistancesIdeal.nD Cert.DistancesIdeal.τ).loc Cert.DistancesIdeal.main_arg0)
      ∧ m' ((c.tc : Thread Cert.ReferenceDistancesIdeal.nD Cert.ReferenceDistancesIdeal.τ).loc Cert.ReferenceDistancesIdeal.main_arg1) = m ((c.tc : Thread Cert.DistancesIdeal.nD Cert.DistancesIdeal.τ).loc Cert.DistancesIdeal.main_arg1)) →
    ∃ (v0 : (c : Dev Cert.DistancesIdeal.nD) → Buf (Elt Ideal) ((c.tc : Thread Cert.DistancesIdeal.nD Cert.DistancesIdeal.τ).loc Cert.DistancesIdeal.main_v54_0)),
      θ_run (Cert.DistancesIdeal.defs (F := Ideal)) (onTc (τ := Cert.DistancesIdeal.τ) (Cert.DistancesIdeal.main (F := Ideal))) ⟨m, fun _ => 0, g⟩ (fun r => ∀ c : Dev Cert.DistancesIdeal.nD,
          r.2.mem ((c.tc : Thread Cert.DistancesIdeal.nD Cert.DistancesIdeal.τ).loc Cert.DistancesIdeal.main_v54_0) = v0 c
          ∧ r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
          ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1))
      ∧ θ_run (Cert.ReferenceDistancesIdeal.defs (F := Ideal)) (onTc (τ := Cert.ReferenceDistancesIdeal.τ) (Cert.ReferenceDistancesIdeal.main (F := Ideal))) ⟨m', fun _ => 0, g'⟩ (fun r => ∀ c : Dev Cert.ReferenceDistancesIdeal.nD,
          r.2.mem ((c.tc : Thread Cert.ReferenceDistancesIdeal.nD Cert.ReferenceDistancesIdeal.τ).loc Cert.ReferenceDistancesIdeal.main_v13) = v0 c
          ∧ r.2.mem ((c.tc : Thread Cert.ReferenceDistancesIdeal.nD Cert.ReferenceDistancesIdeal.τ).loc Cert.ReferenceDistancesIdeal.main_arg0) = m' ((c.tc : Thread Cert.ReferenceDistancesIdeal.nD Cert.ReferenceDistancesIdeal.τ).loc Cert.ReferenceDistancesIdeal.main_arg0)
          ∧ r.2.mem ((c.tc : Thread Cert.ReferenceDistancesIdeal.nD Cert.ReferenceDistancesIdeal.τ).loc Cert.ReferenceDistancesIdeal.main_arg1) = m' ((c.tc : Thread Cert.ReferenceDistancesIdeal.nD Cert.ReferenceDistancesIdeal.τ).loc Cert.ReferenceDistancesIdeal.main_arg1))

def Claim : Prop :=
  ∃ (hKernel : Cert.Kernel.Facts) (hKernelIdeal : Cert.KernelIdeal.Facts) (hReferenceIdeal : Cert.ReferenceIdeal.Facts) (hDistances : Cert.Distances.Facts) (hDistancesIdeal : Cert.DistancesIdeal.Facts) (hReferenceDistancesIdeal : Cert.ReferenceDistancesIdeal.Facts) (hPre_in_reach : Cert.Pre_in_reach.Facts),
    quiescent_Kernel (hKernel := hKernel)
    ∧ quiescent_KernelIdeal (hKernelIdeal := hKernelIdeal)
    ∧ quiescent_KernelIdeal_pre_in_reach (hKernelIdeal := hKernelIdeal) (hPre_in_reach := hPre_in_reach)
    ∧ quiescent_ReferenceIdeal (hReferenceIdeal := hReferenceIdeal)
    ∧ quiescent_ReferenceIdeal_pre_in_reach (hReferenceIdeal := hReferenceIdeal) (hPre_in_reach := hPre_in_reach)
    ∧ quiescent_Distances (hDistances := hDistances)
    ∧ quiescent_DistancesIdeal (hDistancesIdeal := hDistancesIdeal)
    ∧ quiescent_ReferenceDistancesIdeal (hReferenceDistancesIdeal := hReferenceDistancesIdeal)
    ∧ preserves_Kernel_KernelIdeal
    ∧ algebraic_KernelIdeal_ReferenceIdeal_pre_in_reach (hKernelIdeal := hKernelIdeal) (hReferenceIdeal := hReferenceIdeal) (hPre_in_reach := hPre_in_reach)
    ∧ preserves_Distances_DistancesIdeal
    ∧ algebraic_DistancesIdeal_ReferenceDistancesIdeal (hDistancesIdeal := hDistancesIdeal) (hReferenceDistancesIdeal := hReferenceDistancesIdeal)
-- ==== Pre_in_reach.lean ====
abbrev S1024x64 : Shape := ⟨2, ![1024, 64]⟩
abbrev S100000x64 : Shape := ⟨2, ![100000, 64]⟩
abbrev S1024x100000 : Shape := ⟨2, ![1024, 100000]⟩
abbrev S1024 : Shape := ⟨1, ![1024]⟩
abbrev S1024x1 : Shape := ⟨2, ![1024, 1]⟩
abbrev S_ : Shape := ⟨0, ![]⟩

class Facts : Prop where
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  natLt_1_32 : 1 < 32
  reducesTo_S1024x100000_S1024_d1 : S1024x100000.ReducesTo [1] S1024
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x64 .f32) (main_arg1 : FVec F S100000x64 .f32) (main_arg2 : FVec F S1024x100000 .f32) (main_arg3 : FVec F S1024 .f32) : IVec S_ 1 :=
  let main_v0 : FVec F S1024x1 .f32 := broadcastInDim S1024x1 ![0] bcast_S1024_S1024x1_0 main_arg3
  let main_v1 : FVec F S1024x100000 .f32 := broadcastInDim S1024x100000 ![0, 1] bcast_S1024x1_S1024x100000_0_1 main_v0
  let main_v2 : IVec S1024x100000 1 := cmpf .ole main_arg2 main_v1
  let main_v3 : IVec S1024x100000 32 := (extui 32 · natLt_1_32) main_v2
  let main_c : IVec S_ 32 := constantI S_ 32 0#32
  let main_v4 : IVec S1024 32 := (fun x v => Host.reduce IntOp.addi x v reducesTo_S1024x100000_S1024_d1 h_S_) main_v3 main_c
  let main_c_0 : IVec S_ 32 := constantI S_ 32 320#32
  let main_v5 : IVec S1024 32 := broadcastInDim S1024 ![] bcast_S_S1024 main_c_0
  let main_v6 : IVec S1024 1 := cmpi .sge main_v4 main_v5
  let main_c_1 : IVec S_ 32 := constantI S_ 32 1024#32
  let main_v7 : IVec S1024 32 := broadcastInDim S1024 ![] bcast_S_S1024 main_c_1
  let main_v8 : IVec S1024 1 := cmpi .sle main_v4 main_v7
  let main_v9 : IVec S1024 1 := andi main_v6 main_v8
  let main_c_2 : IVec S_ 1 := constantI S_ 1 1#1
  let main_v10 : IVec S_ 1 := (fun x v => Host.reduce IntOp.andi x v reducesTo_S1024_S_d0 h_S_) main_v9 main_c_2
  main_v10
-- ==== Kernel.lean ====
abbrev S1024x64 : Shape := ⟨2, ![1024, 64]⟩
abbrev S100000x64 : Shape := ⟨2, ![100000, 64]⟩
abbrev S1024x100000 : Shape := ⟨2, ![1024, 100000]⟩
abbrev S1024 : Shape := ⟨1, ![1024]⟩
abbrev S1024x1 : Shape := ⟨2, ![1024, 1]⟩
abbrev S1x1024x1x1 : Shape := ⟨4, ![1, 1024, 1, 1]⟩
abbrev S1x1024x16x1 : Shape := ⟨4, ![1, 1024, 16, 1]⟩
abbrev S1024x16 : Shape := ⟨2, ![1024, 16]⟩
abbrev S1024x1024 : Shape := ⟨2, ![1024, 1024]⟩
abbrev S8x16 : Shape := ⟨2, ![8, 16]⟩
abbrev S8x4096 : Shape := ⟨2, ![8, 4096]⟩
abbrev S8x1696 : Shape := ⟨2, ![8, 1696]⟩
abbrev S8x1024 : Shape := ⟨2, ![8, 1024]⟩
abbrev S16 : Shape := ⟨1, ![16]⟩
abbrev S_ : Shape := ⟨0, ![]⟩
abbrev S1x16 : Shape := ⟨2, ![1, 16]⟩
abbrev S1024x320 : Shape := ⟨2, ![1024, 320]⟩
abbrev S1024x320x1 : Shape := ⟨3, ![1024, 320, 1]⟩
abbrev S1 : Shape := ⟨1, ![1]⟩
abbrev S1x1x1 : Shape := ⟨3, ![1, 1, 1]⟩
abbrev S1024x320x64 : Shape := ⟨3, ![1024, 320, 64]⟩
abbrev S1024x1x64 : Shape := ⟨3, ![1024, 1, 64]⟩
abbrev S1024x5 : Shape := ⟨2, ![1024, 5]⟩
abbrev S1024x5x1 : Shape := ⟨3, ![1024, 5, 1]⟩
abbrev S1024x5x64 : Shape := ⟨3, ![1024, 5, 64]⟩
abbrev S5120 : Shape := ⟨1, ![5120]⟩

abbrev nBuf : Table → Nat
  | .hbm => 113
  | .local .scVector .vmem => 5
  | _ => 0

abbrev bufTy : (tb : Table) → Fin (nBuf tb) → BufTy
  | .hbm, ⟨0, _⟩ => ⟨S1024x64, .f32⟩
  | .hbm, ⟨1, _⟩ => ⟨S100000x64, .f32⟩
  | .hbm, ⟨2, _⟩ => ⟨S1024x100000, .f32⟩
  | .hbm, ⟨3, _⟩ => ⟨S1024, .f32⟩
  | .hbm, ⟨4, _⟩ => ⟨S1024x1, .f32⟩
  | .hbm, ⟨5, _⟩ => ⟨S1x1024x1x1, .f32⟩
  | .hbm, ⟨6, _⟩ => ⟨S1x1024x16x1, .f32⟩
  | .hbm, ⟨7, _⟩ => ⟨S1024x16, .f32⟩
  | .hbm, ⟨8, _⟩ => ⟨S1024x1024, .f32⟩
  | .hbm, ⟨9, _⟩ => ⟨S1024x1024, .i32⟩
  | .hbm, ⟨10, _⟩ => ⟨S1024x1024, .f32⟩
  | .hbm, ⟨11, _⟩ => ⟨S1024x320, .f32⟩
  | .hbm, ⟨12, _⟩ => ⟨S1024x320, .i32⟩
  | .hbm, ⟨13, _⟩ => ⟨S_, .i32⟩
  | .hbm, ⟨14, _⟩ => ⟨S1024x320, .i32⟩
  | .hbm, ⟨15, _⟩ => ⟨S1024x320, .i1⟩
  | .hbm, ⟨16, _⟩ => ⟨S_, .i32⟩
  | .hbm, ⟨17, _⟩ => ⟨S1024x320, .i32⟩
  | .hbm, ⟨18, _⟩ => ⟨S1024x320, .i32⟩
  | .hbm, ⟨19, _⟩ => ⟨S1024x320, .i32⟩
  | .hbm, ⟨20, _⟩ => ⟨S1024x320x1, .i32⟩
  | .hbm, ⟨21, _⟩ => ⟨S1, .i32⟩
  | .hbm, ⟨22, _⟩ => ⟨S_, .i32⟩
  | .hbm, ⟨23, _⟩ => ⟨S1024x320x1, .i32⟩
  | .hbm, ⟨24, _⟩ => ⟨S1024x320x1, .i1⟩
  | .hbm, ⟨25, _⟩ => ⟨S1x1x1, .i32⟩
  | .hbm, ⟨26, _⟩ => ⟨S1024x320x1, .i32⟩
  | .hbm, ⟨27, _⟩ => ⟨S1024x320x1, .i1⟩
  | .hbm, ⟨28, _⟩ => ⟨S1024x320x1, .i1⟩
  | .hbm, ⟨29, _⟩ => ⟨S_, .i1⟩
  | .hbm, ⟨30, _⟩ => ⟨S1024x320, .i1⟩
  | .hbm, ⟨31, _⟩ => ⟨S1024x320, .i32⟩
  | .hbm, ⟨32, _⟩ => ⟨S_, .i32⟩
  | .hbm, ⟨33, _⟩ => ⟨S1024x320, .i32⟩
  | .hbm, ⟨34, _⟩ => ⟨S1024x320, .i32⟩
  | .hbm, ⟨35, _⟩ => ⟨S_, .i32⟩
  | .hbm, ⟨36, _⟩ => ⟨S1024x320, .i32⟩
  | .hbm, ⟨37, _⟩ => ⟨S1024x320, .i1⟩
  | .hbm, ⟨38, _⟩ => ⟨S_, .i32⟩
  | .hbm, ⟨39, _⟩ => ⟨S1024x320, .i32⟩
  | .hbm, ⟨40, _⟩ => ⟨S1024x320, .i32⟩
  | .hbm, ⟨41, _⟩ => ⟨S1024x320, .i32⟩
  | .hbm, ⟨42, _⟩ => ⟨S1024x320x1, .i32⟩
  | .hbm, ⟨43, _⟩ => ⟨S1, .i32⟩
  | .hbm, ⟨44, _⟩ => ⟨S_, .i32⟩
  | .hbm, ⟨45, _⟩ => ⟨S1024x320x1, .i32⟩
  | .hbm, ⟨46, _⟩ => ⟨S1024x320x1, .i1⟩
  | .hbm, ⟨47, _⟩ => ⟨S1x1x1, .i32⟩
  | .hbm, ⟨48, _⟩ => ⟨S1024x320x1, .i32⟩
  | .hbm, ⟨49, _⟩ => ⟨S1024x320x1, .i1⟩
  | .hbm, ⟨50, _⟩ => ⟨S1024x320x1, .i1⟩
  | .hbm, ⟨51, _⟩ => ⟨S_, .i1⟩
  | .hbm, ⟨52, _⟩ => ⟨S1024x320, .i1⟩
  | .hbm, ⟨53, _⟩ => ⟨S1024x320x64, .f32⟩
  | .hbm, ⟨54, _⟩ => ⟨S1024x320x64, .i1⟩
  | .hbm, ⟨55, _⟩ => ⟨S_, .f32⟩
  | .hbm, ⟨56, _⟩ => ⟨S1024x320x64, .f32⟩
  | .hbm, ⟨57, _⟩ => ⟨S1024x320x64, .f32⟩
  | .hbm, ⟨58, _⟩ => ⟨S1024x1x64, .f32⟩
  | .hbm, ⟨59, _⟩ => ⟨S1024x320x64, .f32⟩
  | .hbm, ⟨60, _⟩ => ⟨S1024x320x64, .f32⟩
  | .hbm, ⟨61, _⟩ => ⟨S1024x320x64, .f32⟩
  | .hbm, ⟨62, _⟩ => ⟨S_, .f32⟩
  | .hbm, ⟨63, _⟩ => ⟨S1024x320, .f32⟩
  | .hbm, ⟨64, _⟩ => ⟨S1024x320, .f32⟩
  | .hbm, ⟨65, _⟩ => ⟨S1024x5, .f32⟩
  | .hbm, ⟨66, _⟩ => ⟨S1024x5, .i32⟩
  | .hbm, ⟨67, _⟩ => ⟨S_, .i32⟩
  | .hbm, ⟨68, _⟩ => ⟨S1024x5, .i32⟩
  | .hbm, ⟨69, _⟩ => ⟨S1024x5, .i1⟩
  | .hbm, ⟨70, _⟩ => ⟨S_, .i32⟩
  | .hbm, ⟨71, _⟩ => ⟨S1024x5, .i32⟩
  | .hbm, ⟨72, _⟩ => ⟨S1024x5, .i32⟩
  | .hbm, ⟨73, _⟩ => ⟨S1024x5, .i32⟩
  | .hbm, ⟨74, _⟩ => ⟨S1024x5x1, .i32⟩
  | .hbm, ⟨75, _⟩ => ⟨S1, .i32⟩
  | .hbm, ⟨76, _⟩ => ⟨S_, .i32⟩
  | .hbm, ⟨77, _⟩ => ⟨S1024x5x1, .i32⟩
  | .hbm, ⟨78, _⟩ => ⟨S1024x5x1, .i1⟩
  | .hbm, ⟨79, _⟩ => ⟨S1x1x1, .i32⟩
  | .hbm, ⟨80, _⟩ => ⟨S1024x5x1, .i32⟩
  | .hbm, ⟨81, _⟩ => ⟨S1024x5x1, .i1⟩
  | .hbm, ⟨82, _⟩ => ⟨S1024x5x1, .i1⟩
  | .hbm, ⟨83, _⟩ => ⟨S_, .i1⟩
  | .hbm, ⟨84, _⟩ => ⟨S1024x5, .i1⟩
  | .hbm, ⟨85, _⟩ => ⟨S1024x5, .i32⟩
  | .hbm, ⟨86, _⟩ => ⟨S_, .i32⟩
  | .hbm, ⟨87, _⟩ => ⟨S1024x5, .i32⟩
  | .hbm, ⟨88, _⟩ => ⟨S1024x5, .i32⟩
  | .hbm, ⟨89, _⟩ => ⟨S1024x5x1, .i32⟩
  | .hbm, ⟨90, _⟩ => ⟨S_, .i32⟩
  | .hbm, ⟨91, _⟩ => ⟨S1024x5x1, .i32⟩
  | .hbm, ⟨92, _⟩ => ⟨S1024x5x1, .i1⟩
  | .hbm, ⟨93, _⟩ => ⟨S_, .i32⟩
  | .hbm, ⟨94, _⟩ => ⟨S1024x5x1, .i32⟩
  | .hbm, ⟨95, _⟩ => ⟨S1024x5x1, .i32⟩
  | .hbm, ⟨96, _⟩ => ⟨S1024x5x1, .i32⟩
  | .hbm, ⟨97, _⟩ => ⟨S1, .i32⟩
  | .hbm, ⟨98, _⟩ => ⟨S_, .i32⟩
  | .hbm, ⟨99, _⟩ => ⟨S1024x5x1, .i32⟩
  | .hbm, ⟨100, _⟩ => ⟨S1024x5x1, .i1⟩
  | .hbm, ⟨101, _⟩ => ⟨S1x1x1, .i32⟩
  | .hbm, ⟨102, _⟩ => ⟨S1024x5x1, .i32⟩
  | .hbm, ⟨103, _⟩ => ⟨S1024x5x1, .i1⟩
  | .hbm, ⟨104, _⟩ => ⟨S1024x5x1, .i1⟩
  | .hbm, ⟨105, _⟩ => ⟨S_, .i1⟩
  | .hbm, ⟨106, _⟩ => ⟨S1024x5, .i1⟩
  | .hbm, ⟨107, _⟩ => ⟨S1024x5x64, .f32⟩
  | .hbm, ⟨108, _⟩ => ⟨S1024x5x64, .i1⟩
  | .hbm, ⟨109, _⟩ => ⟨S_, .f32⟩
  | .hbm, ⟨110, _⟩ => ⟨S1024x5x64, .f32⟩
  | .hbm, ⟨111, _⟩ => ⟨S1024x5x64, .f32⟩
  | .hbm, ⟨112, _⟩ => ⟨S5120, .i32⟩
  | .local .scVector .vmem, ⟨0, _⟩ => ⟨S8x16, .f32⟩
  | .local .scVector .vmem, ⟨1, _⟩ => ⟨S8x4096, .f32⟩
  | .local .scVector .vmem, ⟨2, _⟩ => ⟨S8x1696, .f32⟩
  | .local .scVector .vmem, ⟨3, _⟩ => ⟨S8x1024, .f32⟩
  | .local .scVector .vmem, ⟨4, _⟩ => ⟨S8x1024, .i32⟩
  | _, _ => ⟨S1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_c_4 : Ref sig .tc := ⟨.hbm, 32, rfl⟩
abbrev main_call0_v14 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst : Ref sig .tc := ⟨.hbm, 62, rfl⟩
abbrev main_v12 : Ref sig .tc := ⟨.hbm, 63, rfl⟩
abbrev main_v13 : Ref sig .tc := ⟨.hbm, 64, rfl⟩
abbrev main_values_0 : Ref sig .tc := ⟨.hbm, 65, rfl⟩
abbrev main_indices_1 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_c_4 : Ref sig .tc := ⟨.hbm, 86, rfl⟩
abbrev main_call2_v14 : Ref sig .tc := ⟨.hbm, 87, rfl⟩
abbrev main_v14 : Ref sig .tc := ⟨.hbm, 88, rfl⟩
abbrev main_v15 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_c_2 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_c_3 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v16 : Ref sig .tc := ⟨.hbm, 111, rfl⟩
abbrev main_v17 : Ref sig .tc := ⟨.hbm, 112, rfl⟩
abbrev main_arg2_scv : Ref sig .scVector := ⟨.hbm, 2, rfl⟩
abbrev main_v3_scv : Ref sig .scVector := ⟨.hbm, 7, rfl⟩
abbrev main_v4_0_scv : Ref sig .scVector := ⟨.hbm, 8, rfl⟩
abbrev main_v4_1_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c4_i32_3 : BitVec 32 := 4#32
  let v12 : BitVec 32 := Scalar.addi c0_i32_2 c4_i32_3
  let c1_i32_4 : BitVec 32 := 1#32
  ⟨c0_i32_2, v12, c1_i32_4⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v13 : BitVec 32 := Scalar.muli v1 c32_i32
  let c0_i32_2 : BitVec 32 := 0#32
  let c1_i32_4 : BitVec 32 := 1#32
  let arg11 : BitVec 32 := Scf.iv c0_i32_2 c1_i32_4 k0_t1
  let c8_i32 : BitVec 32 := 8#32
  let v14 : BitVec 32 := Scalar.muli arg11 c8_i32
  let v15 : BitVec 32 := Scalar.addi v13 v14
  let c0_i32_68_r0 : BitVec 32 := 0#32
  ![v15.toNat, 0]
@[reducible] def k0_t2_loop : Scf.Loop 32 :=
  let c0_i32_22 : BitVec 32 := 0#32
  let c8_i32_23 : BitVec 32 := 8#32
  let v32 : BitVec 32 := Scalar.addi c0_i32_22 c8_i32_23
  let c1_i32_24 : BitVec 32 := 1#32
  ⟨c0_i32_22, v32, c1_i32_24⟩
@[reducible] def k0_t3_loop : Scf.Loop 32 :=
  let c0_i32_68 : BitVec 32 := 0#32
  let c64_i32 : BitVec 32 := 64#32
  let v59 : BitVec 32 := Scalar.addi c0_i32_68 c64_i32
  let c1_i32_69 : BitVec 32 := 1#32
  ⟨c0_i32_68, v59, c1_i32_69⟩
def k0_off2 (k0_t2 : Fin k0_t2_loop.trips) (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t2
  let v61 : Index := Scalar.indexCast arg12
  let c0_i32_68 : BitVec 32 := 0#32
  let c1_i32_69 : BitVec 32 := 1#32
  let arg13 : BitVec 32 := Scf.iv c0_i32_68 c1_i32_69 k0_t3
  let c16_i32 : BitVec 32 := 16#32
  let v60 : BitVec 32 := Scalar.muli arg13 c16_i32
  let v62 : Index := Scalar.indexCast v60
  ![v61.toNat, v62.toNat]
@[reducible] def k0_t4_loop : Scf.Loop 32 :=
  let c0_i32_34 : BitVec 32 := 0#32
  let c24_i32 : BitVec 32 := 24#32
  let v41 : BitVec 32 := Scalar.addi c0_i32_34 c24_i32
  let c1_i32_35 : BitVec 32 := 1#32
  ⟨c0_i32_34, v41, c1_i32_35⟩
def k0_off3 (i : grid0.Coords) (k0_t1 : Fin k0_t1_loop.trips) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v13 : BitVec 32 := Scalar.muli v1 c32_i32
  let c0_i32_2 : BitVec 32 := 0#32
  let c1_i32_4 : BitVec 32 := 1#32
  let arg11 : BitVec 32 := Scf.iv c0_i32_2 c1_i32_4 k0_t1
  let c8_i32 : BitVec 32 := 8#32
  let v14 : BitVec 32 := Scalar.muli arg11 c8_i32
  let v15 : BitVec 32 := Scalar.addi v13 v14
  let c0_i32_34 : BitVec 32 := 0#32
  let c1_i32_35 : BitVec 32 := 1#32
  let arg12 : BitVec 32 := Scf.iv c0_i32_34 c1_i32_35 k0_t4
  let c4096_i32 : BitVec 32 := 4096#32
  let v59 : BitVec 32 := Scalar.muli arg12 c4096_i32
  ![v15.toNat, v59.toNat]
@[reducible] def k0_t5_loop : Scf.Loop 32 :=
  let c0_i32_69 : BitVec 32 := 0#32
  let c256_i32 : BitVec 32 := 256#32
  let v61 : BitVec 32 := Scalar.addi c0_i32_69 c256_i32
  let c1_i32_70 : BitVec 32 := 1#32
  ⟨c0_i32_69, v61, c1_i32_70⟩
def k0_off4 (k0_t5 : Fin k0_t5_loop.trips) : Fin 2 → Nat :=
  let c0_i32_100 : BitVec 32 := 0#32
  let v78 : Index := Scalar.indexCast c0_i32_100
  let c0_i32_69 : BitVec 32 := 0#32
  let c1_i32_70 : BitVec 32 := 1#32
  let arg21 : BitVec 32 := Scf.iv c0_i32_69 c1_i32_70 k0_t5
  let c16_i32 : BitVec 32 := 16#32
  let v77 : BitVec 32 := Scalar.muli arg21 c16_i32
  let v79 : Index := Scalar.indexCast v77
  ![0, v79.toNat]

def k0_chk1 (v4 : IVec S16 32) (v96 : IVec S16 32) : Prop :=
  (∀ a x, ((![v4, v96] : Fin 2 → IVec S16 32) a x).toNat < S8x1024.size a) ∧
  (∀ a x, ((![v4, v96] : Fin 2 → IVec S16 32) a x).toNat < S8x1024.size a)
theorem k0_idx1_inb : ∀ (v4 : IVec S16 32) (v96 : IVec S16 32) (k0_hw1 : k0_chk1 v4 v96), ∀ a x, ((![v4, v96] : Fin 2 → IVec S16 32) a x).toNat < S8x1024.size a := fun v4 v96 k0_hw1 => k0_hw1.1
theorem k0_idx2_inb : ∀ (v4 : IVec S16 32) (v96 : IVec S16 32) (k0_hw1 : k0_chk1 v4 v96), ∀ a x, ((![v4, v96] : Fin 2 → IVec S16 32) a x).toNat < S8x1024.size a := fun v4 v96 k0_hw1 => k0_hw1.2
@[reducible] def k0_t6_loop : Scf.Loop 32 :=
  let c0_i32_72 : BitVec 32 := 0#32
  let c256_i32_73 : BitVec 32 := 256#32
  let v63 : BitVec 32 := Scalar.addi c0_i32_72 c256_i32_73
  let c1_i32_74 : BitVec 32 := 1#32
  ⟨c0_i32_72, v63, c1_i32_74⟩
def k0_off5 (k0_t6 : Fin k0_t6_loop.trips) : Fin 2 → Nat :=
  let c1_i32_100 : BitVec 32 := 1#32
  let v78 : Index := Scalar.indexCast c1_i32_100
  let c0_i32_72 : BitVec 32 := 0#32
  let c1_i32_74 : BitVec 32 := 1#32
  let arg21 : BitVec 32 := Scf.iv c0_i32_72 c1_i32_74 k0_t6
  let c16_i32 : BitVec 32 := 16#32
  let v77 : BitVec 32 := Scalar.muli arg21 c16_i32
  let v79 : Index := Scalar.indexCast v77
  ![1, v79.toNat]

def k0_chk2 (v5 : IVec S16 32) (v96 : IVec S16 32) : Prop :=
  (∀ a x, ((![v5, v96] : Fin 2 → IVec S16 32) a x).toNat < S8x1024.size a) ∧
  (∀ a x, ((![v5, v96] : Fin 2 → IVec S16 32) a x).toNat < S8x1024.size a)
theorem k0_idx3_inb : ∀ (v5 : IVec S16 32) (v96 : IVec S16 32) (k0_hw2 : k0_chk2 v5 v96), ∀ a x, ((![v5, v96] : Fin 2 → IVec S16 32) a x).toNat < S8x1024.size a := fun v5 v96 k0_hw2 => k0_hw2.1
theorem k0_idx4_inb : ∀ (v5 : IVec S16 32) (v96 : IVec S16 32) (k0_hw2 : k0_chk2 v5 v96), ∀ a x, ((![v5, v96] : Fin 2 → IVec S16 32) a x).toNat < S8x1024.size a := fun v5 v96 k0_hw2 => k0_hw2.2
@[reducible] def k0_t7_loop : Scf.Loop 32 :=
  let c0_i32_76 : BitVec 32 := 0#32
  let c256_i32_77 : BitVec 32 := 256#32
  let v65 : BitVec 32 := Scalar.addi c0_i32_76 c256_i32_77
  let c1_i32_78 : BitVec 32 := 1#32
  ⟨c0_i32_76, v65, c1_i32_78⟩
def k0_off6 (k0_t7 : Fin k0_t7_loop.trips) : Fin 2 → Nat :=
  let c2_i32_100 : BitVec 32 := 2#32
  let v78 : Index := Scalar.indexCast c2_i32_100
  let c0_i32_76 : BitVec 32 := 0#32
  let c1_i32_78 : BitVec 32 := 1#32
  let arg21 : BitVec 32 := Scf.iv c0_i32_76 c1_i32_78 k0_t7
  let c16_i32 : BitVec 32 := 16#32
  let v77 : BitVec 32 := Scalar.muli arg21 c16_i32
  let v79 : Index := Scalar.indexCast v77
  ![2, v79.toNat]

def k0_chk3 (v6 : IVec S16 32) (v96 : IVec S16 32) : Prop :=
  (∀ a x, ((![v6, v96] : Fin 2 → IVec S16 32) a x).toNat < S8x1024.size a) ∧
  (∀ a x, ((![v6, v96] : Fin 2 → IVec S16 32) a x).toNat < S8x1024.size a)
theorem k0_idx5_inb : ∀ (v6 : IVec S16 32) (v96 : IVec S16 32) (k0_hw3 : k0_chk3 v6 v96), ∀ a x, ((![v6, v96] : Fin 2 → IVec S16 32) a x).toNat < S8x1024.size a := fun v6 v96 k0_hw3 => k0_hw3.1
theorem k0_idx6_inb : ∀ (v6 : IVec S16 32) (v96 : IVec S16 32) (k0_hw3 : k0_chk3 v6 v96), ∀ a x, ((![v6, v96] : Fin 2 → IVec S16 32) a x).toNat < S8x1024.size a := fun v6 v96 k0_hw3 => k0_hw3.2
@[reducible] def k0_t8_loop : Scf.Loop 32 :=
  let c0_i32_80 : BitVec 32 := 0#32
  let c256_i32_81 : BitVec 32 := 256#32
  let v67 : BitVec 32 := Scalar.addi c0_i32_80 c256_i32_81
  let c1_i32_82 : BitVec 32 := 1#32
  ⟨c0_i32_80, v67, c1_i32_82⟩
def k0_off7 (k0_t8 : Fin k0_t8_loop.trips) : Fin 2 → Nat :=
  let c3_i32_100 : BitVec 32 := 3#32
  let v78 : Index := Scalar.indexCast c3_i32_100
  let c0_i32_80 : BitVec 32 := 0#32
  let c1_i32_82 : BitVec 32 := 1#32
  let arg21 : BitVec 32 := Scf.iv c0_i32_80 c1_i32_82 k0_t8
  let c16_i32 : BitVec 32 := 16#32
  let v77 : BitVec 32 := Scalar.muli arg21 c16_i32
  let v79 : Index := Scalar.indexCast v77
  ![3, v79.toNat]

def k0_chk4 (v7 : IVec S16 32) (v96 : IVec S16 32) : Prop :=
  (∀ a x, ((![v7, v96] : Fin 2 → IVec S16 32) a x).toNat < S8x1024.size a) ∧
  (∀ a x, ((![v7, v96] : Fin 2 → IVec S16 32) a x).toNat < S8x1024.size a)
theorem k0_idx7_inb : ∀ (v7 : IVec S16 32) (v96 : IVec S16 32) (k0_hw4 : k0_chk4 v7 v96), ∀ a x, ((![v7, v96] : Fin 2 → IVec S16 32) a x).toNat < S8x1024.size a := fun v7 v96 k0_hw4 => k0_hw4.1
theorem k0_idx8_inb : ∀ (v7 : IVec S16 32) (v96 : IVec S16 32) (k0_hw4 : k0_chk4 v7 v96), ∀ a x, ((![v7, v96] : Fin 2 → IVec S16 32) a x).toNat < S8x1024.size a := fun v7 v96 k0_hw4 => k0_hw4.2
@[reducible] def k0_t9_loop : Scf.Loop 32 :=
  let c0_i32_84 : BitVec 32 := 0#32
  let c256_i32_85 : BitVec 32 := 256#32
  let v69 : BitVec 32 := Scalar.addi c0_i32_84 c256_i32_85
  let c1_i32_86 : BitVec 32 := 1#32
  ⟨c0_i32_84, v69, c1_i32_86⟩
def k0_off8 (k0_t9 : Fin k0_t9_loop.trips) : Fin 2 → Nat :=
  let c4_i32_100 : BitVec 32 := 4#32
  let v78 : Index := Scalar.indexCast c4_i32_100
  let c0_i32_84 : BitVec 32 := 0#32
  let c1_i32_86 : BitVec 32 := 1#32
  let arg21 : BitVec 32 := Scf.iv c0_i32_84 c1_i32_86 k0_t9
  let c16_i32 : BitVec 32 := 16#32
  let v77 : BitVec 32 := Scalar.muli arg21 c16_i32
  let v79 : Index := Scalar.indexCast v77
  ![4, v79.toNat]

def k0_chk5 (v8 : IVec S16 32) (v96 : IVec S16 32) : Prop :=
  (∀ a x, ((![v8, v96] : Fin 2 → IVec S16 32) a x).toNat < S8x1024.size a) ∧
  (∀ a x, ((![v8, v96] : Fin 2 → IVec S16 32) a x).toNat < S8x1024.size a)
theorem k0_idx9_inb : ∀ (v8 : IVec S16 32) (v96 : IVec S16 32) (k0_hw5 : k0_chk5 v8 v96), ∀ a x, ((![v8, v96] : Fin 2 → IVec S16 32) a x).toNat < S8x1024.size a := fun v8 v96 k0_hw5 => k0_hw5.1
theorem k0_idx10_inb : ∀ (v8 : IVec S16 32) (v96 : IVec S16 32) (k0_hw5 : k0_chk5 v8 v96), ∀ a x, ((![v8, v96] : Fin 2 → IVec S16 32) a x).toNat < S8x1024.size a := fun v8 v96 k0_hw5 => k0_hw5.2
@[reducible] def k0_t10_loop : Scf.Loop 32 :=
  let c0_i32_88 : BitVec 32 := 0#32
  let c256_i32_89 : BitVec 32 := 256#32
  let v71 : BitVec 32 := Scalar.addi c0_i32_88 c256_i32_89
  let c1_i32_90 : BitVec 32 := 1#32
  ⟨c0_i32_88, v71, c1_i32_90⟩
def k0_off9 (k0_t10 : Fin k0_t10_loop.trips) : Fin 2 → Nat :=
  let c5_i32_100 : BitVec 32 := 5#32
  let v78 : Index := Scalar.indexCast c5_i32_100
  let c0_i32_88 : BitVec 32 := 0#32
  let c1_i32_90 : BitVec 32 := 1#32
  let arg21 : BitVec 32 := Scf.iv c0_i32_88 c1_i32_90 k0_t10
  let c16_i32 : BitVec 32 := 16#32
  let v77 : BitVec 32 := Scalar.muli arg21 c16_i32
  let v79 : Index := Scalar.indexCast v77
  ![5, v79.toNat]

def k0_chk6 (v9 : IVec S16 32) (v96 : IVec S16 32) : Prop :=
  (∀ a x, ((![v9, v96] : Fin 2 → IVec S16 32) a x).toNat < S8x1024.size a) ∧
  (∀ a x, ((![v9, v96] : Fin 2 → IVec S16 32) a x).toNat < S8x1024.size a)
theorem k0_idx11_inb : ∀ (v9 : IVec S16 32) (v96 : IVec S16 32) (k0_hw6 : k0_chk6 v9 v96), ∀ a x, ((![v9, v96] : Fin 2 → IVec S16 32) a x).toNat < S8x1024.size a := fun v9 v96 k0_hw6 => k0_hw6.1
theorem k0_idx12_inb : ∀ (v9 : IVec S16 32) (v96 : IVec S16 32) (k0_hw6 : k0_chk6 v9 v96), ∀ a x, ((![v9, v96] : Fin 2 → IVec S16 32) a x).toNat < S8x1024.size a := fun v9 v96 k0_hw6 => k0_hw6.2
@[reducible] def k0_t11_loop : Scf.Loop 32 :=
  let c0_i32_92 : BitVec 32 := 0#32
  let c256_i32_93 : BitVec 32 := 256#32
  let v73 : BitVec 32 := Scalar.addi c0_i32_92 c256_i32_93
  let c1_i32_94 : BitVec 32 := 1#32
  ⟨c0_i32_92, v73, c1_i32_94⟩
def k0_off10 (k0_t11 : Fin k0_t11_loop.trips) : Fin 2 → Nat :=
  let c6_i32_100 : BitVec 32 := 6#32
  let v78 : Index := Scalar.indexCast c6_i32_100
  let c0_i32_92 : BitVec 32 := 0#32
  let c1_i32_94 : BitVec 32 := 1#32
  let arg21 : BitVec 32 := Scf.iv c0_i32_92 c1_i32_94 k0_t11
  let c16_i32 : BitVec 32 := 16#32
  let v77 : BitVec 32 := Scalar.muli arg21 c16_i32
  let v79 : Index := Scalar.indexCast v77
  ![6, v79.toNat]

def k0_chk7 (v10 : IVec S16 32) (v96 : IVec S16 32) : Prop :=
  (∀ a x, ((![v10, v96] : Fin 2 → IVec S16 32) a x).toNat < S8x1024.size a) ∧
  (∀ a x, ((![v10, v96] : Fin 2 → IVec S16 32) a x).toNat < S8x1024.size a)
theorem k0_idx13_inb : ∀ (v10 : IVec S16 32) (v96 : IVec S16 32) (k0_hw7 : k0_chk7 v10 v96), ∀ a x, ((![v10, v96] : Fin 2 → IVec S16 32) a x).toNat < S8x1024.size a := fun v10 v96 k0_hw7 => k0_hw7.1
theorem k0_idx14_inb : ∀ (v10 : IVec S16 32) (v96 : IVec S16 32) (k0_hw7 : k0_chk7 v10 v96), ∀ a x, ((![v10, v96] : Fin 2 → IVec S16 32) a x).toNat < S8x1024.size a := fun v10 v96 k0_hw7 => k0_hw7.2
@[reducible] def k0_t12_loop : Scf.Loop 32 :=
  let c0_i32_96 : BitVec 32 := 0#32
  let c256_i32_97 : BitVec 32 := 256#32
  let v75 : BitVec 32 := Scalar.addi c0_i32_96 c256_i32_97
  let c1_i32_98 : BitVec 32 := 1#32
  ⟨c0_i32_96, v75, c1_i32_98⟩
def k0_off11 (k0_t12 : Fin k0_t12_loop.trips) : Fin 2 → Nat :=
  let c7_i32_100 : BitVec 32 := 7#32
  let v78 : Index := Scalar.indexCast c7_i32_100
  let c0_i32_96 : BitVec 32 := 0#32
  let c1_i32_98 : BitVec 32 := 1#32
  let arg21 : BitVec 32 := Scf.iv c0_i32_96 c1_i32_98 k0_t12
  let c16_i32 : BitVec 32 := 16#32
  let v77 : BitVec 32 := Scalar.muli arg21 c16_i32
  let v79 : Index := Scalar.indexCast v77
  ![7, v79.toNat]

def k0_chk8 (v11 : IVec S16 32) (v96 : IVec S16 32) : Prop :=
  (∀ a x, ((![v11, v96] : Fin 2 → IVec S16 32) a x).toNat < S8x1024.size a) ∧
  (∀ a x, ((![v11, v96] : Fin 2 → IVec S16 32) a x).toNat < S8x1024.size a)
theorem k0_idx15_inb : ∀ (v11 : IVec S16 32) (v96 : IVec S16 32) (k0_hw8 : k0_chk8 v11 v96), ∀ a x, ((![v11, v96] : Fin 2 → IVec S16 32) a x).toNat < S8x1024.size a := fun v11 v96 k0_hw8 => k0_hw8.1
theorem k0_idx16_inb : ∀ (v11 : IVec S16 32) (v96 : IVec S16 32) (k0_hw8 : k0_chk8 v11 v96), ∀ a x, ((![v11, v96] : Fin 2 → IVec S16 32) a x).toNat < S8x1024.size a := fun v11 v96 k0_hw8 => k0_hw8.2
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v13 : BitVec 32 := Scalar.muli v1 c32_i32
  let c0_i32_2 : BitVec 32 := 0#32
  let c1_i32_4 : BitVec 32 := 1#32
  let arg11 : BitVec 32 := Scf.iv c0_i32_2 c1_i32_4 k0_t1
  let c8_i32 : BitVec 32 := 8#32
  let v14 : BitVec 32 := Scalar.muli arg11 c8_i32
  let v15 : BitVec 32 := Scalar.addi v13 v14
  let c98304_i32_r2 : BitVec 32 := 98304#32
  ![v15.toNat, 98304]
@[reducible] def k0_t13_loop : Scf.Loop 32 :=
  let c0_i32_37 : BitVec 32 := 0#32
  let c106_i32 : BitVec 32 := 106#32
  let v43 : BitVec 32 := Scalar.addi c0_i32_37 c106_i32
  let c1_i32_38 : BitVec 32 := 1#32
  ⟨c0_i32_37, v43, c1_i32_38⟩
def k0_off13 (k0_t13 : Fin k0_t13_loop.trips) : Fin 2 → Nat :=
  let c0_i32_68 : BitVec 32 := 0#32
  let v60 : Index := Scalar.indexCast c0_i32_68
  let c0_i32_37 : BitVec 32 := 0#32
  let c1_i32_38 : BitVec 32 := 1#32
  let arg12 : BitVec 32 := Scf.iv c0_i32_37 c1_i32_38 k0_t13
  let c16_i32 : BitVec 32 := 16#32
  let v59 : BitVec 32 := Scalar.muli arg12 c16_i32
  let v61 : Index := Scalar.indexCast v59
  ![0, v61.toNat]

def k0_chk9 (v4 : IVec S16 32) (v78 : IVec S16 32) : Prop :=
  (∀ a x, ((![v4, v78] : Fin 2 → IVec S16 32) a x).toNat < S8x1024.size a) ∧
  (∀ a x, ((![v4, v78] : Fin 2 → IVec S16 32) a x).toNat < S8x1024.size a)
theorem k0_idx17_inb : ∀ (v4 : IVec S16 32) (v78 : IVec S16 32) (k0_hw9 : k0_chk9 v4 v78), ∀ a x, ((![v4, v78] : Fin 2 → IVec S16 32) a x).toNat < S8x1024.size a := fun v4 v78 k0_hw9 => k0_hw9.1
theorem k0_idx18_inb : ∀ (v4 : IVec S16 32) (v78 : IVec S16 32) (k0_hw9 : k0_chk9 v4 v78), ∀ a x, ((![v4, v78] : Fin 2 → IVec S16 32) a x).toNat < S8x1024.size a := fun v4 v78 k0_hw9 => k0_hw9.2
@[reducible] def k0_t14_loop : Scf.Loop 32 :=
  let c0_i32_40 : BitVec 32 := 0#32
  let c106_i32_41 : BitVec 32 := 106#32
  let v45 : BitVec 32 := Scalar.addi c0_i32_40 c106_i32_41
  let c1_i32_42 : BitVec 32 := 1#32
  ⟨c0_i32_40, v45, c1_i32_42⟩
def k0_off14 (k0_t14 : Fin k0_t14_loop.trips) : Fin 2 → Nat :=
  let c1_i32_68 : BitVec 32 := 1#32
  let v60 : Index := Scalar.indexCast c1_i32_68
  let c0_i32_40 : BitVec 32 := 0#32
  let c1_i32_42 : BitVec 32 := 1#32
  let arg12 : BitVec 32 := Scf.iv c0_i32_40 c1_i32_42 k0_t14
  let c16_i32 : BitVec 32 := 16#32
  let v59 : BitVec 32 := Scalar.muli arg12 c16_i32
  let v61 : Index := Scalar.indexCast v59
  ![1, v61.toNat]

def k0_chk10 (v5 : IVec S16 32) (v78 : IVec S16 32) : Prop :=
  (∀ a x, ((![v5, v78] : Fin 2 → IVec S16 32) a x).toNat < S8x1024.size a) ∧
  (∀ a x, ((![v5, v78] : Fin 2 → IVec S16 32) a x).toNat < S8x1024.size a)
theorem k0_idx19_inb : ∀ (v5 : IVec S16 32) (v78 : IVec S16 32) (k0_hw10 : k0_chk10 v5 v78), ∀ a x, ((![v5, v78] : Fin 2 → IVec S16 32) a x).toNat < S8x1024.size a := fun v5 v78 k0_hw10 => k0_hw10.1
theorem k0_idx20_inb : ∀ (v5 : IVec S16 32) (v78 : IVec S16 32) (k0_hw10 : k0_chk10 v5 v78), ∀ a x, ((![v5, v78] : Fin 2 → IVec S16 32) a x).toNat < S8x1024.size a := fun v5 v78 k0_hw10 => k0_hw10.2
@[reducible] def k0_t15_loop : Scf.Loop 32 :=
  let c0_i32_44 : BitVec 32 := 0#32
  let c106_i32_45 : BitVec 32 := 106#32
  let v47 : BitVec 32 := Scalar.addi c0_i32_44 c106_i32_45
  let c1_i32_46 : BitVec 32 := 1#32
  ⟨c0_i32_44, v47, c1_i32_46⟩
def k0_off15 (k0_t15 : Fin k0_t15_loop.trips) : Fin 2 → Nat :=
  let c2_i32_68 : BitVec 32 := 2#32
  let v60 : Index := Scalar.indexCast c2_i32_68
  let c0_i32_44 : BitVec 32 := 0#32
  let c1_i32_46 : BitVec 32 := 1#32
  let arg12 : BitVec 32 := Scf.iv c0_i32_44 c1_i32_46 k0_t15
  let c16_i32 : BitVec 32 := 16#32
  let v59 : BitVec 32 := Scalar.muli arg12 c16_i32
  let v61 : Index := Scalar.indexCast v59
  ![2, v61.toNat]

def k0_chk11 (v6 : IVec S16 32) (v78 : IVec S16 32) : Prop :=
  (∀ a x, ((![v6, v78] : Fin 2 → IVec S16 32) a x).toNat < S8x1024.size a) ∧
  (∀ a x, ((![v6, v78] : Fin 2 → IVec S16 32) a x).toNat < S8x1024.size a)
theorem k0_idx21_inb : ∀ (v6 : IVec S16 32) (v78 : IVec S16 32) (k0_hw11 : k0_chk11 v6 v78), ∀ a x, ((![v6, v78] : Fin 2 → IVec S16 32) a x).toNat < S8x1024.size a := fun v6 v78 k0_hw11 => k0_hw11.1
theorem k0_idx22_inb : ∀ (v6 : IVec S16 32) (v78 : IVec S16 32) (k0_hw11 : k0_chk11 v6 v78), ∀ a x, ((![v6, v78] : Fin 2 → IVec S16 32) a x).toNat < S8x1024.size a := fun v6 v78 k0_hw11 => k0_hw11.2
@[reducible] def k0_t16_loop : Scf.Loop 32 :=
  let c0_i32_48 : BitVec 32 := 0#32
  let c106_i32_49 : BitVec 32 := 106#32
  let v49 : BitVec 32 := Scalar.addi c0_i32_48 c106_i32_49
  let c1_i32_50 : BitVec 32 := 1#32
  ⟨c0_i32_48, v49, c1_i32_50⟩
def k0_off16 (k0_t16 : Fin k0_t16_loop.trips) : Fin 2 → Nat :=
  let c3_i32_68 : BitVec 32 := 3#32
  let v60 : Index := Scalar.indexCast c3_i32_68
  let c0_i32_48 : BitVec 32 := 0#32
  let c1_i32_50 : BitVec 32 := 1#32
  let arg12 : BitVec 32 := Scf.iv c0_i32_48 c1_i32_50 k0_t16
  let c16_i32 : BitVec 32 := 16#32
  let v59 : BitVec 32 := Scalar.muli arg12 c16_i32
  let v61 : Index := Scalar.indexCast v59
  ![3, v61.toNat]

def k0_chk12 (v7 : IVec S16 32) (v78 : IVec S16 32) : Prop :=
  (∀ a x, ((![v7, v78] : Fin 2 → IVec S16 32) a x).toNat < S8x1024.size a) ∧
  (∀ a x, ((![v7, v78] : Fin 2 → IVec S16 32) a x).toNat < S8x1024.size a)
theorem k0_idx23_inb : ∀ (v7 : IVec S16 32) (v78 : IVec S16 32) (k0_hw12 : k0_chk12 v7 v78), ∀ a x, ((![v7, v78] : Fin 2 → IVec S16 32) a x).toNat < S8x1024.size a := fun v7 v78 k0_hw12 => k0_hw12.1
theorem k0_idx24_inb : ∀ (v7 : IVec S16 32) (v78 : IVec S16 32) (k0_hw12 : k0_chk12 v7 v78), ∀ a x, ((![v7, v78] : Fin 2 → IVec S16 32) a x).toNat < S8x1024.size a := fun v7 v78 k0_hw12 => k0_hw12.2
@[reducible] def k0_t17_loop : Scf.Loop 32 :=
  let c0_i32_52 : BitVec 32 := 0#32
  let c106_i32_53 : BitVec 32 := 106#32
  let v51 : BitVec 32 := Scalar.addi c0_i32_52 c106_i32_53
  let c1_i32_54 : BitVec 32 := 1#32
  ⟨c0_i32_52, v51, c1_i32_54⟩
def k0_off17 (k0_t17 : Fin k0_t17_loop.trips) : Fin 2 → Nat :=
  let c4_i32_68 : BitVec 32 := 4#32
  let v60 : Index := Scalar.indexCast c4_i32_68
  let c0_i32_52 : BitVec 32 := 0#32
  let c1_i32_54 : BitVec 32 := 1#32
  let arg12 : BitVec 32 := Scf.iv c0_i32_52 c1_i32_54 k0_t17
  let c16_i32 : BitVec 32 := 16#32
  let v59 : BitVec 32 := Scalar.muli arg12 c16_i32
  let v61 : Index := Scalar.indexCast v59
  ![4, v61.toNat]

def k0_chk13 (v8 : IVec S16 32) (v78 : IVec S16 32) : Prop :=
  (∀ a x, ((![v8, v78] : Fin 2 → IVec S16 32) a x).toNat < S8x1024.size a) ∧
  (∀ a x, ((![v8, v78] : Fin 2 → IVec S16 32) a x).toNat < S8x1024.size a)
theorem k0_idx25_inb : ∀ (v8 : IVec S16 32) (v78 : IVec S16 32) (k0_hw13 : k0_chk13 v8 v78), ∀ a x, ((![v8, v78] : Fin 2 → IVec S16 32) a x).toNat < S8x1024.size a := fun v8 v78 k0_hw13 => k0_hw13.1
theorem k0_idx26_inb : ∀ (v8 : IVec S16 32) (v78 : IVec S16 32) (k0_hw13 : k0_chk13 v8 v78), ∀ a x, ((![v8, v78] : Fin 2 → IVec S16 32) a x).toNat < S8x1024.size a := fun v8 v78 k0_hw13 => k0_hw13.2
@[reducible] def k0_t18_loop : Scf.Loop 32 :=
  let c0_i32_56 : BitVec 32 := 0#32
  let c106_i32_57 : BitVec 32 := 106#32
  let v53 : BitVec 32 := Scalar.addi c0_i32_56 c106_i32_57
  let c1_i32_58 : BitVec 32 := 1#32
  ⟨c0_i32_56, v53, c1_i32_58⟩
def k0_off18 (k0_t18 : Fin k0_t18_loop.trips) : Fin 2 → Nat :=
  let c5_i32_68 : BitVec 32 := 5#32
  let v60 : Index := Scalar.indexCast c5_i32_68
  let c0_i32_56 : BitVec 32 := 0#32
  let c1_i32_58 : BitVec 32 := 1#32
  let arg12 : BitVec 32 := Scf.iv c0_i32_56 c1_i32_58 k0_t18
  let c16_i32 : BitVec 32 := 16#32
  let v59 : BitVec 32 := Scalar.muli arg12 c16_i32
  let v61 : Index := Scalar.indexCast v59
  ![5, v61.toNat]

def k0_chk14 (v9 : IVec S16 32) (v78 : IVec S16 32) : Prop :=
  (∀ a x, ((![v9, v78] : Fin 2 → IVec S16 32) a x).toNat < S8x1024.size a) ∧
  (∀ a x, ((![v9, v78] : Fin 2 → IVec S16 32) a x).toNat < S8x1024.size a)
theorem k0_idx27_inb : ∀ (v9 : IVec S16 32) (v78 : IVec S16 32) (k0_hw14 : k0_chk14 v9 v78), ∀ a x, ((![v9, v78] : Fin 2 → IVec S16 32) a x).toNat < S8x1024.size a := fun v9 v78 k0_hw14 => k0_hw14.1
theorem k0_idx28_inb : ∀ (v9 : IVec S16 32) (v78 : IVec S16 32) (k0_hw14 : k0_chk14 v9 v78), ∀ a x, ((![v9, v78] : Fin 2 → IVec S16 32) a x).toNat < S8x1024.size a := fun v9 v78 k0_hw14 => k0_hw14.2
@[reducible] def k0_t19_loop : Scf.Loop 32 :=
  let c0_i32_60 : BitVec 32 := 0#32
  let c106_i32_61 : BitVec 32 := 106#32
  let v55 : BitVec 32 := Scalar.addi c0_i32_60 c106_i32_61
  let c1_i32_62 : BitVec 32 := 1#32
  ⟨c0_i32_60, v55, c1_i32_62⟩
def k0_off19 (k0_t19 : Fin k0_t19_loop.trips) : Fin 2 → Nat :=
  let c6_i32_68 : BitVec 32 := 6#32
  let v60 : Index := Scalar.indexCast c6_i32_68
  let c0_i32_60 : BitVec 32 := 0#32
  let c1_i32_62 : BitVec 32 := 1#32
  let arg12 : BitVec 32 := Scf.iv c0_i32_60 c1_i32_62 k0_t19
  let c16_i32 : BitVec 32 := 16#32
  let v59 : BitVec 32 := Scalar.muli arg12 c16_i32
  let v61 : Index := Scalar.indexCast v59
  ![6, v61.toNat]

def k0_chk15 (v10 : IVec S16 32) (v78 : IVec S16 32) : Prop :=
  (∀ a x, ((![v10, v78] : Fin 2 → IVec S16 32) a x).toNat < S8x1024.size a) ∧
  (∀ a x, ((![v10, v78] : Fin 2 → IVec S16 32) a x).toNat < S8x1024.size a)
theorem k0_idx29_inb : ∀ (v10 : IVec S16 32) (v78 : IVec S16 32) (k0_hw15 : k0_chk15 v10 v78), ∀ a x, ((![v10, v78] : Fin 2 → IVec S16 32) a x).toNat < S8x1024.size a := fun v10 v78 k0_hw15 => k0_hw15.1
theorem k0_idx30_inb : ∀ (v10 : IVec S16 32) (v78 : IVec S16 32) (k0_hw15 : k0_chk15 v10 v78), ∀ a x, ((![v10, v78] : Fin 2 → IVec S16 32) a x).toNat < S8x1024.size a := fun v10 v78 k0_hw15 => k0_hw15.2
@[reducible] def k0_t20_loop : Scf.Loop 32 :=
  let c0_i32_64 : BitVec 32 := 0#32
  let c106_i32_65 : BitVec 32 := 106#32
  let v57 : BitVec 32 := Scalar.addi c0_i32_64 c106_i32_65
  let c1_i32_66 : BitVec 32 := 1#32
  ⟨c0_i32_64, v57, c1_i32_66⟩
def k0_off20 (k0_t20 : Fin k0_t20_loop.trips) : Fin 2 → Nat :=
  let c7_i32_68 : BitVec 32 := 7#32
  let v60 : Index := Scalar.indexCast c7_i32_68
  let c0_i32_64 : BitVec 32 := 0#32
  let c1_i32_66 : BitVec 32 := 1#32
  let arg12 : BitVec 32 := Scf.iv c0_i32_64 c1_i32_66 k0_t20
  let c16_i32 : BitVec 32 := 16#32
  let v59 : BitVec 32 := Scalar.muli arg12 c16_i32
  let v61 : Index := Scalar.indexCast v59
  ![7, v61.toNat]

def k0_chk16 (v11 : IVec S16 32) (v78 : IVec S16 32) : Prop :=
  (∀ a x, ((![v11, v78] : Fin 2 → IVec S16 32) a x).toNat < S8x1024.size a) ∧
  (∀ a x, ((![v11, v78] : Fin 2 → IVec S16 32) a x).toNat < S8x1024.size a)
theorem k0_idx31_inb : ∀ (v11 : IVec S16 32) (v78 : IVec S16 32) (k0_hw16 : k0_chk16 v11 v78), ∀ a x, ((![v11, v78] : Fin 2 → IVec S16 32) a x).toNat < S8x1024.size a := fun v11 v78 k0_hw16 => k0_hw16.1
theorem k0_idx32_inb : ∀ (v11 : IVec S16 32) (v78 : IVec S16 32) (k0_hw16 : k0_chk16 v11 v78), ∀ a x, ((![v11, v78] : Fin 2 → IVec S16 32) a x).toNat < S8x1024.size a := fun v11 v78 k0_hw16 => k0_hw16.2
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v13 : BitVec 32 := Scalar.muli v1 c32_i32
  let c0_i32_2 : BitVec 32 := 0#32
  let c1_i32_4 : BitVec 32 := 1#32
  let arg11 : BitVec 32 := Scf.iv c0_i32_2 c1_i32_4 k0_t1
  let c8_i32 : BitVec 32 := 8#32
  let v14 : BitVec 32 := Scalar.muli arg11 c8_i32
  let v15 : BitVec 32 := Scalar.addi v13 v14
  let c0_i32_68_r3 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64 : Shape := ⟨2, ![1024, 64]⟩
abbrev S100000x64 : Shape := ⟨2, ![100000, 64]⟩
abbrev S1024x100000 : Shape := ⟨2, ![1024, 100000]⟩
abbrev S1024 : Shape := ⟨1, ![1024]⟩
abbrev S1024x320 : Shape := ⟨2, ![1024, 320]⟩
abbrev S_ : Shape := ⟨0, ![]⟩
abbrev S1024x320x1 : Shape := ⟨3, ![1024, 320, 1]⟩
abbrev S1 : Shape := ⟨1, ![1]⟩
abbrev S1x1x1 : Shape := ⟨3, ![1, 1, 1]⟩
abbrev S1024x320x64 : Shape := ⟨3, ![1024, 320, 64]⟩
abbrev S1024x1x64 : Shape := ⟨3, ![1024, 1, 64]⟩
abbrev S1024x5 : Shape := ⟨2, ![1024, 5]⟩
abbrev S1024x5x1 : Shape := ⟨3, ![1024, 5, 1]⟩
abbrev S1024x5x64 : Shape := ⟨3, ![1024, 5, 64]⟩
abbrev S5120 : Shape := ⟨1, ![5120]⟩

abbrev nBuf : Space → Nat
  | .hbm => 85
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x100000, .f32⟩
  | .hbm, ⟨3, _⟩ => ⟨S1024, .f32⟩
  | .hbm, ⟨4, _⟩ => ⟨S1024x100000, .f32⟩
  | .hbm, ⟨5, _⟩ => ⟨S1024x320, .f32⟩
  | .hbm, ⟨6, _⟩ => ⟨S1024x320, .i32⟩
  | .hbm, ⟨7, _⟩ => ⟨S_, .i32⟩
  | .hbm, ⟨8, _⟩ => ⟨S1024x320, .i32⟩
  | .hbm, ⟨9, _⟩ => ⟨S1024x320, .i1⟩
  | .hbm, ⟨10, _⟩ => ⟨S_, .i32⟩
  | .hbm, ⟨11, _⟩ => ⟨S1024x320, .i32⟩
  | .hbm, ⟨12, _⟩ => ⟨S1024x320, .i32⟩
  | .hbm, ⟨13, _⟩ => ⟨S1024x320, .i32⟩
  | .hbm, ⟨14, _⟩ => ⟨S1024x320x1, .i32⟩
  | .hbm, ⟨15, _⟩ => ⟨S1, .i32⟩
  | .hbm, ⟨16, _⟩ => ⟨S_, .i32⟩
  | .hbm, ⟨17, _⟩ => ⟨S1024x320x1, .i32⟩
  | .hbm, ⟨18, _⟩ => ⟨S1024x320x1, .i1⟩
  | .hbm, ⟨19, _⟩ => ⟨S1x1x1, .i32⟩
  | .hbm, ⟨20, _⟩ => ⟨S1024x320x1, .i32⟩
  | .hbm, ⟨21, _⟩ => ⟨S1024x320x1, .i1⟩
  | .hbm, ⟨22, _⟩ => ⟨S1024x320x1, .i1⟩
  | .hbm, ⟨23, _⟩ => ⟨S_, .i1⟩
  | .hbm, ⟨24, _⟩ => ⟨S1024x320, .i1⟩
  | .hbm, ⟨25, _⟩ => ⟨S1024x320x64, .f32⟩
  | .hbm, ⟨26, _⟩ => ⟨S1024x320x64, .i1⟩
  | .hbm, ⟨27, _⟩ => ⟨S_, .f32⟩
  | .hbm, ⟨28, _⟩ => ⟨S1024x320x64, .f32⟩
  | .hbm, ⟨29, _⟩ => ⟨S1024x320x64, .f32⟩
  | .hbm, ⟨30, _⟩ => ⟨S1024x1x64, .f32⟩
  | .hbm, ⟨31, _⟩ => ⟨S1024x320x64, .f32⟩
  | .hbm, ⟨32, _⟩ => ⟨S1024x320x64, .f32⟩
  | .hbm, ⟨33, _⟩ => ⟨S1024x320x64, .f32⟩
  | .hbm, ⟨34, _⟩ => ⟨S_, .f32⟩
  | .hbm, ⟨35, _⟩ => ⟨S1024x320, .f32⟩
  | .hbm, ⟨36, _⟩ => ⟨S1024x320, .f32⟩
  | .hbm, ⟨37, _⟩ => ⟨S1024x5, .f32⟩
  | .hbm, ⟨38, _⟩ => ⟨S1024x5, .i32⟩
  | .hbm, ⟨39, _⟩ => ⟨S_, .i32⟩
  | .hbm, ⟨40, _⟩ => ⟨S1024x5, .i32⟩
  | .hbm, ⟨41, _⟩ => ⟨S1024x5, .i1⟩
  | .hbm, ⟨42, _⟩ => ⟨S_, .i32⟩
  | .hbm, ⟨43, _⟩ => ⟨S1024x5, .i32⟩
  | .hbm, ⟨44, _⟩ => ⟨S1024x5, .i32⟩
  | .hbm, ⟨45, _⟩ => ⟨S1024x5, .i32⟩
  | .hbm, ⟨46, _⟩ => ⟨S1024x5x1, .i32⟩
  | .hbm, ⟨47, _⟩ => ⟨S1, .i32⟩
  | .hbm, ⟨48, _⟩ => ⟨S_, .i32⟩
  | .hbm, ⟨49, _⟩ => ⟨S1024x5x1, .i32⟩
  | .hbm, ⟨50, _⟩ => ⟨S1024x5x1, .i1⟩
  | .hbm, ⟨51, _⟩ => ⟨S1x1x1, .i32⟩
  | .hbm, ⟨52, _⟩ => ⟨S1024x5x1, .i32⟩
  | .hbm, ⟨53, _⟩ => ⟨S1024x5x1, .i1⟩
  | .hbm, ⟨54, _⟩ => ⟨S1024x5x1, .i1⟩
  | .hbm, ⟨55, _⟩ => ⟨S_, .i1⟩
  | .hbm, ⟨56, _⟩ => ⟨S1024x5, .i1⟩
  | .hbm, ⟨57, _⟩ => ⟨S1024x5, .i32⟩
  | .hbm, ⟨58, _⟩ => ⟨S_, .i32⟩
  | .hbm, ⟨59, _⟩ => ⟨S1024x5, .i32⟩
  | .hbm, ⟨60, _⟩ => ⟨S1024x5, .i32⟩
  | .hbm, ⟨61, _⟩ => ⟨S1024x5x1, .i32⟩
  | .hbm, ⟨62, _⟩ => ⟨S_, .i32⟩
  | .hbm, ⟨63, _⟩ => ⟨S1024x5x1, .i32⟩
  | .hbm, ⟨64, _⟩ => ⟨S1024x5x1, .i1⟩
  | .hbm, ⟨65, _⟩ => ⟨S_, .i32⟩
  | .hbm, ⟨66, _⟩ => ⟨S1024x5x1, .i32⟩
  | .hbm, ⟨67, _⟩ => ⟨S1024x5x1, .i32⟩
  | .hbm, ⟨68, _⟩ => ⟨S1024x5x1, .i32⟩
  | .hbm, ⟨69, _⟩ => ⟨S1, .i32⟩
  | .hbm, ⟨70, _⟩ => ⟨S_, .i32⟩
  | .hbm, ⟨71, _⟩ => ⟨S1024x5x1, .i32⟩
  | .hbm, ⟨72, _⟩ => ⟨S1024x5x1, .i1⟩
  | .hbm, ⟨73, _⟩ => ⟨S1x1x1, .i32⟩
  | .hbm, ⟨74, _⟩ => ⟨S1024x5x1, .i32⟩
  | .hbm, ⟨75, _⟩ => ⟨S1024x5x1, .i1⟩
  | .hbm, ⟨76, _⟩ => ⟨S1024x5x1, .i1⟩
  | .hbm, ⟨77, _⟩ => ⟨S_, .i1⟩
  | .hbm, ⟨78, _⟩ => ⟨S1024x5, .i1⟩
  | .hbm, ⟨79, _⟩ => ⟨S1024x5x64, .f32⟩
  | .hbm, ⟨80, _⟩ => ⟨S1024x5x64, .i1⟩
  | .hbm, ⟨81, _⟩ => ⟨S_, .f32⟩
  | .hbm, ⟨82, _⟩ => ⟨S1024x5x64, .f32⟩
  | .hbm, ⟨83, _⟩ => ⟨S1024x5x64, .f32⟩
  | .hbm, ⟨84, _⟩ => ⟨S5120, .i32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_values_0 : Ref sig .tc := ⟨.hbm, 37, rfl⟩
abbrev main_indices_1 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_c_4 : Ref sig .tc := ⟨.hbm, 58, rfl⟩
abbrev main_call1_v14 : Ref sig .tc := ⟨.hbm, 59, rfl⟩
abbrev main_v8 : Ref sig .tc := ⟨.hbm, 60, rfl⟩
abbrev main_v9 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_c_2 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_c_3 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v10 : Ref sig .tc := ⟨.hbm, 83, rfl⟩
abbrev main_v11 : Ref sig .tc := ⟨.hbm, 84, rfl⟩

abbrev nD : Nat := 1
abbrev τ : Topo := Topo.v7x

variable {F : FTy → Type} [FloatOps F]
-- ==== Distances.lean ====
abbrev S1024x64 : Shape := ⟨2, ![1024, 64]⟩
abbrev S100000x64 : Shape := ⟨2, ![100000, 64]⟩
abbrev S_ : Shape := ⟨0, ![]⟩
abbrev S1024 : Shape := ⟨1, ![1024]⟩
abbrev S1024x1 : Shape := ⟨2, ![1024, 1]⟩
abbrev S100000 : Shape := ⟨1, ![100000]⟩
abbrev S64 : Shape := ⟨1, ![64]⟩
abbrev S64x100000 : Shape := ⟨2, ![64, 100000]⟩
abbrev S64x64 : Shape := ⟨2, ![64, 64]⟩
abbrev S100352 : Shape := ⟨1, ![100352]⟩
abbrev S1x100352 : Shape := ⟨2, ![1, 100352]⟩
abbrev S1024x100000 : Shape := ⟨2, ![1024, 100000]⟩
abbrev S1024x8 : Shape := ⟨2, ![1024, 8]⟩
abbrev S1x2048 : Shape := ⟨2, ![1, 2048]⟩
abbrev S2048x64 : Shape := ⟨2, ![2048, 64]⟩
abbrev S1024x2048 : Shape := ⟨2, ![1024, 2048]⟩

abbrev nBuf : Space → Nat
  | .hbm => 76
  | .vmem => 10
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x64, .f32⟩
  | .hbm, ⟨7, _⟩ => ⟨S_, .f32⟩
  | .hbm, ⟨8, _⟩ => ⟨S100000, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64x100000, .f32⟩
  | .hbm, ⟨28, _⟩ => ⟨S64x64, .f32⟩
  | .hbm, ⟨29, _⟩ => ⟨S1024, .f32⟩
  | .hbm, ⟨30, _⟩ => ⟨S1024x64, .f32⟩
  | .hbm, ⟨31, _⟩ => ⟨S1024x64, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S_, .f32⟩
  | .hbm, ⟨71, _⟩ => ⟨S100352, .f32⟩
  | .hbm, ⟨72, _⟩ => ⟨S1x100352, .f32⟩
  | .hbm, ⟨73, _⟩ => ⟨S1024x1, .f32⟩
  | .hbm, ⟨74, _⟩ => ⟨S1024x100000, .f32⟩
  | .hbm, ⟨75, _⟩ => ⟨S1024x8, .i32⟩
  | .local _ .vmem, ⟨0, _⟩ => ⟨S1024x1, .f32⟩
  | .local _ .vmem, ⟨1, _⟩ => ⟨S1x2048, .f32⟩
  | .local _ .vmem, ⟨2, _⟩ => ⟨S1x2048, .f32⟩
  | .local _ .vmem, ⟨3, _⟩ => ⟨S1024x1, .f32⟩
  | .local _ .vmem, ⟨4, _⟩ => ⟨S1024x64, .f32⟩
  | .local _ .vmem, ⟨5, _⟩ => ⟨S2048x64, .f32⟩
  | .local _ .vmem, ⟨6, _⟩ => ⟨S2048x64, .f32⟩
  | .local _ .vmem, ⟨7, _⟩ => ⟨S1024x2048, .f32⟩
  | .local _ .vmem, ⟨8, _⟩ => ⟨S1024x2048, .f32⟩
  | .local _ .vmem, ⟨9, _⟩ => ⟨S1024x8, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_cst_7 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_14 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_15 : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54_0 : Ref sig .tc := ⟨.hbm, 74, rfl⟩
abbrev main_v54_1 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_28 : BitVec 32 := 0#32
  let v75 : BitVec 1 := Scalar.cmpi .ne v74 c0_i32_28
  v75

def k0_cond2 (i : grid0.Coords) : BitVec 1 :=
  let arg0 : BitVec 32 := BitVec.ofNat 32 (i 0).val
  let c0_i32_29 : BitVec 32 := 0#32
  let v76 : BitVec 1 := Scalar.cmpi .sgt arg0 c0_i32_29
  let v77 : BitVec 32 := Scalar.extui v76
  let c0_i32_30 : BitVec 32 := 0#32
  let v78 : BitVec 1 := Scalar.cmpi .ne v77 c0_i32_30
  v78

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x8 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDistancesIdeal.lean ====
abbrev S1024x64 : Shape := ⟨2, ![1024, 64]⟩
abbrev S100000x64 : Shape := ⟨2, ![100000, 64]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S64x100000 : Shape := ⟨2, ![64, 100000]⟩

abbrev nBuf : Space → Nat
  | .hbm => 19
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x64, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S1024x100000, .f32⟩
  | .hbm, ⟨11, _⟩ => ⟨S1024x100000, .f32⟩
  | .hbm, ⟨12, _⟩ => ⟨S1024x100000, .f32⟩
  | .hbm, ⟨13, _⟩ => ⟨S64x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Rows.lean ====
/-
  The compacted rows, as plain mathematics: what the two tables of eight rows of 1024 hold after the first columns of
  each row have been looked at. A row's column is SELECTED when its mask is set; the selected columns go, in order, to
  the leading positions of the row. `Rows` says so; one lane's masked write at the running count keeps it
  (`Rows.one`), and so does a vector of sixteen lanes (`Rows.store`), whose positions are the running count plus the
  prefix count of the lanes, clamped into the row (`lanePos`).
-/
module

public import proofs.«01_k».proof.KernelIdeal
public import Mathlib.Data.Nat.Count

@[expose] public section

noncomputable section

namespace Cert.Proof.Rows

open Idealize.ShloMosaic Idealize.SL.Sem Cert.KernelIdeal

/-- Position `p` of row `r` of a table of eight rows. -/
def ix (r : Fin 8) (p : Fin 1024) : S8x1024.Idx := fun | ⟨0, _⟩ => r | ⟨1, _⟩ => p

theorem ix_surj (j : S8x1024.Idx) : ∃ r p, j = ix r p :=
  ⟨j 0, j 1, funext fun a => match a with | ⟨0, _⟩ => rfl | ⟨1, _⟩ => rfl⟩

theorem ix_inj {r r' : Fin 8} {p p' : Fin 1024} (e : ix r p = ix r' p') : r = r' ∧ p = p' :=
  ⟨show ix r p (0 : Fin 2) = ix r' p' (0 : Fin 2) by rw [e], show ix r p (1 : Fin 2) = ix r' p' (1 : Fin 2) by rw [e]⟩

/-- Lane `k` of a vector of sixteen. -/
abbrev lane (k : Fin 16) : S16.Idx := Shape.ofLane (d := ![16]) k

theorem lane_surj (j : S16.Idx) : ∃ k, j = lane k :=
  ⟨j 0, funext fun a => by obtain rfl : a = 0 := Subsingleton.elim _ _; rfl⟩

section

variable {X : Type} (P : Fin 8 → ℕ → Prop) (val : Fin 8 → ℕ → X) (D₀ : X → Prop)

open Classical in
/-- Row `r` of table `g` once `n` columns have been looked at: unless more than 1024 were selected, each selected
    column's value is at the position that counts the selected columns before it, and the positions from the number
    selected on satisfy `D₀`. -/
def Row (r : Fin 8) (n : ℕ) (g : S8x1024.Idx → X) : Prop :=
  Nat.count (P r) n ≤ 1024 →
    (∀ c, c < n → P r c → ∀ p : Fin 1024, p.val = Nat.count (P r) c → g (ix r p) = val r c)
      ∧ ∀ p : Fin 1024, Nat.count (P r) n ≤ p.val → D₀ (g (ix r p))

/-- Every row `r`, after its first `N r` columns. -/
def Rows (N : Fin 8 → ℕ) (g : S8x1024.Idx → X) : Prop := ∀ r, Row P val D₀ r (N r) g

variable {P val D₀}

/-- A table with `D₀` everywhere, before any column. -/
theorem Rows.start {g : S8x1024.Idx → X} (h : ∀ j, D₀ (g j)) : Rows P val D₀ (fun _ => 0) g := by
  intro r _
  exact ⟨fun c hc => absurd hc (Nat.not_lt_zero c), fun _ _ => h _⟩

open Classical in
/-- One lane: column `n` of row `r`, written at `q` when it is selected. -/
theorem Rows.one {N : Fin 8 → ℕ} {g : S8x1024.Idx → X} (h : Rows P val D₀ N g) (r : Fin 8) {n : ℕ} (hn : N r = n) {v : X} {q : Fin 1024}
    (hq : P r n → Nat.count (P r) n < 1024 → q.val = Nat.count (P r) n) (hv : P r n → v = val r n) :
    Rows P val D₀ (Function.update N r (n + 1)) (if P r n then fun j => if j = ix r q then v else g j else g) := by
  intro r'
  by_cases hr : r' = r
  · subst hr
    rw [Function.update_self]
    intro hc
    have hc' : Nat.count (P r') n ≤ 1024 := (Nat.count_monotone _ (Nat.le_succ n)).trans hc
    have h' := h r'; rw [hn] at h'; obtain ⟨h1, h2⟩ := h' hc'
    by_cases hP : P r' n
    · rw [if_pos hP]
      rw [Nat.count_succ, if_pos hP] at hc ⊢
      have hq' := hq hP (by omega)
      have hne : ∀ p : Fin 1024, p.val ≠ Nat.count (P r') n → ix r' p ≠ ix r' q := fun p hp e =>
        hp (by rw [(ix_inj e).2, hq'])
      refine ⟨fun c hcn hPc p hp => ?_, fun p hp => ?_⟩
      · by_cases hcn' : c = n
        · subst hcn'
          rw [if_pos (by rw [show p = q from Fin.ext (hp.trans hq'.symm)]), hv hP]
        · have hlt : Nat.count (P r') c < Nat.count (P r') n := Nat.count_strict_mono hPc (by omega)
          rw [if_neg (hne p (by omega))]
          exact h1 c (by omega) hPc p hp
      · rw [if_neg (hne p (by omega))]
        exact h2 p (by omega)
    · rw [if_neg hP]
      rw [Nat.count_succ, if_neg hP, Nat.add_zero]
      refine ⟨fun c hcn hPc p hp => h1 c ?_ hPc p hp, h2⟩
      rcases Nat.lt_succ_iff_lt_or_eq.mp hcn with h | h
      · exact h
      · exact absurd (h ▸ hPc) hP
  · rw [Function.update_of_ne hr]
    by_cases hP : P r n
    · rw [if_pos hP]
      have hne : ∀ p : Fin 1024, ix r' p ≠ ix r q := fun p e => hr (ix_inj e).1
      intro hc
      obtain ⟨h1, h2⟩ := h r' hc
      refine ⟨fun c hcn hPc p hp => ?_, fun p hp => ?_⟩
      · exact (if_neg (hne p)).trans (h1 c hcn hPc p hp)
      · exact (congrArg D₀ (if_neg (hne p))).mpr (h2 p hp)
    · rw [if_neg hP]; exact h r'

end

/-! ## A fold over the sixteen lanes -/

theorem foldl_finRange_ind {β : Type} {n : ℕ} (f : β → Fin n → β) (Q : ℕ → β → Prop) (b : β) (h0 : Q 0 b)
    (hs : ∀ (k : Fin n) (g : β), Q k.val g → Q (k.val + 1) (f g k)) : Q n ((List.finRange n).foldl f b) := by
  induction n generalizing Q b with
  | zero => simpa using h0
  | succ n ih =>
    rw [List.finRange_succ, List.foldl_cons, List.foldl_map]
    exact ih (fun g k => f g k.succ) (fun k => Q (k + 1)) (f b 0) (hs 0 b h0) (fun k g hg => hs k.succ g hg)

/-! ## The lanes' positions -/

/-- Whether lane `k`, if there is one, is set. -/
def setAt (msk : IVec S16 1) (k : ℕ) : Prop := ∃ h : k < 16, msk (lane ⟨k, h⟩) = 1#1

open Classical in
/-- The prefix sums of a mask's lanes are its prefix counts. -/
theorem scan_mask (msk : IVec S16 1) (k : Fin 16) :
    scan .sum (extui 32 msk (by decide)) (lane k) = BitVec.ofNat 32 (Nat.count (setAt msk) (k.val + 1)) := by
  have hb : ∀ i : Fin 16, extui 32 msk (by decide) (lane i) = BitVec.ofNat 32 (if setAt msk i.val then 1 else 0) := by
    intro i
    show BitVec.setWidth 32 (msk (lane i)) = _
    by_cases h : msk (lane i) = 1#1
    · rw [if_pos ⟨i.isLt, h⟩, h]; rfl
    · rw [if_neg (fun ⟨_, h'⟩ => h h')]
      have : msk (lane i) = 0#1 := by
        generalize msk (lane i) = b at h
        revert b; decide
      rw [this]; rfl
  have key : ∀ (L : List (Fin 16)) (a : ℕ),
      L.foldl (fun r k => ScanKind.step .sum r (extui 32 msk (by decide) (lane k))) (BitVec.ofNat 32 a)
        = BitVec.ofNat 32 (a + (L.map fun i => if setAt msk i.val then 1 else 0).sum) := by
    intro L
    induction L with
    | nil => intro a; simp
    | cons x L ih =>
      intro a
      rw [List.foldl_cons]
      show List.foldl _ (BitVec.ofNat 32 a + extui 32 msk _ (lane x)) L = _
      rw [hb, ← BitVec.ofNat_add, ih, List.map_cons, List.sum_cons, Nat.add_assoc]
  show List.foldl (fun r k => ScanKind.step .sum r (extui 32 msk (by decide) (lane k))) (extui 32 msk (by decide) (lane 0))
    ((List.finRange 16).filter fun i => decide (0 < i.val ∧ i.val ≤ k.val)) = _
  rw [hb, key]
  congr 1
  have hL : ∀ k : Fin 16, ((List.finRange 16).filter fun i => decide (0 < i.val ∧ i.val ≤ k.val)).map Fin.val = List.range' 1 k.val := by decide
  have hm : ((List.finRange 16).filter fun i => decide (0 < i.val ∧ i.val ≤ k.val)).map (fun i => if setAt msk i.val then 1 else 0)
      = (List.range' 1 k.val).map fun i => if setAt msk i then 1 else 0 := by
    rw [← hL k, List.map_map]; rfl
  rw [hm]
  have hsum : ∀ n : ℕ, (if setAt msk 0 then 1 else 0) + ((List.range' 1 n).map fun i => if setAt msk i then 1 else 0).sum
      = Nat.count (setAt msk) (n + 1) := by
    intro n
    induction n with
    | zero => simp [Nat.count_succ]
    | succ n ih =>
      rw [List.range'_concat, List.map_append, List.sum_append, ← Nat.add_assoc, ih, Nat.count_succ _ (n + 1)]
      simp [Nat.add_comm]
  exact hsum k.val

/-- The lanes' positions: the running count plus the prefix count less one, clamped into the row. -/
def lanePos (cur : IVec S16 32) (msk : IVec S16 1) : IVec S16 32 :=
  maxsi (minsi (subi (addi cur (scan .sum (extui 32 msk (by decide)))) (broadcast S16 1#32)) (broadcast S16 1023#32)) (broadcast S16 0#32)

theorem clamp_lt (x : BitVec 32) : (IntOp.maxsi (IntOp.minsi x 1023#32) 0#32).toNat < 1024 := by
  have hlt : ∀ a b : BitVec 32, a.slt b = true ↔ a.toInt < b.toInt := fun a b => by rw [BitVec.slt, decide_eq_true_eq]
  have key : ∀ y : BitVec 32, y.toInt < 1024 → (if (0#32).slt y then y else 0#32).toNat < 1024 := by
    intro y hy
    by_cases h : (0#32).slt y = true
    · rw [if_pos h]
      rw [hlt] at h
      have h0 : (0#32).toInt = 0 := rfl
      rw [h0] at h
      have := BitVec.toInt_eq_toNat_cond y
      have := y.isLt
      split_ifs at * <;> omega
    · rw [if_neg h]; decide
  unfold IntOp.maxsi IntOp.minsi
  apply key
  by_cases h : x.slt 1023#32 = true
  · rw [if_pos h]; rw [hlt] at h
    have h0 : (1023#32).toInt = 1023 := rfl
    omega
  · rw [if_neg h]; decide

theorem lanePos_lt (cur : IVec S16 32) (msk : IVec S16 1) (x : S16.Idx) : (lanePos cur msk x).toNat < 1024 := clamp_lt _

theorem clamp_eq (n : ℕ) (h : n < 1024) : (IntOp.maxsi (IntOp.minsi (BitVec.ofNat 32 (n + 1) - 1#32) 1023#32) 0#32).toNat = n := by
  have e : BitVec.ofNat 32 (n + 1) - 1#32 = BitVec.ofNat 32 n := by
    rw [BitVec.ofNat_add]; exact BitVec.add_sub_cancel _ _
  rw [e]
  have h32 : (BitVec.ofNat 32 n).toNat = n := by rw [BitVec.toNat_ofNat]; exact Nat.mod_eq_of_lt (by omega)
  have hi : (BitVec.ofNat 32 n).toInt = n := by rw [BitVec.toInt_eq_toNat_of_lt (by omega), h32]
  have hm : (if (BitVec.ofNat 32 n).slt 1023#32 then BitVec.ofNat 32 n else 1023#32) = BitVec.ofNat 32 n := by
    by_cases hc : n < 1023
    · rw [if_pos]
      rw [BitVec.slt, hi, decide_eq_true_eq]; show (n : ℤ) < 1023; omega
    · have : n = 1023 := by omega
      subst this; rfl
  unfold IntOp.maxsi IntOp.minsi
  rw [hm]
  by_cases h0 : 0 < n
  · rw [if_pos, h32]
    rw [BitVec.slt, hi, decide_eq_true_eq]; show (0 : ℤ) < n; omega
  · obtain rfl : n = 0 := by omega
    rfl

open Classical in
/-- A set lane's position, when the running count is that of the columns before the vector: the count of the columns
    before its own. -/
theorem lanePos_eq {P : ℕ → Prop} {n : ℕ} {cur : IVec S16 32} {msk : IVec S16 1} (hcur : ∀ x, cur x = BitVec.ofNat 32 (Nat.count P n))
    (hm : ∀ k : Fin 16, msk (lane k) = 1#1 ↔ P (n + k.val)) (k : Fin 16) (hk : P (n + k.val)) (hlt : Nat.count P (n + k.val) < 1024) :
    (lanePos cur msk (lane k)).toNat = Nat.count P (n + k.val) := by
  show (IntOp.maxsi (IntOp.minsi (cur (lane k) + scan .sum (extui 32 msk (by decide)) (lane k) - 1#32) 1023#32) 0#32).toNat = _
  rw [hcur, scan_mask, ← BitVec.ofNat_add]
  have hc : Nat.count (setAt msk) (k.val + 1) = Nat.count (fun i => P (n + i)) (k.val + 1) := by
    have : ∀ j, j ≤ 16 → Nat.count (setAt msk) j = Nat.count (fun i => P (n + i)) j := by
      intro j
      induction j with
      | zero => intro _; simp
      | succ j ih =>
        intro hj
        rw [Nat.count_succ, Nat.count_succ, ih (by omega)]
        have : setAt msk j ↔ P (n + j) := ⟨fun ⟨h, e⟩ => (hm ⟨j, h⟩).mp e, fun e => ⟨by omega, (hm ⟨j, by omega⟩).mpr e⟩⟩
        simp only [this]
    exact this _ (by omega)
  rw [hc, ← Nat.count_add, show n + (k.val + 1) = (n + k.val) + 1 from rfl, Nat.count_succ, if_pos hk]
  exact clamp_eq _ hlt

open Classical in
/-- The last lane's prefix count added to the running count: the count of the columns up to the vector's end. -/
theorem cur_next {P : ℕ → Prop} {n : ℕ} {msk : IVec S16 1} (hm : ∀ k : Fin 16, msk (lane k) = 1#1 ↔ P (n + k.val)) :
    BitVec.ofNat 32 (Nat.count P n) + scan .sum (extui 32 msk (by decide)) (lane 15) = BitVec.ofNat 32 (Nat.count P (n + 16)) := by
  rw [scan_mask, ← BitVec.ofNat_add, Nat.count_add P n 16]
  congr 2
  show Nat.count (setAt msk) 16 = _
  have : ∀ j, j ≤ 16 → Nat.count (setAt msk) j = Nat.count (fun i => P (n + i)) j := by
    intro j
    induction j with
    | zero => intro _; simp
    | succ j ih =>
      intro hj
      rw [Nat.count_succ, Nat.count_succ, ih (by omega)]
      have : setAt msk j ↔ P (n + j) := ⟨fun ⟨h, e⟩ => (hm ⟨j, h⟩).mp e, fun e => ⟨by omega, (hm ⟨j, by omega⟩).mpr e⟩⟩
      simp only [this]
  exact this 16 le_rfl

/-! ## A vector's masked scatter -/

variable {F : FTy → Type} [FloatOps F]

/-- A masked scatter of sixteen lanes into row `r` at the lanes' positions keeps `Rows`. -/
theorem Rows.store {e : EltTy} {P : Fin 8 → ℕ → Prop} {val : Fin 8 → ℕ → Elt F e} {D₀ : Elt F e → Prop} {N : Fin 8 → ℕ}
    {g : Vec F S8x1024 e} (h : Rows P val D₀ N g) (r : Fin 8) {n : ℕ} (hn : N r = n) {rs cur : IVec S16 32} {msk : IVec S16 1} {v : Vec F S16 e}
    (hrs : ∀ x, (rs x).toNat = r.val) (hcur : ∀ x, cur x = BitVec.ofNat 32 (@Nat.count (P r) (Classical.decPred _) n))
    (hm : ∀ k : Fin 16, msk (lane k) = 1#1 ↔ P r (n + k.val)) (hv : ∀ k : Fin 16, P r (n + k.val) → v (lane k) = val r (n + k.val))
    (hidx : ∀ a x, ((![rs, lanePos cur msk] : Fin 2 → IVec S16 32) a x).toNat < S8x1024.size a) :
    Rows P val D₀ (Function.update N r (n + 16)) (storeIdx (F := F) (s := S8x1024) (d := ![16]) g ![rs, lanePos cur msk] v msk false hidx) := by
  unfold storeIdx
  refine foldl_finRange_ind (n := 16) _ (fun k g => Rows P val D₀ (Function.update N r (n + k)) g) g ?_ ?_
  · rw [Nat.add_zero, ← hn, Function.update_eq_self]; exact h
  · intro k g hg
    have h2 := hg.one r (n := n + k.val) (Function.update_self _ _ _) (v := v (lane k)) (q := ⟨(lanePos cur msk (lane k)).toNat, lanePos_lt _ _ _⟩)
      (fun hP hlt => lanePos_eq hcur hm k hP hlt) (hv k)
    rw [Function.update_idem] at h2
    show Rows P val D₀ (Function.update N r (n + k.val + 1)) _
    refine (congrArg (Rows P val D₀ (Function.update N r (n + k.val + 1))) ?_).mp h2
    by_cases hP : P r (n + k.val)
    · rw [if_pos hP]
      refine Eq.trans ?_ (if_pos (show msk (lane k) = 1 from (hm k).mpr hP)).symm
      funext j
      obtain ⟨r', p, rfl⟩ := ix_surj j
      dsimp only
      congr 1
      apply propext
      constructor
      · intro e a
        have := congrFun e a
        rw [this]
        match a with
        | ⟨0, _⟩ => exact (hrs _).symm
        | ⟨1, _⟩ => rfl
      · intro hall
        funext a
        apply Fin.ext
        rw [hall a]
        match a with
        | ⟨0, _⟩ => exact hrs _
        | ⟨1, _⟩ => rfl
    · rw [if_neg hP]
      exact (if_neg (show ¬ msk (lane k) = 1 from fun e => hP ((hm k).mp e))).symm

end Cert.Proof.Rows

end
-- ==== Proof.Setup.lean ====
/-
  The compaction kernel as the launch theorem sees it: its labels, configuration and definitions, the resource algebra
  its proof runs over, and the names its other modules share — the vector subcore of one grid point, and the scratch
  buffers that subcore works in.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) := embL

instance EH_landsIn : (EH : Emb UH 𝕄).LandsIn (upEmb : UEmb _ 𝕄) := by unfold EH; infer_instance

/-! ## One grid point's subcore and its scratch buffers -/

abbrev cV (L : grid0.Coords) : Fin τ.nSC := (L 0).castLE hcore0
abbrev jV (L : grid0.Coords) : Fin τ.nSub := (L 1).castLE hsub0
/-- The vector subcore that runs grid point `L`. -/
abbrev thr (d : Dev nD) (L : grid0.Coords) : Thread nD τ := V d (cV L) (jV L)

abbrev sT : Memref sig .scVector .vmem S8x16 .f32 := .whole cc0_scratch0
abbrev sA : Memref sig .scVector .vmem S8x4096 .f32 := .whole cc0_scratch1
abbrev sB : Memref sig .scVector .vmem S8x1696 .f32 := .whole cc0_scratch2
abbrev sV : Memref sig .scVector .vmem S8x1024 .f32 := .whole cc0_scratch3
abbrev sI : Memref sig .scVector .vmem S8x1024 .i32 := .whole cc0_scratch4

end Cert.Proof

end
-- ==== Proof.Step.lean ====
/-
  One trip of a row's loop, and the loop. A trip reads sixteen of the row's distances, compares them with the row's
  threshold vector, and scatters the selected distances and their column numbers into the two tables at the running
  count (`trip`); the sixteen loops of the kernel are this one text at different rows, buffers and columns. `wp_rowLoop`
  is the loop: the tables that hold the compacted rows of the first columns (`tabs`) hold those of the loop's columns after it.
-/
module

public import proofs.«01_k».proof.Proof.Setup

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A vector's lanes from a row of sixteen. -/
abbrev lanes (ld : Vec F S1x16 .f32) : Vec F S16 .f32 := shapeCast S16 ld shapeCasts_S1x16_S16

/-- The lanes selected: those at most the threshold's. -/
abbrev mask (T : Vec F S16 .f32) (ld : Vec F S1x16 .f32) : IVec S16 1 := cmpf .ole (lanes ld) T

/-- The running count after the vector. -/
abbrev next (T : Vec F S16 .f32) (cur : IVec S16 32) (ld : Vec F S1x16 .f32) : IVec S16 32 :=
  addi cur (broadcast S16 (extractAt ![15] (scan .sum (extui 32 (mask T ld) natLt_1_32)) inpos_S16_p15))

/-- One trip: sixteen distances read at `off`, the selected ones and their column numbers `iv` scattered into row `rs` of the tables. -/
def trip (L : grid0.Coords) {w : ℕ} (src : Memref sig .scVector .vmem ⟨2, ![8, w]⟩ .f32) (off : Fin 2 → ℕ)
    (inb : ∀ a, off a + S1x16.size a ≤ (⟨2, ![8, w]⟩ : Shape).size a) (T : Vec F S16 .f32) (rs iv : IVec S16 32)
    (Chk : IVec S16 32 → IVec S16 32 → Prop) (dec : ∀ a b, Decidable (Chk a b))
    (h1 h2 : ∀ a b, Chk a b → ∀ z x, ((![a, b] : Fin 2 → IVec S16 32) z x).toNat < S8x1024.size z) (cur : IVec S16 32) :
    Prog (TpuEff nD τ sig (Elt F) Λ₀ (.scVector (cV L) (jV L))) (IVec S16 32) := do
  let ld : Vec F S1x16 .f32 ← Prog.lift (.load src (Rect.unit (s := ⟨2, ![8, w]⟩) off S1x16.size inb).toLoadRect (View.loadsAt_vmem h_S1x16))
  have hw : Chk rs (lanePos cur (mask T ld)) := (← Prog.lift (TpuEff.assume (Chk rs (lanePos cur (mask T ld))) (dec rs (lanePos cur (mask T ld))))).down
  SparseCore.vectorStoreIdx sV ![rs, lanePos cur (mask T ld)] (lanes ld) (mask T ld) false (h1 rs _ hw) (View.stores_vmem_bits_univ h_S8x1024 rfl)
  SparseCore.vectorStoreIdx sI ![rs, lanePos cur (mask T ld)] iv (mask T ld) false (h2 rs _ hw) (View.stores_vmem_bits_univ h_S8x1024 rfl)
  pure (next T cur ld)

/-! ## The tables -/

section

variable (Dv : Fin 8 → ℕ → F .f32) (Tv : Fin 8 → Fin 16 → F .f32)

/-- The fill value: a word with every exponent bit and no other set. -/
def fill : F .f32 := Scalar.ofBits .f32 0x7F800000#32

/-- Column `c` of row `r` is selected: its distance is at most its lane's threshold. -/
def Sel (r : Fin 8) (c : ℕ) : Prop := FloatOps.cmpf (F := F) .ole (Dv r c) (Tv r ⟨c % 16, Nat.mod_lt _ (by decide)⟩) = 1#1

/-- The table of distances, after the first `N r` columns of each row `r`. -/
def VRows (N : Fin 8 → ℕ) (g : Vec F S8x1024 .f32) : Prop := Rows (Sel Dv Tv) Dv (· = fill) N g
/-- The table of column numbers. -/
def IRows (N : Fin 8 → ℕ) (g : Vec F S8x1024 .i32) : Prop := Rows (Sel Dv Tv) (fun _ c => BitVec.ofNat 32 c) (fun _ => True) N g

/-- The running count of row `r` after `n` columns, in every lane. -/
def CurAt (r : Fin 8) (n : ℕ) (cur : IVec S16 32) : Prop :=
  ∀ x, cur x = BitVec.ofNat 32 (@Nat.count (Sel Dv Tv r) (Classical.decPred _) n)

/-- The two tables held, with the compacted rows of the first `N r` columns. -/
def tabs (d : Dev nD) (L : grid0.Coords) (N : Fin 8 → ℕ) : sProp 𝕄 :=
  iprop(∃ g gi, ⌜VRows Dv Tv N g ∧ IRows Dv Tv N gi⌝ ∗ ((thr d L).loc cc0_scratch3 ↦{fullShare} g) ∗ ((thr d L).loc cc0_scratch4 ↦{fullShare} gi))

end

omit [FloatOps F] in
theorem pts_sV (d : Dev nD) (L : grid0.Coords) (f : Buf (Elt F) ((thr d L).loc cc0_scratch3)) :
    ((sV.access (.whole S8x1024)).loc (thr d L) ↦[(sV.access (.whole S8x1024)).set]{fullShare} f : sProp 𝕄) = (thr d L).loc cc0_scratch3 ↦{fullShare} f := by
  rw [show (sV.access (.whole S8x1024)).set = Finset.univ from Memref.set_access_whole (cc0_scratch3 : Ref sig .scVector)]

omit [FloatOps F] in
theorem pts_sI (d : Dev nD) (L : grid0.Coords) (f : Buf (Elt F) ((thr d L).loc cc0_scratch4)) :
    ((sI.access (.whole S8x1024)).loc (thr d L) ↦[(sI.access (.whole S8x1024)).set]{fullShare} f : sProp 𝕄) = (thr d L).loc cc0_scratch4 ↦{fullShare} f := by
  rw [show (sI.access (.whole S8x1024)).set = Finset.univ from Memref.set_access_whole (cc0_scratch4 : Ref sig .scVector)]

theorem pts_sV_store (d : Dev nD) (L : grid0.Coords) (f : Buf (Elt F) ((thr d L).loc cc0_scratch3)) (idxs : Fin 2 → IVec S16 32) (v : Vec F S16 .f32)
    (mk : IVec S16 1) (h : ∀ a x, (idxs a x).toNat < S8x1024.size a) :
    ((sV.access (.whole S8x1024)).loc (thr d L) ↦[(sV.access (.whole S8x1024)).set]{fullShare}
        ((sV.access (.whole S8x1024)).write (Elt F) f (storeIdx ((sV.access (.whole S8x1024)).read (Elt F) f) idxs v mk false h) Finset.univ) : sProp 𝕄)
      = (thr d L).loc cc0_scratch3 ↦{fullShare} (storeIdx (F := F) (s := S8x1024) (e := .f32) (d := ![16]) f idxs v mk false h) := by
  rw [pts_sV]
  refine congrArg (fun g : Buf (Elt F) ((thr d L).loc cc0_scratch3) => ((thr d L).loc cc0_scratch3 ↦{fullShare} g : sProp 𝕄)) ?_
  refine (Memref.write_access_whole_univ (Elt F) (cc0_scratch3 : Ref sig .scVector) f _).trans ?_
  exact congrArg (fun g => storeIdx (F := F) (s := S8x1024) (e := .f32) (d := ![16]) g idxs v mk false h)
    (Memref.read_access_whole (Elt F) (cc0_scratch3 : Ref sig .scVector) f)

theorem pts_sI_store (d : Dev nD) (L : grid0.Coords) (f : Buf (Elt F) ((thr d L).loc cc0_scratch4)) (idxs : Fin 2 → IVec S16 32) (v : IVec S16 32)
    (mk : IVec S16 1) (h : ∀ a x, (idxs a x).toNat < S8x1024.size a) :
    ((sI.access (.whole S8x1024)).loc (thr d L) ↦[(sI.access (.whole S8x1024)).set]{fullShare}
        ((sI.access (.whole S8x1024)).write (Elt F) f (storeIdx (F := F) (e := .i32) ((sI.access (.whole S8x1024)).read (Elt F) f) idxs v mk false h) Finset.univ) : sProp 𝕄)
      = (thr d L).loc cc0_scratch4 ↦{fullShare} (storeIdx (F := F) (s := S8x1024) (e := .i32) (d := ![16]) f idxs v mk false h) := by
  rw [pts_sI]
  refine congrArg (fun g : Buf (Elt F) ((thr d L).loc cc0_scratch4) => ((thr d L).loc cc0_scratch4 ↦{fullShare} g : sProp 𝕄)) ?_
  refine (Memref.write_access_whole_univ (Elt F) (cc0_scratch4 : Ref sig .scVector) f _).trans ?_
  exact congrArg (fun g => storeIdx (F := F) (s := S8x1024) (e := .i32) (d := ![16]) g idxs v mk false h)
    (Memref.read_access_whole (Elt F) (cc0_scratch4 : Ref sig .scVector) f)

variable {Dv : Fin 8 → ℕ → F .f32} {Tv : Fin 8 → Fin 16 → F .f32}

/-- The vector's mask is the selection of its columns. -/
theorem mask_sel {r : Fin 8} {n : ℕ} (hn : n % 16 = 0) {T : Vec F S16 .f32} {ld : Vec F S1x16 .f32}
    (hT : ∀ k, T (lane k) = Tv r k) (hld : ∀ k, lanes ld (lane k) = Dv r (n + k.val)) (k : Fin 16) :
    mask T ld (lane k) = 1#1 ↔ Sel Dv Tv r (n + k.val) := by
  show FloatOps.cmpf .ole (lanes ld (lane k)) (T (lane k)) = 1#1 ↔ _
  rw [hT, hld]
  unfold Sel
  have : (⟨(n + k.val) % 16, Nat.mod_lt _ (by decide)⟩ : Fin 16) = k := Fin.ext (by show (n + k.val) % 16 = k.val; have := k.isLt; omega)
  rw [this]

omit [FloatOps F] in
theorem extract_last (v : IVec S16 32) : extractAt ![15] v inpos_S16_p15 = v (lane 15) :=
  congrArg v (funext fun a => by obtain rfl : a = 0 := Subsingleton.elim _ _; rfl)

omit [FloatOps F] in
theorem add_last (cur v : IVec S16 32) (x : S16.Idx) : addi cur (broadcast S16 (extractAt ![15] v inpos_S16_p15)) x = cur x + v (lane 15) := by
  rw [← extract_last v]; rfl

theorem next_apply (T : Vec F S16 .f32) (cur : IVec S16 32) (ld : Vec F S1x16 .f32) (x : S16.Idx) :
    next T cur ld x = cur x + scan .sum (extui 32 (mask T ld) natLt_1_32) (lane 15) :=
  add_last cur (scan .sum (extui 32 (mask T ld) natLt_1_32)) x

/-- One trip, run: the row's tables and count move on by sixteen columns. -/
theorem wp_trip (d : Dev nD) (L : grid0.Coords) {w : ℕ} {src : Memref sig .scVector .vmem ⟨2, ![8, w]⟩ .f32} {off : Fin 2 → ℕ}
    {inb : ∀ a, off a + S1x16.size a ≤ (⟨2, ![8, w]⟩ : Shape).size a} {T : Vec F S16 .f32} {rs iv : IVec S16 32}
    {Chk : IVec S16 32 → IVec S16 32 → Prop} {dec : ∀ a b, Decidable (Chk a b)}
    {h1 h2 : ∀ a b, Chk a b → ∀ z x, ((![a, b] : Fin 2 → IVec S16 32) z x).toNat < S8x1024.size z} {cur : IVec S16 32}
    {f : Buf (Elt F) (src.view.loc (thr d L))} {N : Fin 8 → ℕ} {r : Fin 8} {n : ℕ} (hn : n % 16 = 0) (hN : N r = n)
    (hChk : ∀ a b, (∀ z x, ((![a, b] : Fin 2 → IVec S16 32) z x).toNat < S8x1024.size z) → Chk a b)
    (hrs : ∀ x, (rs x).toNat = r.val) (hiv : ∀ k, iv (lane k) = BitVec.ofNat 32 (n + k.val)) (hT : ∀ k, T (lane k) = Tv r k)
    (hld : ∀ k, lanes (src.view.readAt (Elt F) (Rect.unit (s := ⟨2, ![8, w]⟩) off S1x16.size inb).toLoadRect f) (lane k) = Dv r (n + k.val))
    (hcur : CurAt Dv Tv r n cur) :
    iprop((src.view.loc (thr d L) ↦{fullShare} f) ∗ tabs Dv Tv d L N)
      ⊢ wp frame (wpE (defs₀ (F := F)) 𝒱₀ (thr d L) none) Set.univ (trip L src off inb T rs iv Chk dec h1 h2 cur)
          fun cur' => iprop(⌜CurAt Dv Tv r (n + 16) cur'⌝ ∗ (src.view.loc (thr d L) ↦{fullShare} f) ∗ tabs Dv Tv d L (Function.update N r (n + 16))) := by
  set ld : Vec F S1x16 .f32 := src.view.readAt (Elt F) (Rect.unit (s := ⟨2, ![8, w]⟩) off S1x16.size inb).toLoadRect f with hldd
  have hm := mask_sel hn hT hld
  have hidx : ∀ z x, ((![rs, lanePos cur (mask T ld)] : Fin 2 → IVec S16 32) z x).toNat < S8x1024.size z := by
    intro z x
    match z with
    | ⟨0, _⟩ => show (rs x).toNat < 8; rw [hrs]; exact r.isLt
    | ⟨1, _⟩ => exact lanePos_lt _ _ _
  have hchk : Chk rs (lanePos cur (mask T ld)) := hChk _ _ hidx
  unfold trip tabs
  simp only [Prog.lift, Prog.bind_op, Prog.bind_ret, Prog.pure_eq_ret]
  iintro ⟨Hs, %g, %gi, %hg, Hg, Hi⟩
  iapply (wp_load 𝒱₀ (thr d L) none Set.univ (m := src) (S := Finset.univ) (Finset.subset_univ _)) $$ Hs; iintro Hs
  rw [wp_assume_of _ _ _ _ hchk]
  ihave Hg' := (Entails.of_eq (pts_sV (F := F) d L _).symm) $$ Hg
  iapply (SparseCore.wp_vectorStoreIdx 𝒱₀ (thr d L) none Set.univ (base := sV)) $$ Hg'; iintro Hg'
  ihave Hg := (Entails.of_eq (pts_sV_store (F := F) d L g ![rs, lanePos cur (mask T ld)] (lanes ld) (mask T ld) hidx)) $$ Hg'
  ihave Hi' := (Entails.of_eq (pts_sI (F := F) d L _).symm) $$ Hi
  iapply (SparseCore.wp_vectorStoreIdx 𝒱₀ (thr d L) none Set.univ (base := sI)) $$ Hi'; iintro Hi'
  ihave Hi := (Entails.of_eq (pts_sI_store (F := F) d L gi ![rs, lanePos cur (mask T ld)] iv (mask T ld) hidx)) $$ Hi'
  rw [wp_ret]
  imodintro
  isplitr
  · ipureintro
    intro x
    rw [next_apply, hcur]
    exact cur_next hm
  isplitl [Hs]; · iexact Hs
  iexists (storeIdx (F := F) (s := S8x1024) (e := .f32) (d := ![16]) g ![rs, lanePos cur (mask T ld)] (lanes ld) (mask T ld) false hidx)
  iexists (storeIdx (F := F) (s := S8x1024) (e := .i32) (d := ![16]) gi ![rs, lanePos cur (mask T ld)] iv (mask T ld) false hidx)
  isplitr
  · ipureintro
    exact ⟨Rows.store (F := F) (e := .f32) (v := lanes ld) (show Rows (Sel Dv Tv) Dv (· = fill) N g from hg.1) r hN hrs hcur hm (fun k _ => hld k) hidx,
      Rows.store (F := F) (e := .i32) (v := iv) (show Rows (Sel Dv Tv) (fun _ c => BitVec.ofNat 32 c) (fun _ => True) N gi from hg.2) r hN hrs hcur hm (fun k _ => hiv k) hidx⟩
  isplitl [Hg]; · iexact Hg
  iexact Hi

end Cert.Proof

end
-- ==== Proof.RowLoop.lean ====
/-
  A row's loop, from its trips; and the words its offsets and column numbers are computed with.
-/
module

public import proofs.«01_k».proof.Proof.Step
public import Idealize.ShloMosaic.Lib.Pipeline.Value

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

omit [FloatOps F] in
/-- A loop's column word: sixteen times its trip. -/
theorem word16 (k : ℕ) (hk : k < 256) : (Scalar.indexCast (Scalar.muli (Scf.iv 0#32 1#32 k) 16#32)).toNat = 16 * k := by
  revert k; decide

/-- Position `(r, c)` of an array of two axes. -/
def at2 {n w : ℕ} (r : Fin n) (c : Fin w) : (⟨2, ![n, w]⟩ : Shape).Idx := fun | ⟨0, _⟩ => r | ⟨1, _⟩ => c

/-- A vector of sixteen read at row `r`, column `o`, of an array of eight rows: lane `l` is column `o + l`. -/
theorem lanes_read (L : grid0.Coords) (d : Dev nD) {w : ℕ} {src : Memref sig .scVector .vmem ⟨2, ![8, w]⟩ .f32} {off : Fin 2 → ℕ}
    {inb : ∀ a, off a + S1x16.size a ≤ (⟨2, ![8, w]⟩ : Shape).size a} {f : Buf (Elt F) (src.view.loc (thr d L))} {r : Fin 8} {o : ℕ}
    (hoff : off = ![r.val, o]) {v : ℕ → F .f32} (hf : ∀ (c : ℕ) (hc : c < w), src.view.read (Elt F) f (at2 r ⟨c, hc⟩) = v c) (l : Fin 16) :
    lanes (src.view.readAt (Elt F) (Rect.unit (s := ⟨2, ![8, w]⟩) off S1x16.size inb).toLoadRect f) (lane l) = v (o + l.val) := by
  subst hoff
  have hin : o + 16 ≤ w := inb 1
  have e : lanes (src.view.readAt (Elt F) (Rect.unit (s := ⟨2, ![8, w]⟩) ![r.val, o] S1x16.size inb).toLoadRect f) (lane l)
      = src.view.readAt (Elt F) (Rect.unit (s := ⟨2, ![8, w]⟩) ![r.val, o] S1x16.size inb).toLoadRect f (at2 (0 : Fin 1) l) :=
    shapeCast_apply _ _ _ _ (by
      rw [Shape.rowMajor_val_two, Shape.rowMajor_val_one]
      show 0 * 16 + l.val = l.val
      omega)
  rw [e, View.readAt_apply, ← hf (o + l.val) (by have := l.isLt; omega)]
  congr 1
  funext a
  apply Fin.ext
  rw [LoadRect.idx_apply]
  match a with
  | ⟨0, _⟩ => show r.val + 1 * 0 = r.val; omega
  | ⟨1, _⟩ => show o + 1 * l.val = o + l.val; omega

variable {Dv : Fin 8 → ℕ → F .f32} {Tv : Fin 8 → Fin 16 → F .f32}

/-- A row's loop: from the tables and the count after `n₀` columns of the row to those after the loop's. -/
theorem wp_rowLoop (d : Dev nD) (L : grid0.Coords) {w : ℕ} {src : Memref sig .scVector .vmem ⟨2, ![8, w]⟩ .f32} {Lp : Scf.Loop 32} {hok : Lp.OK}
    {body : Fin Lp.trips → IVec S16 32 → Prog (TpuEff nD τ sig (Elt F) Λ₀ (.scVector (cV L) (jV L))) (IVec S16 32)}
    {off : Fin Lp.trips → Fin 2 → ℕ} {inb : ∀ k a, off k a + S1x16.size a ≤ (⟨2, ![8, w]⟩ : Shape).size a} {T : Vec F S16 .f32}
    {rs : IVec S16 32} {iv : Fin Lp.trips → IVec S16 32}
    {Chk : IVec S16 32 → IVec S16 32 → Prop} {dec : ∀ a b, Decidable (Chk a b)}
    {h1 h2 : ∀ a b, Chk a b → ∀ z x, ((![a, b] : Fin 2 → IVec S16 32) z x).toNat < S8x1024.size z} {cur : IVec S16 32}
    (hbody : ∀ k cur, body k cur = trip L src (off k) (inb k) T rs (iv k) Chk dec h1 h2 cur)
    (hChk : ∀ a b, (∀ z x, ((![a, b] : Fin 2 → IVec S16 32) z x).toNat < S8x1024.size z) → Chk a b)
    {f : Buf (Elt F) (src.view.loc (thr d L))} {N : Fin 8 → ℕ} (r : Fin 8) {n₀ : ℕ} (hn : n₀ % 16 = 0) (hN : N r = n₀)
    (hoff : ∀ k, off k = ![r.val, 16 * k.val])
    (hrs : ∀ x, (rs x).toNat = r.val) (hiv : ∀ k l, iv k (lane l) = BitVec.ofNat 32 (n₀ + 16 * k.val + l.val)) (hT : ∀ k, T (lane k) = Tv r k)
    (hf : ∀ (c : ℕ) (hc : c < w), src.view.read (Elt F) f (at2 r ⟨c, hc⟩) = Dv r (n₀ + c))
    (hcur : CurAt Dv Tv r n₀ cur) :
    iprop((src.view.loc (thr d L) ↦{fullShare} f) ∗ tabs Dv Tv d L N)
      ⊢ wp frame (wpE (defs₀ (F := F)) 𝒱₀ (thr d L) none) Set.univ (Lp.for hok cur body)
          fun cur' => iprop(⌜CurAt Dv Tv r (n₀ + 16 * Lp.trips) cur'⌝ ∗ (src.view.loc (thr d L) ↦{fullShare} f)
            ∗ tabs Dv Tv d L (Function.update N r (n₀ + 16 * Lp.trips))) := by
  refine BIBase.Entails.trans ?_ (Scf.wp_for frame (wpE (defs₀ (F := F)) 𝒱₀ (thr d L) none) Set.univ Lp.lb Lp.ub Lp.st hok cur body
    (fun k cur' => iprop(⌜CurAt Dv Tv r (n₀ + 16 * k) cur'⌝ ∗ (src.view.loc (thr d L) ↦{fullShare} f) ∗ tabs Dv Tv d L (Function.update N r (n₀ + 16 * k)))) ?_)
  · iintro ⟨Hs, Ht⟩
    isplitl [Hs Ht]
    · isplitr; · ipureintro; exact hcur
      isplitl [Hs]; · iexact Hs
      have e : Function.update N r (n₀ + 16 * 0) = N := by rw [Nat.mul_zero, Nat.add_zero, ← hN, Function.update_eq_self]
      rw [e]; iexact Ht
    · iintro %acc H; iexact H
  · intro k acc
    rw [hbody]
    have e : n₀ + 16 * (k.val + 1) = n₀ + 16 * k.val + 16 := by omega
    have e' : Function.update N r (n₀ + 16 * (k.val + 1)) = Function.update (Function.update N r (n₀ + 16 * k.val)) r (n₀ + 16 * k.val + 16) := by
      rw [Function.update_idem, e]
    rw [e', e]
    iintro ⟨%hc, H⟩
    iapply (wp_trip (Dv := Dv) (Tv := Tv) d L (N := Function.update N r (n₀ + 16 * k.val)) (r := r) (by omega) (Function.update_self _ _ _) hChk hrs (hiv k) hT
      (fun l => (lanes_read L d (hoff k) hf l).trans (congrArg (Dv r) (by omega))) hc)
    iexact H

/-- The column numbers of a vector: the lane numbers plus its first column. -/
abbrev laneNo : IVec S16 32 := iota .scVector S16 32 [0] iota_S16_d0_w32_scVector

omit [FloatOps F] in
theorem laneNo_apply (l : Fin 16) : laneNo (lane l) = BitVec.ofNat 32 l.val := by
  revert l; decide

omit [FloatOps F] in
theorem iv_word (k : ℕ) : Scf.iv 0#32 1#32 k = BitVec.ofNat 32 k := by
  unfold Scf.iv
  rw [BitVec.mul_one, BitVec.zero_add]

omit [FloatOps F] in
/-- The word of row `8 b` of the rows grid point `(c, s)` compacts. -/
theorem row_word (c : Fin 2) (s : Fin 16) (b : Fin 4) :
    (Scalar.addi (Scalar.muli (Scalar.addi (Scalar.muli (BitVec.ofNat 32 s.val) 2#32) (BitVec.ofNat 32 c.val)) 32#32)
      (Scalar.muli (Scf.iv 0#32 1#32 b.val) 8#32)).toNat = 32 * (2 * s.val + c.val) + 8 * b.val := by
  revert c s b; decide

omit [FloatOps F] in
/-- The word of a chunk's first column. -/
theorem chunk_word (k : ℕ) (hk : k < 24) : (Scalar.muli (Scf.iv 0#32 1#32 k) 4096#32).toNat = 4096 * k := by
  revert k; decide

omit [FloatOps F] in
/-- The column numbers of vector `j` of chunk `k`. -/
theorem chunk_cols (k j : ℕ) (l : Fin 16) :
    addi laneNo (broadcast S16 (Scalar.addi (Scalar.muli (Scf.iv 0#32 1#32 k) 4096#32) (Scalar.muli (Scf.iv 0#32 1#32 j) 16#32))) (lane l)
      = BitVec.ofNat 32 (4096 * k + 16 * j + l.val) := by
  show laneNo (lane l) + (Scf.iv 0#32 1#32 k * 4096#32 + Scf.iv 0#32 1#32 j * 16#32) = _
  rw [laneNo_apply, iv_word, iv_word, ← BitVec.ofNat_mul, ← BitVec.ofNat_mul, ← BitVec.ofNat_add, ← BitVec.ofNat_add]
  congr 1; omega

omit [FloatOps F] in
/-- The column numbers of vector `j` of the tail. -/
theorem tail_cols (j : ℕ) (l : Fin 16) :
    addi laneNo (broadcast S16 (Scalar.addi 98304#32 (Scalar.muli (Scf.iv 0#32 1#32 j) 16#32))) (lane l)
      = BitVec.ofNat 32 (98304 + 16 * j + l.val) := by
  show laneNo (lane l) + (98304#32 + Scf.iv 0#32 1#32 j * 16#32) = _
  rw [laneNo_apply, iv_word, ← BitVec.ofNat_mul, ← BitVec.ofNat_add, ← BitVec.ofNat_add]
  congr 1; omega

/-- The first `j` rows have had their first `m` columns looked at, the others their first `n`. -/
def stage (n m j : ℕ) (r : Fin 8) : ℕ := if r.val < j then m else n

omit [FloatOps F] in
theorem stage_next (n m : ℕ) (r : Fin 8) : Function.update (stage n m r.val) r m = stage n m (r.val + 1) := by
  funext r'
  unfold stage
  by_cases h : r' = r
  · subst h; rw [Function.update_self, if_pos (Nat.lt_succ_self _)]
  · have hne : r'.val ≠ r.val := fun e => h (Fin.ext e)
    rw [Function.update_of_ne h]
    by_cases h' : r'.val < r.val
    · rw [if_pos h', if_pos (by omega)]
    · rw [if_neg h', if_neg (by omega)]

omit [FloatOps F] in
theorem stage_zero (n m : ℕ) : stage n m 0 = fun _ => n := by
  funext r; exact if_neg (Nat.not_lt_zero _)

omit [FloatOps F] in
theorem stage_eight (n m : ℕ) : stage n m 8 = fun _ => m := by
  funext r; exact if_pos r.isLt

/-- Row `r`'s loop at the head of a program, the rows before it looked at up to column `n₁` and the others up to `n₀`. -/
theorem wp_rowLoop_bind (d : Dev nD) (L : grid0.Coords) {w : ℕ} {src : Memref sig .scVector .vmem ⟨2, ![8, w]⟩ .f32} {Lp : Scf.Loop 32} {hok : Lp.OK}
    {body : Fin Lp.trips → IVec S16 32 → Prog (TpuEff nD τ sig (Elt F) Λ₀ (.scVector (cV L) (jV L))) (IVec S16 32)}
    {off : Fin Lp.trips → Fin 2 → ℕ} {inb : ∀ k a, off k a + S1x16.size a ≤ (⟨2, ![8, w]⟩ : Shape).size a} {T : Vec F S16 .f32}
    {rs : IVec S16 32} {iv : Fin Lp.trips → IVec S16 32}
    {Chk : IVec S16 32 → IVec S16 32 → Prop} {dec : ∀ a b, Decidable (Chk a b)}
    {h1 h2 : ∀ a b, Chk a b → ∀ z x, ((![a, b] : Fin 2 → IVec S16 32) z x).toNat < S8x1024.size z} {cur : IVec S16 32}
    (hbody : ∀ k cur, body k cur = trip L src (off k) (inb k) T rs (iv k) Chk dec h1 h2 cur)
    (hChk : ∀ a b, (∀ z x, ((![a, b] : Fin 2 → IVec S16 32) z x).toNat < S8x1024.size z) → Chk a b)
    {f : Buf (Elt F) (src.view.loc (thr d L))} (r : Fin 8) {n₀ n₁ : ℕ} (hn : n₀ % 16 = 0) (hn₁ : n₀ + 16 * Lp.trips = n₁)
    (hoff : ∀ k, off k = ![r.val, 16 * k.val])
    (hrs : ∀ x, (rs x).toNat = r.val) (hiv : ∀ k l, iv k (lane l) = BitVec.ofNat 32 (n₀ + 16 * k.val + l.val)) (hT : ∀ k, T (lane k) = Tv r k)
    (hf : ∀ (c : ℕ) (hc : c < w), src.view.read (Elt F) f (at2 r ⟨c, hc⟩) = Dv r (n₀ + c))
    (hcur : CurAt Dv Tv r n₀ cur) {α : Type} {kk : IVec S16 32 → Prog (TpuEff nD τ sig (Elt F) Λ₀ (.scVector (cV L) (jV L))) α} {Q : α → sProp 𝕄} :
    iprop((src.view.loc (thr d L) ↦{fullShare} f) ∗ tabs Dv Tv d L (stage n₀ n₁ r.val))
      ⊢ iprop((∀ cur', iprop(⌜CurAt Dv Tv r n₁ cur'⌝ ∗ (src.view.loc (thr d L) ↦{fullShare} f)
              ∗ tabs Dv Tv d L (stage n₀ n₁ (r.val + 1)))
            -∗ wp frame (wpE (defs₀ (F := F)) 𝒱₀ (thr d L) none) Set.univ (kk cur') Q)
          -∗ wp frame (wpE (defs₀ (F := F)) 𝒱₀ (thr d L) none) Set.univ (Lp.for hok cur body >>= kk) Q) := by
  subst hn₁
  rw [wp_bind, ← stage_next]
  iintro H HK
  iapply (wp_wand_r frame (wpE (defs₀ (F := F)) 𝒱₀ (thr d L) none) Set.univ)
  isplitl [H]
  · iapply (wp_rowLoop d L (hok := hok) (N := stage n₀ (n₀ + 16 * Lp.trips) r.val) hbody hChk r hn (if_neg (Nat.lt_irrefl _)) hoff hrs hiv hT hf hcur); iexact H
  · iexact HK

end Cert.Proof

end
-- ==== Proof.Chunk.lean ====
/-
  One chunk of a band of eight rows: 4096 columns of the eight rows fetched, and the eight rows' loops over them
  (`wp_chunk`). What a band reads is named here too: the distances of its rows (`bandD`) and their threshold vectors (`bandT`).
-/
module

public import proofs.«01_k».proof.Proof.RowLoop

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

abbrev dV : Memref sig .scVector .hbm S1024x100000 .f32 := .whole main_arg2_scv
abbrev tV : Memref sig .scVector .hbm S1024x16 .f32 := .whole main_v3_scv
abbrev cdV : Memref sig .scVector .hbm S1024x1024 .f32 := .whole main_v4_0_scv
abbrev ciV : Memref sig .scVector .hbm S1024x1024 .i32 := .whole main_v4_1_scv

/-- The first row of band `b` of grid point `L`. -/
def row0 (L : grid0.Coords) (b : ℕ) : ℕ := 32 * (2 * (L 1).val + (L 0).val) + 8 * b

theorem row0_le (L : grid0.Coords) {b : ℕ} (hb : b < 4) : row0 L b + 8 ≤ 1024 := by
  have h0 : (L 0).val < 2 := (L 0).isLt
  have h1 : (L 1).val < 16 := (L 1).isLt
  unfold row0; omega

/-- The distance of column `c` of row `r` of the band that starts at row `R`. -/
def bandD (fD : Vec F S1024x100000 .f32) (R : ℕ) (r : Fin 8) (c : ℕ) : F .f32 :=
  if h : R + r.val < 1024 ∧ c < 100000 then fD (at2 ⟨R + r.val, h.1⟩ ⟨c, h.2⟩) else fill

/-- Lane `k` of the threshold vector of row `r` of the band that starts at row `R`. -/
def bandT (fT : Vec F S1024x16 .f32) (R : ℕ) (r : Fin 8) (k : Fin 16) : F .f32 :=
  if h : R + r.val < 1024 then fT (at2 ⟨R + r.val, h⟩ k) else fill

omit [FloatOps F] in
/-- Eight rows of a block of columns of the distances, read through their slice. -/
theorem slice_read [FloatOps F] (fD : Vec F S1024x100000 .f32) {w R o : ℕ} {off : Fin 2 → ℕ} (hoff : off = ![R, o])
    {inb : ∀ a, off a + (![8, w] : Fin 2 → ℕ) a ≤ S1024x100000.size a} {hs} (r : Fin 8) (c : ℕ) (hc : c < w) :
    (dV.slice (Rect.unit (s := S1024x100000) off ![8, w] inb) hs).view.read (Elt F) fD (at2 r ⟨c, hc⟩) = bandD fD R r (o + c) := by
  subst hoff
  have hR : R + 8 ≤ 1024 := inb 0
  have ho : o + w ≤ 100000 := inb 1
  unfold bandD
  rw [dif_pos ⟨by have := r.isLt; omega, by omega⟩]
  refine (View.read_apply _ _).trans ((cast_eq _ _).trans ?_)
  refine congrArg fD (funext fun a => Fin.ext ?_)
  match a with
  | ⟨0, _⟩ => show R + 1 * r.val = R + r.val; omega
  | ⟨1, _⟩ => show o + 1 * c = o + c; omega

variable {Dv : Fin 8 → ℕ → F .f32} {Tv : Fin 8 → Fin 16 → F .f32}

/-- The eight rows' running counts after `n` columns. -/
def Curs (Dv : Fin 8 → ℕ → F .f32) (Tv : Fin 8 → Fin 16 → F .f32) (n : ℕ)
    (a : IVec S16 32 × IVec S16 32 × IVec S16 32 × IVec S16 32 × IVec S16 32 × IVec S16 32 × IVec S16 32 × IVec S16 32) : Prop :=
  CurAt Dv Tv 0 n a.1 ∧ CurAt Dv Tv 1 n a.2.1 ∧ CurAt Dv Tv 2 n a.2.2.1 ∧ CurAt Dv Tv 3 n a.2.2.2.1 ∧ CurAt Dv Tv 4 n a.2.2.2.2.1
    ∧ CurAt Dv Tv 5 n a.2.2.2.2.2.1 ∧ CurAt Dv Tv 6 n a.2.2.2.2.2.2.1 ∧ CurAt Dv Tv 7 n a.2.2.2.2.2.2.2

/-- A grid point's cell of one of its transfer semaphores. -/
abbrev cell (d : Dev nD) (L : grid0.Coords) (s : DmaSems sig S_) : GSem nD τ sig := (thr d L, .dma s.sem)

/-- What one thread owes its launch, with the waits it has made since. -/
def owing (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

theorem off3_eq (L : grid0.Coords) (b : Fin k0_t1_loop.trips) (k : Fin k0_t4_loop.trips) : k0_off3 L b k = ![row0 L b.val, 4096 * k.val] := by
  have h1 := row_word (L 0) (L 1) b
  have h2 := chunk_word k.val k.isLt
  unfold k0_off3 row0
  exact congrArg₂ (fun x y => (![x, y] : Fin 2 → ℕ)) h1 h2

theorem wp_chunk (d : Dev nD) (L : grid0.Coords) (O : CellTallies nD τ sig (HIx 1)) (W : Waits sig (HIx 1)) (b : Fin k0_t1_loop.trips)
    (fD : Vec F S1024x100000 .f32) (q : PosShare TreeShare) (Tv : Fin 8 → Fin 16 → F .f32) (v : Fin 8 → Vec F S16 .f32) (hT : ∀ r k, v r (lane k) = Tv r k)
    (k : Fin k0_t4_loop.trips)
    (a : IVec S16 32 × IVec S16 32 × IVec S16 32 × IVec S16 32 × IVec S16 32 × IVec S16 32 × IVec S16 32 × IVec S16 32)
    (ha : Curs (bandD fD (row0 L b.val)) Tv (4096 * k.val) a) :
    iprop(Transfers.MayWaits (thr d L) (none : HIx 1) O ∗ ((dV.view.loc (thr d L)) ↦{q} fD) ∗ (∃ f, (sA.view.loc (thr d L)) ↦{fullShare} f)
        ∗ semVal (cell d L cc0_scoped1) 0 ∗ tabs (bandD fD (row0 L b.val)) Tv d L (fun _ => 4096 * k.val) ∗ owing d L O W)
      ⊢ wp frame (wpE (defs₀ (F := F)) 𝒱₀ (thr d L) none) Set.univ
          (k0_t4_body L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4 laneNo (k0_pay1 (F := F)) k0_pay2 k0_pay3 k0_pay4 k0_pay5
            (broadcast S16 4#32) (broadcast S16 5#32) (broadcast S16 6#32) (broadcast S16 7#32) b (v 0) (v 1) (v 2) (v 3) (v 4) (v 5) (v 6) (v 7) 0#32 k a)
          fun a' => iprop(⌜Curs (bandD fD (row0 L b.val)) Tv (4096 * (k.val + 1)) a'⌝ ∗ ((dV.view.loc (thr d L)) ↦{q} fD)
            ∗ (∃ f, (sA.view.loc (thr d L)) ↦{fullShare} f)
            ∗ semVal (cell d L cc0_scoped1) 0 ∗ tabs (bandD fD (row0 L b.val)) Tv d L (fun _ => 4096 * (k.val + 1)) ∗ owing d L O W) := by
  obtain ⟨a0, a1, a2, a3, a4, a5, a6, a7⟩ := a
  unfold k0_t4_body owing
  iintro ⟨#Hmw, Hd, ⟨%f, Ha⟩, Hsem, Ht, %W', %hW', HO⟩
  sl_exec (disch := exact View.amount_pos _ _ (show 0 < S8x4096.numel by decide))
  have hf : ∀ (r : Fin 8) (c : ℕ) (hc : c < 4096), sA.view.read (Elt F) (sA.view.write (Elt F) f (wp_chunk.sl.dma0 L b fD k) Finset.univ)
      (at2 r ⟨c, hc⟩) = bandD fD (row0 L b.val) r (4096 * k.val + c) := by
    intro r c hc
    refine (congrFun (View.write_whole_univ (Val := Elt F) (cc0_scratch1 : Ref sig .scVector) f _) _).trans ?_
    unfold wp_chunk.sl.dma0
    exact slice_read fD (off3_eq L b k) r c hc
  have h16 : (4096 * k.val) % 16 = 0 := by omega
  have hn₁ : 4096 * k.val + 16 * 256 = 4096 * (k.val + 1) := by omega
  rw [← stage_zero (4096 * k.val) (4096 * (k.val + 1))]
  iapply (wp_rowLoop_bind (Dv := bandD fD (row0 L b.val)) (Tv := Tv) d L (src := sA) (hok := k0_t5_ok) (off := fun j => k0_off4 j) (inb := k0_off4_inb)
    (T := v 0) (rs := k0_pay2) (iv := fun j => k0_pay45 laneNo k j) (Chk := k0_chk1) (dec := k0_chk1.dec) (h1 := k0_idx1_inb) (h2 := k0_idx2_inb)
    (fun _ _ => rfl) (fun _ _ h => ⟨h, h⟩) 0 h16 hn₁ (fun j => congrArg (fun x => (![0, x] : Fin 2 → ℕ)) (word16 j.val j.isLt)) (fun _ => rfl)
    (fun j l => chunk_cols k.val j.val l) (hT 0) (hf 0) ha.1) $$ [Ha Ht]
  · isplitl [Ha]; · iexact Ha
    iexact Ht
  iintro %c0 ⟨%h0, Ha, Ht⟩
  iapply (wp_rowLoop_bind (Dv := bandD fD (row0 L b.val)) (Tv := Tv) d L (src := sA) (hok := k0_t6_ok) (off := fun j => k0_off5 j) (inb := k0_off5_inb)
    (T := v 1) (rs := k0_pay3) (iv := fun j => k0_pay50 laneNo k j) (Chk := k0_chk2) (dec := k0_chk2.dec) (h1 := k0_idx3_inb) (h2 := k0_idx4_inb)
    (fun _ _ => rfl) (fun _ _ h => ⟨h, h⟩) 1 h16 hn₁ (fun j => congrArg (fun x => (![1, x] : Fin 2 → ℕ)) (word16 j.val j.isLt)) (fun _ => rfl)
    (fun j l => chunk_cols k.val j.val l) (hT 1) (hf 1) ha.2.1) $$ [Ha Ht]
  · isplitl [Ha]; · iexact Ha
    iexact Ht
  iintro %c1 ⟨%h1, Ha, Ht⟩
  iapply (wp_rowLoop_bind (Dv := bandD fD (row0 L b.val)) (Tv := Tv) d L (src := sA) (hok := k0_t7_ok) (off := fun j => k0_off6 j) (inb := k0_off6_inb)
    (T := v 2) (rs := k0_pay4) (iv := fun j => k0_pay55 laneNo k j) (Chk := k0_chk3) (dec := k0_chk3.dec) (h1 := k0_idx5_inb) (h2 := k0_idx6_inb)
    (fun _ _ => rfl) (fun _ _ h => ⟨h, h⟩) 2 h16 hn₁ (fun j => congrArg (fun x => (![2, x] : Fin 2 → ℕ)) (word16 j.val j.isLt)) (fun _ => rfl)
    (fun j l => chunk_cols k.val j.val l) (hT 2) (hf 2) ha.2.2.1) $$ [Ha Ht]
  · isplitl [Ha]; · iexact Ha
    iexact Ht
  iintro %c2 ⟨%h2, Ha, Ht⟩
  iapply (wp_rowLoop_bind (Dv := bandD fD (row0 L b.val)) (Tv := Tv) d L (src := sA) (hok := k0_t8_ok) (off := fun j => k0_off7 j) (inb := k0_off7_inb)
    (T := v 3) (rs := k0_pay5) (iv := fun j => k0_pay60 laneNo k j) (Chk := k0_chk4) (dec := k0_chk4.dec) (h1 := k0_idx7_inb) (h2 := k0_idx8_inb)
    (fun _ _ => rfl) (fun _ _ h => ⟨h, h⟩) 3 h16 hn₁ (fun j => congrArg (fun x => (![3, x] : Fin 2 → ℕ)) (word16 j.val j.isLt)) (fun _ => rfl)
    (fun j l => chunk_cols k.val j.val l) (hT 3) (hf 3) ha.2.2.2.1) $$ [Ha Ht]
  · isplitl [Ha]; · iexact Ha
    iexact Ht
  iintro %c3 ⟨%h3, Ha, Ht⟩
  iapply (wp_rowLoop_bind (Dv := bandD fD (row0 L b.val)) (Tv := Tv) d L (src := sA) (hok := k0_t9_ok) (off := fun j => k0_off8 j) (inb := k0_off8_inb)
    (T := v 4) (rs := (broadcast S16 4#32)) (iv := fun j => k0_pay65 laneNo k j) (Chk := k0_chk5) (dec := k0_chk5.dec) (h1 := k0_idx9_inb) (h2 := k0_idx10_inb)
    (fun _ _ => rfl) (fun _ _ h => ⟨h, h⟩) 4 h16 hn₁ (fun j => congrArg (fun x => (![4, x] : Fin 2 → ℕ)) (word16 j.val j.isLt)) (fun _ => rfl)
    (fun j l => chunk_cols k.val j.val l) (hT 4) (hf 4) ha.2.2.2.2.1) $$ [Ha Ht]
  · isplitl [Ha]; · iexact Ha
    iexact Ht
  iintro %c4 ⟨%h4, Ha, Ht⟩
  iapply (wp_rowLoop_bind (Dv := bandD fD (row0 L b.val)) (Tv := Tv) d L (src := sA) (hok := k0_t10_ok) (off := fun j => k0_off9 j) (inb := k0_off9_inb)
    (T := v 5) (rs := (broadcast S16 5#32)) (iv := fun j => k0_pay70 laneNo k j) (Chk := k0_chk6) (dec := k0_chk6.dec) (h1 := k0_idx11_inb) (h2 := k0_idx12_inb)
    (fun _ _ => rfl) (fun _ _ h => ⟨h, h⟩) 5 h16 hn₁ (fun j => congrArg (fun x => (![5, x] : Fin 2 → ℕ)) (word16 j.val j.isLt)) (fun _ => rfl)
    (fun j l => chunk_cols k.val j.val l) (hT 5) (hf 5) ha.2.2.2.2.2.1) $$ [Ha Ht]
  · isplitl [Ha]; · iexact Ha
    iexact Ht
  iintro %c5 ⟨%h5, Ha, Ht⟩
  iapply (wp_rowLoop_bind (Dv := bandD fD (row0 L b.val)) (Tv := Tv) d L (src := sA) (hok := k0_t11_ok) (off := fun j => k0_off10 j) (inb := k0_off10_inb)
    (T := v 6) (rs := (broadcast S16 6#32)) (iv := fun j => k0_pay75 laneNo k j) (Chk := k0_chk7) (dec := k0_chk7.dec) (h1 := k0_idx13_inb) (h2 := k0_idx14_inb)
    (fun _ _ => rfl) (fun _ _ h => ⟨h, h⟩) 6 h16 hn₁ (fun j => congrArg (fun x => (![6, x] : Fin 2 → ℕ)) (word16 j.val j.isLt)) (fun _ => rfl)
    (fun j l => chunk_cols k.val j.val l) (hT 6) (hf 6) ha.2.2.2.2.2.2.1) $$ [Ha Ht]
  · isplitl [Ha]; · iexact Ha
    iexact Ht
  iintro %c6 ⟨%h6, Ha, Ht⟩
  iapply (wp_rowLoop_bind (Dv := bandD fD (row0 L b.val)) (Tv := Tv) d L (src := sA) (hok := k0_t12_ok) (off := fun j => k0_off11 j) (inb := k0_off11_inb)
    (T := v 7) (rs := (broadcast S16 7#32)) (iv := fun j => k0_pay80 laneNo k j) (Chk := k0_chk8) (dec := k0_chk8.dec) (h1 := k0_idx15_inb) (h2 := k0_idx16_inb)
    (fun _ _ => rfl) (fun _ _ h => ⟨h, h⟩) 7 h16 hn₁ (fun j => congrArg (fun x => (![7, x] : Fin 2 → ℕ)) (word16 j.val j.isLt)) (fun _ => rfl)
    (fun j l => chunk_cols k.val j.val l) (hT 7) (hf 7) ha.2.2.2.2.2.2.2) $$ [Ha Ht]
  · isplitl [Ha]; · iexact Ha
    iexact Ht
  iintro %c7 ⟨%h7, Ha, Ht⟩
  rw [show (stage (4096 * k.val) (4096 * (k.val + 1)) ((7 : Fin 8).val + 1)) = fun _ => 4096 * (k.val + 1) from stage_eight _ _, Prog.pure_eq_ret, wp_ret]
  imodintro
  isplitr; · ipureintro; exact ⟨h0, h1, h2, h3, h4, h5, h6, h7⟩
  isplitl [Hd]; · iexact Hd
  isplitl [Ha]; · iexists _; iexact Ha
  isplitl [Hsem]; · iexact Hsem
  isplitl [Ht]; · iexact Ht
  iexists (insert (SemLoc.dma cc0_scoped1.sem, (default : HIx 1)) W'); isplitr
  · ipureintro; intro p hp
    rcases Finset.mem_insert.mp hp with hp | hp
    · exact .inr (hp ▸ rfl)
    · exact hW' p hp
  · iexact HO

end Cert.Proof

end
-- ==== Proof.Fill.lean ====
/-
  The start of a band: its threshold vectors fetched and read (`wp_part1`), and the table of distances filled (`wp_fill`).
-/
module

public import Idealize.ShloMosaic.Lib.WritesUnit
public import proofs.«01_k».proof.Proof.Chunk

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem off1_eq (L : grid0.Coords) (b : Fin k0_t1_loop.trips) : k0_off1 L b = ![row0 L b.val, 0] := by
  have h1 := row_word (L 0) (L 1) b
  unfold k0_off1 row0
  exact congrArg (fun x => (![x, 0] : Fin 2 → ℕ)) h1

omit [FloatOps F] in
/-- Eight threshold vectors, read through their slice. -/
theorem slice_readT [FloatOps F] (fT : Vec F S1024x16 .f32) {R : ℕ} {off : Fin 2 → ℕ} (hoff : off = ![R, 0])
    {inb : ∀ a, off a + S8x16.size a ≤ S1024x16.size a} {hs} (r : Fin 8) (c : ℕ) (hc : c < 16) :
    (tV.slice (Rect.unit (s := S1024x16) off S8x16.size inb) hs).view.read (Elt F) fT (at2 r ⟨c, hc⟩) = bandT fT R r ⟨c, hc⟩ := by
  subst hoff
  have hR : R + 8 ≤ 1024 := inb 0
  unfold bandT
  rw [dif_pos (by have := r.isLt; omega)]
  refine (View.read_apply _ _).trans ((cast_eq _ _).trans ?_)
  refine congrArg fT (funext fun a => Fin.ext ?_)
  match a with
  | ⟨0, _⟩ => show R + 1 * r.val = R + r.val; omega
  | ⟨1, _⟩ => show 0 + 1 * c = c; omega

theorem wp_part1 (d : Dev nD) (L : grid0.Coords) (O : CellTallies nD τ sig (HIx 1)) (W : Waits sig (HIx 1)) (b : Fin k0_t1_loop.trips)
    (fT : Vec F S1024x16 .f32) (q : PosShare TreeShare) (v1 : BitVec 32) :
    iprop(Transfers.MayWaits (thr d L) (none : HIx 1) O ∗ ((tV.view.loc (thr d L)) ↦{q} fT) ∗ (∃ f, (sT.view.loc (thr d L)) ↦{fullShare} f)
        ∗ semVal (cell d L cc0_scoped0) 0 ∗ owing d L O W)
      ⊢ wp frame (wpE (defs₀ (F := F)) 𝒱₀ (thr d L) none) Set.univ
          (k0_part1 L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4 v1 0#32 1#32 b)
          fun p => iprop(⌜∃ v : Fin 8 → Vec F S16 .f32, p = ⟨v 0, v 1, v 2, v 3, v 4, v 5, v 6, v 7, 0#32⟩ ∧ ∀ r k, v r (lane k) = bandT fT (row0 L b.val) r k⌝
            ∗ ((tV.view.loc (thr d L)) ↦{q} fT) ∗ (∃ f, (sT.view.loc (thr d L)) ↦{fullShare} f)
            ∗ semVal (cell d L cc0_scoped0) 0 ∗ owing d L O W) := by
  rw [k0_part1_eq_skeleton]
  unfold k0_part1_skel owing
  iintro ⟨#Hmw, Hd, ⟨%f, Ha⟩, Hsem, %W', %hW', HO⟩
  sl_exec (disch := exact View.amount_pos _ _ (show 0 < S8x16.numel by decide))
  have hf : ∀ (r : Fin 8) (c : ℕ) (hc : c < 16), sT.view.read (Elt F) (sT.view.write (Elt F) f (wp_part1.sl.dma0 L b fT) Finset.univ)
      (at2 r ⟨c, hc⟩) = (fun c => if h : c < 16 then bandT fT (row0 L b.val) r ⟨c, h⟩ else fill) c := by
    intro r c hc
    refine (congrFun (View.write_whole_univ (Val := Elt F) (cc0_scratch0 : Ref sig .scVector) f _) _).trans ?_
    unfold wp_part1.sl.dma0
    refine (slice_readT fT (off1_eq L b) r c hc).trans ?_
    simp only [dif_pos hc]
  have hv : ∀ (r : Fin 8) (o : Fin 2 → ℕ) (ho : o = ![r.val, 0]) (inb : ∀ a, o a + S1x16.size a ≤ S8x16.size a) (k : Fin 16),
      lanes (sT.view.readAt (Elt F) (Rect.unit (s := S8x16) o S1x16.size inb).toLoadRect
        (sT.view.write (Elt F) f (wp_part1.sl.dma0 L b fT) Finset.univ)) (lane k) = bandT fT (row0 L b.val) r k :=
    fun r o ho inb k => (lanes_read L d ho (hf r) k).trans (by simp only [Nat.zero_add, dif_pos k.isLt])
  rw [wp_ret]
  imodintro
  isplitr
  · ipureintro
    refine ⟨fun r => lanes (sT.view.readAt (Elt F) (Rect.unit (s := S8x16) ![r.val, 0] S1x16.size
      (by revert r; decide)).toLoadRect (sT.view.write (Elt F) f (wp_part1.sl.dma0 L b fT) Finset.univ)), rfl, ?_⟩
    exact fun r k => hv r _ rfl _ k
  isplitl [Hd]; · iexact Hd
  isplitl [Ha]; · iexists _; iexact Ha
  isplitl [Hsem]; · iexact Hsem
  iexists (insert (SemLoc.dma cc0_scoped0.sem, (default : HIx 1)) W')
  isplitr
  · ipureintro
    intro p hp
    rcases Finset.mem_insert.mp hp with hp | hp
    · exact .inr (hp ▸ rfl)
    · exact hW' p hp
  iexact HO

/-- The rows before `i`, and the first `16 j` places of row `i`, hold the filling. -/
def Filled (i j : ℕ) (g : S8x1024.Idx → F .f32) : Prop := ∀ (r : Fin 8) (p : Fin 1024), (r.val < i ∨ r.val = i ∧ p.val < 16 * j) → g (ix r p) = fill

theorem Filled.step (d : Dev nD) (L : grid0.Coords) (i : Fin k0_t2_loop.trips) (j : Fin k0_t3_loop.trips) {f : Buf (Elt F) ((thr d L).loc cc0_scratch3)}
    (hf : Filled i.val j.val (fun x => f x)) :
    Filled i.val (j.val + 1) (fun x => sV.view.writes (Elt F) f
      [⟨Rect.unit (k0_off2 i j) S1x16.size (k0_off2_inb i j), shapeCast S1x16 (k0_pay1 (F := F)) shapeCasts_S16_S1x16⟩] x) := by
  intro r p h
  refine (show _ = sV.view.read (Elt F) (sV.view.writes (Elt F) f
    [⟨Rect.unit (k0_off2 i j) S1x16.size (k0_off2_inb i j), shapeCast S1x16 (k0_pay1 (F := F)) shapeCasts_S16_S1x16⟩]) (ix r p) from rfl).trans ?_
  rw [View.read_writes_cons_unit sV.view f (k0_off2_inb i j) _ [] (ix r p) (k0_off2_eq i j)]
  by_cases hm : ∀ a, (![i.val, 16 * j.val] : Fin 2 → ℕ) a ≤ (ix r p a).val ∧ (ix r p a).val < (![i.val, 16 * j.val] : Fin 2 → ℕ) a + S1x16.size a
  · rw [dif_pos hm]; rfl
  · rw [dif_neg hm]
    refine hf r p ?_
    rcases h with h | ⟨h1, h2⟩
    · exact .inl h
    · refine .inr ⟨h1, ?_⟩
      by_contra hlt
      refine hm fun a => ?_
      match a with
      | ⟨0, _⟩ => show i.val ≤ r.val ∧ r.val < i.val + 1; omega
      | ⟨1, _⟩ => show 16 * j.val ≤ p.val ∧ p.val < 16 * j.val + 16; omega

omit [FloatOps F] in
theorem Filled.row {i : ℕ} {g : S8x1024.Idx → F .f32} [FloatOps F] (h : Filled i 64 g) : Filled (i + 1) 0 g := by
  intro r p hr
  refine h r p ?_
  have := p.isLt
  omega

theorem wp_fillTrip (d : Dev nD) (L : grid0.Coords) (b : Fin k0_t1_loop.trips) (v17 v19 v21 v23 v25 v27 v29 v31 : Vec F S16 .f32) (w : BitVec 32)
    (i : Fin k0_t2_loop.trips) (j : Fin k0_t3_loop.trips) (u : Unit) :
    (∃ f, ⌜Filled i.val j.val (fun x => f x)⌝ ∗ ((sV.view.loc (thr d L)) ↦{fullShare} f) : sProp 𝕄)
      ⊢ wp frame (wpE (defs₀ (F := F)) 𝒱₀ (thr d L) none) Set.univ
          (k0_t3_body L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4 laneNo (k0_pay1 (F := F)) k0_pay2 k0_pay3 k0_pay4 k0_pay5
            (broadcast S16 4#32) (broadcast S16 5#32) (broadcast S16 6#32) (broadcast S16 7#32) b v17 v19 v21 v23 v25 v27 v29 v31 w i j u)
          fun _ => iprop(∃ f, ⌜Filled i.val (j.val + 1) (fun x => f x)⌝ ∗ ((sV.view.loc (thr d L)) ↦{fullShare} f)) := by
  unfold k0_t3_body
  iintro ⟨%f, %hf, Ha⟩
  sl_exec
  rw [wp_ret]
  imodintro
  iexists (sV.view.writes (Elt F) f
    [⟨Rect.unit (k0_off2 i j) S1x16.size (k0_off2_inb i j), shapeCast S1x16 (k0_pay1 (F := F)) shapeCasts_S16_S1x16⟩])
  isplitr
  · ipureintro; exact Filled.step d L i j hf
  iexact Ha

theorem wp_fillRow (d : Dev nD) (L : grid0.Coords) (b : Fin k0_t1_loop.trips) (v17 v19 v21 v23 v25 v27 v29 v31 : Vec F S16 .f32) (w : BitVec 32)
    (i : Fin k0_t2_loop.trips) (u : Unit) :
    (∃ f, ⌜Filled i.val 0 (fun x => f x)⌝ ∗ ((sV.view.loc (thr d L)) ↦{fullShare} f) : sProp 𝕄)
      ⊢ wp frame (wpE (defs₀ (F := F)) 𝒱₀ (thr d L) none) Set.univ
          (k0_t2_body L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4 laneNo (k0_pay1 (F := F)) k0_pay2 k0_pay3 k0_pay4 k0_pay5
            (broadcast S16 4#32) (broadcast S16 5#32) (broadcast S16 6#32) (broadcast S16 7#32) b v17 v19 v21 v23 v25 v27 v29 v31 w i u)
          fun _ => iprop(∃ f, ⌜Filled (i.val + 1) 0 (fun x => f x)⌝ ∗ ((sV.view.loc (thr d L)) ↦{fullShare} f)) := by
  unfold k0_t2_body
  rw [wp_bind]
  refine BIBase.Entails.trans ?_ (Scf.wp_for frame (wpE (defs₀ (F := F)) 𝒱₀ (thr d L) none) Set.univ _ _ _ k0_t3_ok _ _
    (fun j _ => iprop(∃ f, ⌜Filled i.val j (fun x => f x)⌝ ∗ ((sV.view.loc (thr d L)) ↦{fullShare} f)))
    (fun j u => wp_fillTrip d L b v17 v19 v21 v23 v25 v27 v29 v31 w i j u))
  iintro H
  isplitl [H]; · iexact H
  iintro %u ⟨%f, %hf, H⟩
  rw [Prog.pure_eq_ret, wp_ret]
  imodintro
  iexists f
  isplitr
  · ipureintro; exact Filled.row hf
  iexact H

/-- The two filling loops at the head of a program: both tables hold no column of any row. -/
theorem wp_fill_bind (d : Dev nD) (L : grid0.Coords) (b : Fin k0_t1_loop.trips) (v17 v19 v21 v23 v25 v27 v29 v31 : Vec F S16 .f32) (w : BitVec 32)
    (Dv : Fin 8 → ℕ → F .f32) (Tv : Fin 8 → Fin 16 → F .f32)
    {α : Type} {kk : Unit → Prog (TpuEff nD τ sig (Elt F) Λ₀ (.scVector (cV L) (jV L))) α} {Q : α → sProp 𝕄} :
    iprop((∃ f, (sV.view.loc (thr d L)) ↦{fullShare} f) ∗ (∃ f, (sI.view.loc (thr d L)) ↦{fullShare} f))
      ⊢ iprop((tabs Dv Tv d L (fun _ => 0) -∗ wp frame (wpE (defs₀ (F := F)) 𝒱₀ (thr d L) none) Set.univ (kk ⟨⟩) Q)
          -∗ wp frame (wpE (defs₀ (F := F)) 𝒱₀ (thr d L) none) Set.univ (Scf.Loop.for k0_t2_loop k0_t2_ok ⟨⟩ (k0_t2_body L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4 laneNo (k0_pay1 (F := F)) k0_pay2 k0_pay3 k0_pay4 k0_pay5
            (broadcast S16 4#32) (broadcast S16 5#32) (broadcast S16 6#32) (broadcast S16 7#32) b v17 v19 v21 v23 v25 v27 v29 v31 w) >>= kk) Q) := by
  rw [wp_bind]
  iintro ⟨⟨%f, Hv⟩, %gi, Hi⟩ HK
  iapply (Scf.wp_for frame (wpE (defs₀ (F := F)) 𝒱₀ (thr d L) none) Set.univ _ _ _ k0_t2_ok _ _
    (fun i _ => iprop(∃ f, ⌜Filled i 0 (fun x => f x)⌝ ∗ ((sV.view.loc (thr d L)) ↦{fullShare} f)))
    (fun i u => wp_fillRow d L b v17 v19 v21 v23 v25 v27 v29 v31 w i u))
  isplitl [Hv]
  · iexists f
    isplitr
    · ipureintro; intro r p h; omega
    iexact Hv
  iintro %u ⟨%g, %hg, Hv⟩
  iapply HK
  unfold tabs
  iexists g, gi
  isplitr
  · ipureintro
    refine ⟨Rows.start fun j => ?_, Rows.start fun j => trivial⟩
    obtain ⟨r, p, rfl⟩ := ix_surj j
    exact hg r p (.inl r.isLt)
  isplitl [Hv]; · iexact Hv
  iexact Hi

end Cert.Proof

end
-- ==== Proof.Band.lean ====
/-
  One band of eight rows: the distances of the band looked at chunk by chunk, its last columns, and the two tables copied out.
-/
module

public import proofs.«01_k».proof.Proof.Fill

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem off12_eq (L : grid0.Coords) (b : Fin k0_t1_loop.trips) : k0_off12 L b = ![row0 L b.val, 98304] := by
  rw [k0_off12_eq]
  unfold row0
  exact congrArg (fun x => (![x, 98304] : Fin 2 → ℕ)) (by omega)

theorem off21_eq (L : grid0.Coords) (b : Fin k0_t1_loop.trips) : k0_off21 L b = ![row0 L b.val, 0] := by
  rw [k0_off21_eq]
  unfold row0
  exact congrArg (fun x => (![x, 0] : Fin 2 → ℕ)) (by omega)

/-- The last columns' buffer holds the band's columns from 98304 on. -/
def Tail (d : Dev nD) (L : grid0.Coords) (fD : Vec F S1024x100000 .f32) (R : ℕ) (f : Buf (Elt F) (sB.view.loc (thr d L))) : Prop :=
  ∀ (r : Fin 8) (c : ℕ) (hc : c < 1696), sB.view.read (Elt F) f (at2 r ⟨c, hc⟩) = bandD fD R r (98304 + c)

theorem curs_zero (Dv : Fin 8 → ℕ → F .f32) (Tv : Fin 8 → Fin 16 → F .f32) :
    Curs Dv Tv (4096 * 0) (k0_pay34, k0_pay35, k0_pay36, k0_pay37, k0_pay38, k0_pay39, k0_pay40, k0_pay41) :=
  ⟨fun _ => rfl, fun _ => rfl, fun _ => rfl, fun _ => rfl, fun _ => rfl, fun _ => rfl, fun _ => rfl, fun _ => rfl⟩

theorem wp_part2 (d : Dev nD) (L : grid0.Coords) (O : CellTallies nD τ sig (HIx 1)) (W : Waits sig (HIx 1)) (b : Fin k0_t1_loop.trips)
    (fD : Vec F S1024x100000 .f32) (q : PosShare TreeShare) (Tv : Fin 8 → Fin 16 → F .f32) (v : Fin 8 → Vec F S16 .f32) (hT : ∀ r k, v r (lane k) = Tv r k) :
    iprop(Transfers.MayWaits (thr d L) (none : HIx 1) O ∗ ((dV.view.loc (thr d L)) ↦{q} fD) ∗ (∃ f, (sA.view.loc (thr d L)) ↦{fullShare} f)
        ∗ (∃ f, (sB.view.loc (thr d L)) ↦{fullShare} f) ∗ (∃ f, (sV.view.loc (thr d L)) ↦{fullShare} f) ∗ (∃ f, (sI.view.loc (thr d L)) ↦{fullShare} f)
        ∗ semVal (cell d L cc0_scoped1) 0 ∗ semVal (cell d L cc0_scoped2) 0 ∗ owing d L O W)
      ⊢ wp frame (wpE (defs₀ (F := F)) 𝒱₀ (thr d L) none) Set.univ
          (k0_part2 L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4 laneNo (k0_pay1 (F := F)) k0_pay2 k0_pay3 k0_pay4 k0_pay5
            (broadcast S16 4#32) (broadcast S16 5#32) (broadcast S16 6#32) (broadcast S16 7#32) b (v 0) (v 1) (v 2) (v 3) (v 4) (v 5) (v 6) (v 7) 0#32)
          fun p => iprop(∃ f, ⌜(∃ c4 c5 c6 c7, p = ⟨c4, c5, c6, c7, 0#32⟩ ∧ CurAt (bandD fD (row0 L b.val)) Tv 4 98304 c4 ∧ CurAt (bandD fD (row0 L b.val)) Tv 5 98304 c5
              ∧ CurAt (bandD fD (row0 L b.val)) Tv 6 98304 c6 ∧ CurAt (bandD fD (row0 L b.val)) Tv 7 98304 c7) ∧ Tail d L fD (row0 L b.val) f⌝
            ∗ ((dV.view.loc (thr d L)) ↦{q} fD) ∗ (∃ f, (sA.view.loc (thr d L)) ↦{fullShare} f) ∗ ((sB.view.loc (thr d L)) ↦{fullShare} f)
            ∗ semVal (cell d L cc0_scoped1) 0 ∗ semVal (cell d L cc0_scoped2) 0
            ∗ tabs (bandD fD (row0 L b.val)) Tv d L (stage 98304 100000 4) ∗ owing d L O W) := by
  rw [k0_part2_eq_skeleton]
  unfold k0_part2_skel
  iintro ⟨#Hmw, Hd, Ha, ⟨%f, Hb⟩, Hv, Hi, Hs1, Hs2, HO⟩
  iapply (wp_fill_bind d L b (v 0) (v 1) (v 2) (v 3) (v 4) (v 5) (v 6) (v 7) 0#32 (bandD fD (row0 L b.val)) Tv) $$ [Hv Hi]
  · isplitl [Hv]; · iexact Hv
    iexact Hi
  iintro Ht
  rw [wp_bind]
  iapply (Scf.wp_for frame (wpE (defs₀ (F := F)) 𝒱₀ (thr d L) none) Set.univ _ _ _ k0_t4_ok _ _
    (fun k a => iprop(Transfers.MayWaits (thr d L) (none : HIx 1) O ∗ ⌜Curs (bandD fD (row0 L b.val)) Tv (4096 * k) a⌝ ∗ ((dV.view.loc (thr d L)) ↦{q} fD)
            ∗ (∃ f, (sA.view.loc (thr d L)) ↦{fullShare} f)
            ∗ semVal (cell d L cc0_scoped1) 0 ∗ tabs (bandD fD (row0 L b.val)) Tv d L (fun _ => 4096 * k) ∗ owing d L O W))
    (fun k a => by
      iintro ⟨#Hmw, %ha, H⟩
      iapply (wp_wand_r frame (wpE (defs₀ (F := F)) 𝒱₀ (thr d L) none) Set.univ)
      isplitl [H]
      · iapply (wp_chunk d L O W b fD q Tv v hT k a ha)
        isplitr; · iexact Hmw
        iexact H
      iintro %a' H
      isplitr; · iexact Hmw
      iexact H))
  isplitl [Hd Ha Hs1 Ht HO]
  · isplitr; · iexact Hmw
    isplitr; · ipureintro; exact curs_zero _ _
    isplitl [Hd]; · iexact Hd
    isplitl [Ha]; · iexact Ha
    isplitl [Hs1]; · iexact Hs1
    isplitl [Ht]; · iexact Ht
    iexact HO
  iintro %a ⟨-, %ha, Hd, Ha, Hs1, Ht, HO⟩
  have ha : Curs (bandD fD (row0 L b.val)) Tv 98304 a := ha
  obtain ⟨a0, a1, a2, a3, a4, a5, a6, a7⟩ := a
  unfold owing
  icases HO with ⟨%W', %hW', HO⟩
  sl_exec (disch := exact View.amount_pos _ _ (show 0 < S8x1696.numel by decide))
  have hf : Tail d L fD (row0 L b.val) (sB.view.write (Elt F) f (wp_part2.sl.dma0 L b fD) Finset.univ) := by
    intro r c hc
    refine (congrFun (View.write_whole_univ (Val := Elt F) (cc0_scratch2 : Ref sig .scVector) f _) _).trans ?_
    unfold wp_part2.sl.dma0
    exact slice_read fD (off12_eq L b) r c hc
  have h16 : 98304 % 16 = 0 := by decide
  have hn₁ : 98304 + 16 * 106 = 100000 := by decide
  rw [show (fun _ => 4096 * Scf.trips k0_t4_loop.lb k0_t4_loop.ub k0_t4_loop.st : Fin 8 → ℕ) = stage 98304 100000 0 from (stage_zero 98304 100000).symm]
  iapply (wp_rowLoop_bind (Dv := bandD fD (row0 L b.val)) (Tv := Tv) d L (src := sB) (hok := k0_t13_ok) (off := fun j => k0_off13 j) (inb := k0_off13_inb)
    (T := v 0) (rs := k0_pay2) (iv := fun j => k0_pay85 laneNo j) (Chk := k0_chk9) (dec := k0_chk9.dec) (h1 := k0_idx17_inb) (h2 := k0_idx18_inb)
    (fun _ _ => rfl) (fun _ _ h => ⟨h, h⟩) 0 h16 hn₁ k0_off13_eq (fun _ => rfl)
    (fun j l => tail_cols j.val l) (hT 0) (hf 0) ha.1) $$ [Hb Ht]
  · isplitl [Hb]; · iexact Hb
    iexact Ht
  iintro %c0 ⟨-, Hb, Ht⟩
  iapply (wp_rowLoop_bind (Dv := bandD fD (row0 L b.val)) (Tv := Tv) d L (src := sB) (hok := k0_t14_ok) (off := fun j => k0_off14 j) (inb := k0_off14_inb)
    (T := v 1) (rs := k0_pay3) (iv := fun j => k0_pay90 laneNo j) (Chk := k0_chk10) (dec := k0_chk10.dec) (h1 := k0_idx19_inb) (h2 := k0_idx20_inb)
    (fun _ _ => rfl) (fun _ _ h => ⟨h, h⟩) 1 h16 hn₁ k0_off14_eq (fun _ => rfl)
    (fun j l => tail_cols j.val l) (hT 1) (hf 1) ha.2.1) $$ [Hb Ht]
  · isplitl [Hb]; · iexact Hb
    iexact Ht
  iintro %c1 ⟨-, Hb, Ht⟩
  iapply (wp_rowLoop_bind (Dv := bandD fD (row0 L b.val)) (Tv := Tv) d L (src := sB) (hok := k0_t15_ok) (off := fun j => k0_off15 j) (inb := k0_off15_inb)
    (T := v 2) (rs := k0_pay4) (iv := fun j => k0_pay95 laneNo j) (Chk := k0_chk11) (dec := k0_chk11.dec) (h1 := k0_idx21_inb) (h2 := k0_idx22_inb)
    (fun _ _ => rfl) (fun _ _ h => ⟨h, h⟩) 2 h16 hn₁ k0_off15_eq (fun _ => rfl)
    (fun j l => tail_cols j.val l) (hT 2) (hf 2) ha.2.2.1) $$ [Hb Ht]
  · isplitl [Hb]; · iexact Hb
    iexact Ht
  iintro %c2 ⟨-, Hb, Ht⟩
  iapply (wp_rowLoop_bind (Dv := bandD fD (row0 L b.val)) (Tv := Tv) d L (src := sB) (hok := k0_t16_ok) (off := fun j => k0_off16 j) (inb := k0_off16_inb)
    (T := v 3) (rs := k0_pay5) (iv := fun j => k0_pay100 laneNo j) (Chk := k0_chk12) (dec := k0_chk12.dec) (h1 := k0_idx23_inb) (h2 := k0_idx24_inb)
    (fun _ _ => rfl) (fun _ _ h => ⟨h, h⟩) 3 h16 hn₁ k0_off16_eq (fun _ => rfl)
    (fun j l => tail_cols j.val l) (hT 3) (hf 3) ha.2.2.2.1) $$ [Hb Ht]
  · isplitl [Hb]; · iexact Hb
    iexact Ht
  iintro %c3 ⟨-, Hb, Ht⟩
  rw [Prog.pure_eq_ret, wp_ret]
  imodintro
  iexists _
  isplitr
  · ipureintro; exact ⟨⟨a4, a5, a6, a7, rfl, ha.2.2.2.2.1, ha.2.2.2.2.2.1, ha.2.2.2.2.2.2.1, ha.2.2.2.2.2.2.2⟩, hf⟩
  isplitl [Hd]; · iexact Hd
  isplitl [Ha]; · iexact Ha
  isplitl [Hb]; · iexact Hb
  isplitl [Hs1]; · iexact Hs1
  isplitl [Hs2]; · iexact Hs2
  isplitl [Ht]; · iexact Ht
  iexists (insert (SemLoc.dma cc0_scoped2.sem, (default : HIx 1)) W'); isplitr
  · ipureintro; intro p hp
    rcases Finset.mem_insert.mp hp with hp | hp
    · exact .inr (hp ▸ rfl)
    · exact hW' p hp
  · iexact HO

/-- The band's rows of the two outputs. -/
abbrev cdB (L : grid0.Coords) (b : Fin k0_t1_loop.trips) : Memref sig .scVector .hbm S8x1024 .f32 :=
  cdV.slice (Rect.unit (s := S1024x1024) (k0_off21 L b) S8x1024.size (k0_off21_inb L b)) (fun _ => rfl)
abbrev ciB (L : grid0.Coords) (b : Fin k0_t1_loop.trips) : Memref sig .scVector .hbm S8x1024 .i32 :=
  ciV.slice (Rect.unit (s := S1024x1024) (k0_off21 L b) S8x1024.size (k0_off21_inb L b)) (fun _ => rfl)

/-- The band's rows of the outputs, untouched. -/
def rawBand (d : Dev nD) (L : grid0.Coords) (b : Fin k0_t1_loop.trips) : sProp 𝕄 :=
  iprop((∃ f, (cdB L b).view.loc (thr d L) ↦[(cdB L b).view.set]{fullShare} f) ∗ (∃ f, (ciB L b).view.loc (thr d L) ↦[(ciB L b).view.set]{fullShare} f))

/-- The band's rows of the outputs, holding the compacted rows of all columns. -/
def doneBand (fD : Vec F S1024x100000 .f32) (fT : Vec F S1024x16 .f32) (d : Dev nD) (L : grid0.Coords) (b : Fin k0_t1_loop.trips) : sProp 𝕄 :=
  iprop(∃ g gi, ⌜VRows (bandD fD (row0 L b.val)) (bandT fT (row0 L b.val)) (fun _ => 100000) (fun j => (cdB L b).view.read (Elt F) g j)
      ∧ IRows (bandD fD (row0 L b.val)) (bandT fT (row0 L b.val)) (fun _ => 100000) (fun j => (ciB L b).view.read (Elt F) gi j)⌝
    ∗ ((cdB L b).view.loc (thr d L) ↦[(cdB L b).view.set]{fullShare} g) ∗ ((ciB L b).view.loc (thr d L) ↦[(ciB L b).view.set]{fullShare} gi))

/-- What a band's trip keeps: its read shares, the scratch buffers, and the transfers' cells. -/
def bandKeep (fD : Vec F S1024x100000 .f32) (fT : Vec F S1024x16 .f32) (q : PosShare TreeShare) (d : Dev nD) (L : grid0.Coords)
    (O : CellTallies nD τ sig (HIx 1)) (W : Waits sig (HIx 1)) : sProp 𝕄 :=
  iprop(((dV.view.loc (thr d L)) ↦{q} fD) ∗ ((tV.view.loc (thr d L)) ↦{q} fT) ∗ (∃ f, (sT.view.loc (thr d L)) ↦{fullShare} f) ∗ (∃ f, (sA.view.loc (thr d L)) ↦{fullShare} f)
        ∗ (∃ f, (sB.view.loc (thr d L)) ↦{fullShare} f) ∗ (∃ f, (sV.view.loc (thr d L)) ↦{fullShare} f) ∗ (∃ f, (sI.view.loc (thr d L)) ↦{fullShare} f)
        ∗ semVal (cell d L cc0_scoped0) 0 ∗ semVal (cell d L cc0_scoped1) 0 ∗ semVal (cell d L cc0_scoped2) 0 ∗ semVal (cell d L cc0_scoped3) 0
        ∗ semVal (cell d L cc0_scoped4) 0 ∗ owing d L O W)

theorem wp_band (d : Dev nD) (L : grid0.Coords) (O : CellTallies nD τ sig (HIx 1)) (W : Waits sig (HIx 1)) (b : Fin k0_t1_loop.trips)
    (fD : Vec F S1024x100000 .f32) (fT : Vec F S1024x16 .f32) (q : PosShare TreeShare) (w : BitVec 32) (u : Unit) :
    iprop(Transfers.MayWaits (thr d L) (none : HIx 1) O ∗ bandKeep fD fT q d L O W ∗ rawBand d L b)
      ⊢ wp frame (wpE (defs₀ (F := F)) 𝒱₀ (thr d L) none) Set.univ
          (k0_t1_body L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4 w laneNo
            (broadcast S16 4#32) (broadcast S16 5#32) (broadcast S16 6#32) (broadcast S16 7#32) b u)
          fun _ => iprop(bandKeep fD fT q d L O W ∗ doneBand fD fT d L b) := by
  unfold k0_t1_body bandKeep
  iintro ⟨#Hmw, ⟨Hd, HT, HsT, Ha, Hb, Hv, Hi, Hs0, Hs1, Hs2, Hs3, Hs4, HO⟩, Hr⟩
  rw [wp_bind]
  iapply (wp_wand_r frame (wpE (defs₀ (F := F)) 𝒱₀ (thr d L) none) Set.univ)
  isplitl [HT HsT Hs0 HO]
  · iapply (wp_part1 d L O W b fT q w)
    isplitr; · iexact Hmw
    isplitl [HT]; · iexact HT
    isplitl [HsT]; · iexact HsT
    isplitl [Hs0]; · iexact Hs0
    iexact HO
  iintro %p1 ⟨%hp1, HT, HsT, Hs0, HO⟩
  obtain ⟨v, rfl, hT⟩ := hp1
  rw [wp_bind]
  iapply (wp_wand_r frame (wpE (defs₀ (F := F)) 𝒱₀ (thr d L) none) Set.univ)
  isplitl [Hd Ha Hb Hv Hi Hs1 Hs2 HO]
  · iapply (wp_part2 d L O W b fD q (bandT fT (row0 L b.val)) v hT)
    isplitr; · iexact Hmw
    isplitl [Hd]; · iexact Hd
    isplitl [Ha]; · iexact Ha
    isplitl [Hb]; · iexact Hb
    isplitl [Hv]; · iexact Hv
    isplitl [Hi]; · iexact Hi
    isplitl [Hs1]; · iexact Hs1
    isplitl [Hs2]; · iexact Hs2
    iexact HO
  iintro %p2 ⟨%fB, %hp2, Hd, Ha, Hb, Hs1, Hs2, Ht, HO⟩
  obtain ⟨⟨c4', c5', c6', c7', rfl, hc4, hc5, hc6, hc7⟩, hf⟩ := hp2
  have h16 : 98304 % 16 = 0 := by decide
  have hn₁ : 98304 + 16 * 106 = 100000 := by decide
  iapply (wp_rowLoop_bind (Dv := bandD fD (row0 L b.val)) (Tv := bandT fT (row0 L b.val)) d L (src := sB) (hok := k0_t17_ok) (off := fun j => k0_off17 j) (inb := k0_off17_inb)
    (T := v 4) (rs := (broadcast S16 4#32)) (iv := fun j => k0_pay9 0#32 j) (Chk := k0_chk13) (dec := k0_chk13.dec) (h1 := k0_idx25_inb) (h2 := k0_idx26_inb)
    (fun _ _ => rfl) (fun _ _ h => ⟨h, h⟩) 4 h16 hn₁ k0_off17_eq (fun _ => rfl)
    (fun j l => tail_cols j.val l) (hT 4) (hf 4) hc4) $$ [Hb Ht]
  · isplitl [Hb]; · iexact Hb
    iexact Ht
  iintro %c4 ⟨-, Hb, Ht⟩
  iapply (wp_rowLoop_bind (Dv := bandD fD (row0 L b.val)) (Tv := bandT fT (row0 L b.val)) d L (src := sB) (hok := k0_t18_ok) (off := fun j => k0_off18 j) (inb := k0_off18_inb)
    (T := v 5) (rs := (broadcast S16 5#32)) (iv := fun j => k0_pay14 j) (Chk := k0_chk14) (dec := k0_chk14.dec) (h1 := k0_idx27_inb) (h2 := k0_idx28_inb)
    (fun _ _ => rfl) (fun _ _ h => ⟨h, h⟩) 5 h16 hn₁ k0_off18_eq (fun _ => rfl)
    (fun j l => tail_cols j.val l) (hT 5) (hf 5) hc5) $$ [Hb Ht]
  · isplitl [Hb]; · iexact Hb
    iexact Ht
  iintro %c5 ⟨-, Hb, Ht⟩
  iapply (wp_rowLoop_bind (Dv := bandD fD (row0 L b.val)) (Tv := bandT fT (row0 L b.val)) d L (src := sB) (hok := k0_t19_ok) (off := fun j => k0_off19 j) (inb := k0_off19_inb)
    (T := v 6) (rs := (broadcast S16 6#32)) (iv := fun j => k0_pay19 j) (Chk := k0_chk15) (dec := k0_chk15.dec) (h1 := k0_idx29_inb) (h2 := k0_idx30_inb)
    (fun _ _ => rfl) (fun _ _ h => ⟨h, h⟩) 6 h16 hn₁ k0_off19_eq (fun _ => rfl)
    (fun j l => tail_cols j.val l) (hT 6) (hf 6) hc6) $$ [Hb Ht]
  · isplitl [Hb]; · iexact Hb
    iexact Ht
  iintro %c6 ⟨-, Hb, Ht⟩
  iapply (wp_rowLoop_bind (Dv := bandD fD (row0 L b.val)) (Tv := bandT fT (row0 L b.val)) d L (src := sB) (hok := k0_t20_ok) (off := fun j => k0_off20 j) (inb := k0_off20_inb)
    (T := v 7) (rs := (broadcast S16 7#32)) (iv := fun j => k0_pay24 j) (Chk := k0_chk16) (dec := k0_chk16.dec) (h1 := k0_idx31_inb) (h2 := k0_idx32_inb)
    (fun _ _ => rfl) (fun _ _ h => ⟨h, h⟩) 7 h16 hn₁ k0_off20_eq (fun _ => rfl)
    (fun j l => tail_cols j.val l) (hT 7) (hf 7) hc7) $$ [Hb Ht]
  · isplitl [Hb]; · iexact Hb
    iexact Ht
  iintro %c7 ⟨-, Hb, Ht⟩
  rw [show (stage 98304 100000 ((7 : Fin 8).val + 1)) = fun _ => 100000 from stage_eight _ _]
  unfold tabs rawBand owing
  icases Ht with ⟨%g, %gi, %hg, Hv, Hi⟩
  icases Hr with ⟨⟨%o, Ho⟩, %oi, Hoi⟩
  icases HO with ⟨%W', %hW', HO⟩
  ihave Hv := (Entails.of_eq (show ((thr d L).loc cc0_scratch3 ↦{fullShare} g : sProp 𝕄) = ((sV.view.loc (thr d L)) ↦{fullShare} g) from rfl)) $$ Hv
  ihave Hi := (Entails.of_eq (show ((thr d L).loc cc0_scratch4 ↦{fullShare} gi : sProp 𝕄) = ((sI.view.loc (thr d L)) ↦{fullShare} gi) from rfl)) $$ Hi
  sl_exec (disch := exact View.amount_pos _ _ (show 0 < S8x1024.numel by decide))
  have hv : (fun j => (cdB L b).view.read (Elt F) ((cdB L b).view.writes (Elt F) o [⟨Rect.whole S8x1024, wp_band.sl.dma0 g⟩]) j) = g :=
    (View.read_writes_whole (cdB L b).view o _).trans rfl
  have hi : (fun j => (ciB L b).view.read (Elt F) ((ciB L b).view.writes (Elt F) oi [⟨Rect.whole S8x1024, wp_band.sl.dma0_1 gi⟩]) j) = gi :=
    (View.read_writes_whole (ciB L b).view oi _).trans rfl
  rw [wp_ret]
  imodintro
  isplitr [Ho Hoi]
  · isplitl [Hd]; · iexact Hd
    isplitl [HT]; · iexact HT
    isplitl [HsT]; · iexact HsT
    isplitl [Ha]; · iexact Ha
    isplitl [Hb]; · iexists fB; iexact Hb
    isplitl [Hv]; · iexists g; iexact Hv
    isplitl [Hi]; · iexists gi; iexact Hi
    isplitl [Hs0]; · iexact Hs0
    isplitl [Hs1]; · iexact Hs1
    isplitl [Hs2]; · iexact Hs2
    isplitl [Hs3]; · iexact Hs3
    isplitl [Hs4]; · iexact Hs4
    iexists (insert (SemLoc.dma cc0_scoped4.sem, (default : HIx 1)) (insert (SemLoc.dma cc0_scoped3.sem, (default : HIx 1)) W')); isplitr
    · ipureintro; intro p hp
      rcases Finset.mem_insert.mp hp with hp | hp
      · exact .inr (hp ▸ rfl)
      · rcases Finset.mem_insert.mp hp with hp | hp
        · exact .inr (hp ▸ rfl)
        · exact hW' p hp
    · iexact HO
  unfold doneBand
  iexists ((cdB L b).view.writes (Elt F) o [⟨Rect.whole S8x1024, wp_band.sl.dma0 g⟩]), ((ciB L b).view.writes (Elt F) oi [⟨Rect.whole S8x1024, wp_band.sl.dma0_1 gi⟩])
  isplitr
  · ipureintro
    rw [hv, hi]; exact hg
  isplitl [Ho]; · iexact Ho
  iexact Hoi

end Cert.Proof

end
-- ==== Proof.Tile.lean ====
/-
  One vector subcore's whole task: its four bands, from the scratch buffers and cells the launch gives it.
-/
module

public import Idealize.ShloMosaic.Lib.ShareLeaves
public import proofs.«01_k».proof.Proof.Band

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.SparseCore.Cfg (mem_ownCells ownCells ownRefs ownSems0 ownBufs)
open Idealize.ShloMosaic.ShareLeaves (leaf)

/-- A subcore's cells that are not the task's own. -/
def restCells (d : Dev nD) (L : grid0.Coords) : sProp 𝕄 := bigSep ((((((ownCells (thr d L)).erase (cell d L cc0_scoped0)).erase (cell d L cc0_scoped1)).erase (cell d L cc0_scoped2)).erase (cell d L cc0_scoped3)).erase (cell d L cc0_scoped4)) fun g => semVal g 0

/-- A subcore's buffers that are not the task's own. -/
def restBufs (d : Dev nD) (L : grid0.Coords) : sProp 𝕄 := bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)

omit [FloatOps F] in
theorem ownSems0_V (d : Dev nD) (L : grid0.Coords) :
    (ownSems0 (thr d L) : sProp 𝕄)
      = iprop(semVal (cell d L cc0_scoped0) 0 ∗ semVal (cell d L cc0_scoped1) 0 ∗ semVal (cell d L cc0_scoped2) 0 ∗ semVal (cell d L cc0_scoped3) 0 ∗ semVal (cell d L cc0_scoped4) 0 ∗ restCells d L) := by
  unfold SparseCore.Cfg.ownSems0 restCells
  rw [SparseCore.bigSep_erase' ((mem_ownCells (g := cell d L cc0_scoped0)).mpr ⟨rfl, by show (SemLoc.dma cc0_scoped0.sem : SemLoc sig).isScoped .scVector = true; decide⟩),
    SparseCore.bigSep_erase' (Finset.mem_erase.mpr ⟨by simp [cell]; decide, (mem_ownCells (g := cell d L cc0_scoped1)).mpr ⟨rfl, by show (SemLoc.dma cc0_scoped1.sem : SemLoc sig).isScoped .scVector = true; decide⟩⟩),
    SparseCore.bigSep_erase' (Finset.mem_erase.mpr ⟨by simp [cell]; decide, Finset.mem_erase.mpr ⟨by simp [cell]; decide, (mem_ownCells (g := cell d L cc0_scoped2)).mpr ⟨rfl, by show (SemLoc.dma cc0_scoped2.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide, (mem_ownCells (g := cell d L cc0_scoped3)).mpr ⟨rfl, by show (SemLoc.dma cc0_scoped3.sem : SemLoc sig).isScoped .scVector = true; decide⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc0_scoped4)).mpr ⟨rfl, by show (SemLoc.dma cc0_scoped4.sem : SemLoc sig).isScoped .scVector = true; decide⟩⟩⟩⟩⟩)]

omit [FloatOps F] in
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ restBufs d L) := by
  unfold SparseCore.Cfg.ownBufs restBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide),
      Finset.mem_erase.mpr ⟨fun e => absurd (Proc.devRef_injective _ e) (show (cc0_scratch4 : Ref sig .scVector) ≠ cc0_scratch2 by decide),
      Finset.mem_erase.mpr ⟨fun e => absurd (Proc.devRef_injective _ e) (show (cc0_scratch4 : Ref sig .scVector) ≠ cc0_scratch1 by decide),
      Finset.mem_erase.mpr ⟨fun e => absurd (Proc.devRef_injective _ e) (show (cc0_scratch4 : Ref sig .scVector) ≠ cc0_scratch0 by decide),
      SparseCore.Cfg.mem_ownRefs_of_owner (p := Proc.scVector (cV L) (jV L)) (b := (Proc.scVector (cV L) (jV L)).devRef cc0_scratch4) rfl⟩⟩⟩⟩)]

/-- A subcore's share of the arrays all subcores read: a leaf of the right half, whose left half the host keeps. -/
def rd (L : grid0.Coords) : PosShare TreeShare :=
  leaf 5 (PosShare.right fullShare) ⟨2 * (L 1).val + (L 0).val, by
    have h0 : (L 0).val < 2 := (L 0).isLt
    have h1 : (L 1).val < 16 := (L 1).isLt
    show _ < 32
    omega⟩

/-- What a subcore's task is given: its shares of the distances and the thresholds, and its bands of the outputs. -/
def goPay (d : Dev nD) (L : grid0.Coords) : sProp 𝕄 :=
  iprop(∃ fD fT, ((dV.view.loc (thr d L)) ↦{rd L} fD) ∗ ((tV.view.loc (thr d L)) ↦{rd L} fT)
    ∗ bigSep Finset.univ fun b : Fin k0_t1_loop.trips => rawBand d L b)

/-- What a subcore's task gives back: the same shares, and its bands of the outputs, compacted. -/
def tdPay (d : Dev nD) (L : grid0.Coords) : sProp 𝕄 :=
  iprop(∃ fD fT, ((dV.view.loc (thr d L)) ↦{rd L} fD) ∗ ((tV.view.loc (thr d L)) ↦{rd L} fT)
    ∗ bigSep Finset.univ fun b : Fin k0_t1_loop.trips => doneBand fD fT d L b)

/-- The bands before `k` compacted, the others untouched. -/
def bandsAt (fD : Vec F S1024x100000 .f32) (fT : Vec F S1024x16 .f32) (d : Dev nD) (L : grid0.Coords) (k : ℕ) : sProp 𝕄 :=
  bigSep Finset.univ fun b : Fin k0_t1_loop.trips => if b.val < k then doneBand fD fT d L b else rawBand d L b

theorem bandsAt_next (fD : Vec F S1024x100000 .f32) (fT : Vec F S1024x16 .f32) (d : Dev nD) (L : grid0.Coords) (b : Fin k0_t1_loop.trips) :
    ∃ R : sProp 𝕄, bandsAt fD fT d L b.val = iprop(rawBand d L b ∗ R) ∧ bandsAt fD fT d L (b.val + 1) = iprop(doneBand fD fT d L b ∗ R) := by
  refine ⟨bigSep (Finset.univ.erase b) fun b' : Fin k0_t1_loop.trips => if b'.val < b.val then doneBand fD fT d L b' else rawBand d L b', ?_, ?_⟩
  · unfold bandsAt
    rw [SparseCore.bigSep_erase' (Finset.mem_univ b), if_neg (Nat.lt_irrefl _)]
  · unfold bandsAt
    rw [SparseCore.bigSep_erase' (Finset.mem_univ b), if_pos (Nat.lt_succ_self _)]
    congr 1
    refine bigSep_congr fun b' hb' => ?_
    have hne : b'.val ≠ b.val := fun e => (Finset.mem_erase.mp hb').1 (Fin.ext e)
    by_cases h : b'.val < b.val
    · rw [if_pos h, if_pos (by omega)]
    · rw [if_neg h, if_neg (by omega)]

theorem wp_bands (d : Dev nD) (L : grid0.Coords) (O : CellTallies nD τ sig (HIx 1)) (W : Waits sig (HIx 1))
    (fD : Vec F S1024x100000 .f32) (fT : Vec F S1024x16 .f32) (q : PosShare TreeShare) :
    iprop(Transfers.MayWaits (thr d L) (none : HIx 1) O ∗ bandKeep fD fT q d L O W ∗ bigSep Finset.univ fun b : Fin k0_t1_loop.trips => rawBand d L b)
      ⊢ wp frame (wpE (defs₀ (F := F)) 𝒱₀ (thr d L) none) Set.univ
          (cc0_compact L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4)
          fun _ => iprop(bandKeep fD fT q d L O W ∗ bigSep Finset.univ fun b : Fin k0_t1_loop.trips => doneBand fD fT d L b) := by
  rw [cc0_compact_eq_skeleton]
  unfold cc0_compact_skel
  simp only []
  rw [wp_bind]
  refine BIBase.Entails.trans ?_ (Scf.wp_for frame (wpE (defs₀ (F := F)) 𝒱₀ (thr d L) none) Set.univ _ _ _ k0_t1_ok _ _
    (fun k _ => iprop(Transfers.MayWaits (thr d L) (none : HIx 1) O ∗ bandKeep fD fT q d L O W ∗ bandsAt fD fT d L k))
    (fun b u => by
      obtain ⟨R, e, e'⟩ := bandsAt_next fD fT d L b
      rw [e, e']
      iintro ⟨#Hmw, Hk, Hr, HR⟩
      iapply (wp_wand_r frame (wpE (defs₀ (F := F)) 𝒱₀ (thr d L) none) Set.univ)
      isplitl [Hk Hr]
      · iapply (wp_band d L O W b fD fT q _ u)
        isplitr; · iexact Hmw
        isplitl [Hk]; · iexact Hk
        iexact Hr
      iintro %u' ⟨Hk, Hd⟩
      isplitr; · iexact Hmw
      isplitl [Hk]; · iexact Hk
      isplitl [Hd]; · iexact Hd
      iexact HR))
  have e0 : (bandsAt fD fT d L 0 : sProp 𝕄) = bigSep Finset.univ fun b : Fin k0_t1_loop.trips => rawBand d L b :=
    bigSep_congr fun b _ => if_neg (Nat.not_lt_zero _)
  have e4 : (bandsAt fD fT d L k0_t1_loop.trips : sProp 𝕄) = bigSep Finset.univ fun b : Fin k0_t1_loop.trips => doneBand fD fT d L b :=
    bigSep_congr fun b _ => if_pos b.isLt
  rw [e0]
  iintro ⟨#Hmw, Hk, Hr⟩
  isplitl [Hk Hr]
  · isplitr; · iexact Hmw
    isplitl [Hk]; · iexact Hk
    iexact Hr
  iintro %u ⟨-, Hk, Hr⟩
  rw [Prog.pure_eq_ret, wp_ret]
  imodintro
  isplitl [Hk]; · iexact Hk
  iapply (Entails.of_eq e4); iexact Hr

theorem tile_body (d : Dev nD) (L : grid0.Coords) (hF : (K (F := F)).Facts)
    (O : CellTallies nD τ sig (HIx 1)) (W : Waits sig (HIx 1)) (hO : ∀ g, O g none = 0) :
    iprop(levAts (K (F := F)).L (K (F := F)).lev ∗ emp ∗ goPay d L
        ∗ scopedBufs (thr d L) ∗ scopedSems0 (thr d L) ∗ owes (thr d L) O W)
      ⊢ wp frame (wpE (defs₀ (F := F)) 𝒱₀ (thr d L) none) Set.univ
          (cc0_compact L dV (Memref.isWhole_whole _) tV (Memref.isWhole_whole _) cdV (Memref.isWhole_whole _) ciV (Memref.isWhole_whole _)
            sT (Memref.isWhole_whole _) sA (Memref.isWhole_whole _) sB (Memref.isWhole_whole _) sV (Memref.isWhole_whole _) sI (Memref.isWhole_whole _)
            cc0_scoped0 cc0_scoped1 cc0_scoped2 cc0_scoped3 cc0_scoped4)
          fun _ => iprop(tdPay d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goPay tdPay
  iintro ⟨#Hlv, -, ⟨%fD, %fT, Hd, HT, Hr⟩, ⟨HsT, Ha, Hb, Hv, Hi, Hbufs⟩, ⟨Hs0, Hs1, Hs2, Hs3, Hs4, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_wand_r frame (wpE (defs₀ (F := F)) 𝒱₀ (thr d L) none) Set.univ)
  isplitl [Hmw Hd HT Hr HsT Ha Hb Hv Hi Hs0 Hs1 Hs2 Hs3 Hs4 HO]
  · iapply (wp_bands d L O W fD fT (rd L))
    isplitl [Hmw]; · iexact Hmw
    isplitr [Hr]
    · unfold bandKeep owing
      isplitl [Hd]; · iexact Hd
      isplitl [HT]; · iexact HT
      isplitl [HsT]; · iexact HsT
      isplitl [Ha]; · iexact Ha
      isplitl [Hb]; · iexact Hb
      isplitl [Hv]; · iexact Hv
      isplitl [Hi]; · iexact Hi
      isplitl [Hs0]; · iexact Hs0
      isplitl [Hs1]; · iexact Hs1
      isplitl [Hs2]; · iexact Hs2
      isplitl [Hs3]; · iexact Hs3
      isplitl [Hs4]; · iexact Hs4
      iexists W; isplitr
      · ipureintro; exact fun p hp => .inl hp
      iexact HO
    iexact Hr
  unfold bandKeep owing
  iintro %u ⟨⟨Hd, HT, HsT, Ha, Hb, Hv, Hi, Hs0, Hs1, Hs2, Hs3, Hs4, HO⟩, Hr⟩
  isplitl [Hd HT Hr]
  · iexists fD, fT
    isplitl [Hd]; · iexact Hd
    isplitl [HT]; · iexact HT
    iexact Hr
  isplitl [HsT Ha Hb Hv Hi Hbufs]
  · isplitl [HsT]; · iexact HsT
    isplitl [Ha]; · iexact Ha
    isplitl [Hb]; · iexact Hb
    isplitl [Hv]; · iexact Hv
    isplitl [Hi]; · iexact Hi
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexact HO

end Cert.Proof

end
-- ==== Proof.Launch.lean ====
/-
  What the call carries between the host and the subcores, and how the two outputs split into bands and join again.
-/
module

public import proofs.«01_k».proof.Proof.Tile

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The grid points -/

def coordsV (c : Fin 2) (s : Fin 16) : grid0.Coords :=
  fun | 0 => c | 1 => s | ⟨_ + 2, h⟩ => absurd h (Nat.not_lt.2 (Nat.le_add_left _ _))

omit [FloatOps F] in
theorem nCore_zero : (K (F := F)).nCore 0 = 2 := rfl
omit [FloatOps F] in
theorem nSub_zero : (K (F := F)).nSub 0 = 16 := rfl

omit [FloatOps F] in
theorem row0_coordsV (c : Fin 2) (s : Fin 16) (b : ℕ) : row0 (coordsV c s) b = 32 * (2 * s.val + c.val) + 8 * b := rfl

/-! ## The handshakes' payload -/

def P : (K (F := F)).Pay (nD := nD) (Val := Elt F) (Name := ℕ) (U := UU) where
  st := fun q d c => match q with | 0 => bigSep Finset.univ fun s : Fin 16 => goPay d (coordsV (Fin.cast nCore_zero c) s)
  dn := fun q d c => match q with | 0 => bigSep Finset.univ fun s : Fin 16 => tdPay d (coordsV (Fin.cast nCore_zero c) s)
  go := fun q d c i => match q with | 0 => goPay d (coordsV (Fin.cast nCore_zero c) (Fin.cast nSub_zero i))
  td := fun q d c i => match q with | 0 => tdPay d (coordsV (Fin.cast nCore_zero c) (Fin.cast nSub_zero i))
  x := fun _ _ => iprop(emp)

omit [FloatOps F] in
theorem st_sep {A B : sProp 𝕄} (ha : BI.Storable (upEmb : UEmb _ 𝕄) A) (hb : BI.Storable (upEmb : UEmb _ 𝕄) B) : BI.Storable (upEmb : UEmb _ 𝕄) iprop(A ∗ B) :=
  BI.Storable.sep _ A B

omit [FloatOps F] in
theorem st_ex {α : Type} {Φ : α → sProp 𝕄} (h : ∀ a, BI.Storable (upEmb : UEmb _ 𝕄) (Φ a)) : BI.Storable (upEmb : UEmb _ 𝕄) iprop(∃ a, Φ a) :=
  BI.Storable.exists _ Φ

omit [FloatOps F] in
theorem st_pt (ℓ : Loc nD τ sig) (S : Finset (Idx ℓ)) (q : PosShare TreeShare) (f : Buf (Elt F) ℓ) :
    BI.Storable (upEmb : UEmb _ 𝕄) (ℓ ↦[S]{q} f : sProp 𝕄) := inferInstance

omit [FloatOps F] in
theorem st_big {I : Type} {s : Finset I} {Φ : I → sProp 𝕄} (h : ∀ a, BI.Storable (upEmb : UEmb _ 𝕄) (Φ a)) : BI.Storable (upEmb : UEmb _ 𝕄) (bigSep s Φ) :=
  BI.Storable.bigSep _ s Φ

instance goPay_storable (d : Dev nD) (L : grid0.Coords) : BI.Storable (upEmb : UEmb _ 𝕄) (goPay (F := F) d L) :=
  st_ex fun _ => st_ex fun _ => st_sep (st_pt _ _ _ _) (st_sep (st_pt _ _ _ _) (st_big fun _ => st_sep (st_ex fun _ => st_pt _ _ _ _) (st_ex fun _ => st_pt _ _ _ _)))
instance tdPay_storable (d : Dev nD) (L : grid0.Coords) : BI.Storable (upEmb : UEmb _ 𝕄) (tdPay (F := F) d L) :=
  st_ex fun _ => st_ex fun _ => st_sep (st_pt _ _ _ _) (st_sep (st_pt _ _ _ _) (st_big fun _ =>
    st_ex fun _ => st_ex fun _ => st_sep (BI.Storable.pure _ _) (st_sep (st_pt _ _ _ _) (st_pt _ _ _ _))))

attribute [local irreducible] goPay tdPay

instance P_storable : (P (F := F)).IsStorable where
  st q d c := match q with
    | 0 => st_big (s := Finset.univ) (Φ := fun s : Fin 16 => goPay d (coordsV (Fin.cast nCore_zero c) s)) fun _ => goPay_storable d _
  dn q d c := match q with
    | 0 => st_big (s := Finset.univ) (Φ := fun s : Fin 16 => tdPay d (coordsV (Fin.cast nCore_zero c) s)) fun _ => tdPay_storable d _
  go q d c i := match q with | 0 => goPay_storable d _
  td q d c i := match q with | 0 => tdPay_storable d _

/-! ## The tasks' obligation -/

theorem defs₀_vector (c : Fin τ.nSC) (s : Fin τ.nSub) :
    defs₀ (F := F) (.scVector c s) 0 ()
      = SparseCore.onTile hcore0 hsub0 (fun c s => cc0_compact (coordsV c s)
          dV (Memref.isWhole_whole _) tV (Memref.isWhole_whole _) cdV (Memref.isWhole_whole _) ciV (Memref.isWhole_whole _)
          sT (Memref.isWhole_whole _) sA (Memref.isWhole_whole _) sB (Memref.isWhole_whole _) sV (Memref.isWhole_whole _) sI (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 P v₀ 0 := by
  intro d c i O W hO _ _
  simp only [show (P (F := F)).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts O W hO).trans (wp_mono frame _ _ fun _ => obl_post)

theorem vecSplit : (K (F := F)).VecSplit' P 0 := by
  intro d c
  show iprop(bigSep Finset.univ fun s : Fin 16 => goPay d (coordsV (Fin.cast nCore_zero c) s)) ⊢ |={Set.univ}=> iprop(
      (bigSep Finset.univ fun i : Fin ((K (F := F)).nSub 0) => goPay d (coordsV (Fin.cast nCore_zero c) (Fin.cast nSub_zero i)))
      ∗ ((bigSep Finset.univ fun i : Fin ((K (F := F)).nSub 0) => tdPay d (coordsV (Fin.cast nCore_zero c) (Fin.cast nSub_zero i)))
          -∗ iprop(bigSep Finset.univ fun s : Fin 16 => tdPay d (coordsV (Fin.cast nCore_zero c) s))))
  iintro H; imodintro
  isplitl [H]; · iexact H
  iintro H; iexact H

end Cert.Proof

end
-- ==== Proof.Split.lean ====
/-
  How the host's arrays split among the subcores' bands before the call, and what the joined outputs hold after it.
-/
module

public import proofs.«01_k».proof.Proof.Launch

@[expose] public section

noncomputable section

namespace Cert.Proof

open Cert.KernelIdeal Cert.KernelIdeal.Gen Cert.Proof.Rows

open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The host's names of the four arrays -/

abbrev dLoc (d : Dev nD) : Loc nD τ sig := (d.tc : Thread nD τ).loc main_arg2
abbrev tLoc (d : Dev nD) : Loc nD τ sig := (d.tc : Thread nD τ).loc main_v3
abbrev cdLoc (d : Dev nD) : Loc nD τ sig := (d.tc : Thread nD τ).loc main_v4_0
abbrev ciLoc (d : Dev nD) : Loc nD τ sig := (d.tc : Thread nD τ).loc main_v4_1

/-- The bands: a SparseCore, a subcore of it, and one of its four bands. -/
abbrev BandIx : Type := (Fin 2 × Fin 16) × Fin k0_t1_loop.trips

/-- A band's grid point. -/
abbrev gp (t : BandIx) : grid0.Coords := coordsV t.1.1 t.1.2

/-- A band's cells in the two outputs. -/
def cdSet (t : BandIx) : Finset S1024x1024.Idx := (cdB (gp t) t.2).view.set
def ciSet (t : BandIx) : Finset S1024x1024.Idx := (ciB (gp t) t.2).view.set

theorem trips4 : k0_t1_loop.trips = 4 := rfl

theorem ciSet_eq : ciSet = cdSet := by
  funext t; unfold ciSet cdSet
  rw [View.set_slice_whole, View.set_slice_whole]

theorem mem_cdSet (t : BandIx) (i : S1024x1024.Idx) : i ∈ cdSet t ↔ row0 (gp t) t.2.val ≤ (i 0).val ∧ (i 0).val < row0 (gp t) t.2.val + 8 := by
  unfold cdSet
  rw [View.set_slice_whole, Rect.mem_set_unit, off21_eq]
  have h1 : (i 1).val < 1024 := (i 1).isLt
  constructor
  · intro h; exact h 0
  · intro h a
    match a with
    | 0 => exact h
    | 1 => exact ⟨Nat.zero_le _, by simpa using h1⟩

theorem cdSet_disjoint : ∀ t ∈ (Finset.univ : Finset BandIx), ∀ t' ∈ (Finset.univ : Finset BandIx), t ≠ t' → Disjoint (cdSet t) (cdSet t') := by
  rintro ⟨⟨c, s⟩, b⟩ - ⟨⟨c', s'⟩, b'⟩ - hne
  rw [Finset.disjoint_left]
  intro i hi hi'
  rw [mem_cdSet] at hi hi'
  simp only [gp, row0_coordsV] at hi hi'
  have hb : b.val < 4 := b.isLt
  have hb' : b'.val < 4 := b'.isLt
  have := c.isLt; have := c'.isLt; have := s.isLt; have := s'.isLt
  apply hne
  have e1 : c.val = c'.val := by omega
  have e2 : s.val = s'.val := by omega
  have e3 : b.val = b'.val := by omega
  rw [Prod.mk.injEq, Prod.mk.injEq]
  exact ⟨⟨Fin.ext e1, Fin.ext e2⟩, Fin.ext e3⟩

theorem cdSet_cover : Finset.univ.biUnion cdSet = Finset.univ := by
  rw [Finset.eq_univ_iff_forall]
  intro i
  have h0 : (i 0).val < 1024 := (i 0).isLt
  rw [Finset.mem_biUnion]
  refine ⟨((⟨(i 0).val / 32 % 2, by omega⟩, ⟨(i 0).val / 64, by omega⟩), ⟨(i 0).val % 32 / 8, by rw [trips4]; omega⟩), Finset.mem_univ _, ?_⟩
  rw [mem_cdSet]
  simp only [gp, row0_coordsV]
  omega

/-- The subcores, counted as their shares are. -/
def tileEquiv : Fin 2 × Fin 16 ≃ Fin (2 ^ 5) := (Equiv.prodComm _ _).trans (finProdFinEquiv (m := 16) (n := 2))

theorem rd_coordsV (x : Fin 2 × Fin 16) : rd (coordsV x.1 x.2) = leaf 5 (PosShare.right fullShare) (tileEquiv x) := by
  unfold rd
  congr 1
  apply Fin.ext
  show 2 * x.2.val + x.1.val = x.1.val + 2 * x.2.val
  omega

/-! ## Before the call -/

omit [FloatOps F] in
theorem big_mono {I : Type} {s : Finset I} {Φ Ψ : I → sProp 𝕄} (h : ∀ i ∈ s, Φ i ⊢ Ψ i) : bigSep s Φ ⊢ bigSep s Ψ := BI.bigSep_mono h

omit [FloatOps F] in
/-- A shared array's right half is the subcores' shares. -/
theorem shares (ℓ : Loc nD τ sig) (f : Buf (Elt F) ℓ) :
    (ℓ ↦{PosShare.right fullShare} f : sProp 𝕄) = bigSep Finset.univ fun x : Fin 2 × Fin 16 => ℓ ↦{rd (coordsV x.1 x.2)} f := by
  rw [pointsTo_leaves Finset.univ f 5, bigSep_univ_equiv tileEquiv]
  exact bigSep_congr fun x _ => by rw [rd_coordsV]

omit [FloatOps F] in
theorem halves (ℓ : Loc nD τ sig) (f : Buf (Elt F) ℓ) :
    (ℓ ↦{fullShare} f : sProp 𝕄) = iprop((ℓ ↦{PosShare.left fullShare} f) ∗ ℓ ↦{PosShare.right fullShare} f) :=
  BI.Entails.antisymm (pointsTo_share (PosShare.mem_left_op_right fullShare)).1 (pointsTo_share (PosShare.mem_left_op_right fullShare)).2

omit [FloatOps F] in
theorem cd_bands (d : Dev nD) (g : Buf (Elt F) (cdLoc d)) :
    (cdLoc d ↦{fullShare} g : sProp 𝕄) = bigSep Finset.univ fun x : Fin 2 × Fin 16 => bigSep Finset.univ fun b : Fin k0_t1_loop.trips => cdLoc d ↦[cdSet (x, b)]{fullShare} g := by
  rw [← bigSep_univ_prod (fun t : BandIx => (cdLoc d ↦[cdSet t]{fullShare} g : sProp 𝕄)), ← pointsTo_biUnion Finset.univ (ℓ := cdLoc d) cdSet cdSet_disjoint, cdSet_cover]
omit [FloatOps F] in
theorem ci_bands (d : Dev nD) (g : Buf (Elt F) (ciLoc d)) :
    (ciLoc d ↦{fullShare} g : sProp 𝕄) = bigSep Finset.univ fun x : Fin 2 × Fin 16 => bigSep Finset.univ fun b : Fin k0_t1_loop.trips => ciLoc d ↦[ciSet (x, b)]{fullShare} g := by
  rw [ciSet_eq, ← bigSep_univ_prod (fun t : BandIx => (ciLoc d ↦[cdSet t]{fullShare} g : sProp 𝕄)), ← pointsTo_biUnion Finset.univ (ℓ := ciLoc d) cdSet cdSet_disjoint, cdSet_cover]

theorem rawBand_intro (d : Dev nD) (t : BandIx) (g : Buf (Elt F) (cdLoc d)) (gi : Buf (Elt F) (ciLoc d)) :
    iprop((cdLoc d ↦[cdSet t]{fullShare} g) ∗ ciLoc d ↦[ciSet t]{fullShare} gi) ⊢ (rawBand d (gp t) t.2 : sProp 𝕄) := by
  unfold rawBand
  iintro ⟨H, Hi⟩
  isplitl [H]
  · iexists g; iexact H
  · iexists gi; iexact Hi

theorem goPay_intro (d : Dev nD) (x : Fin 2 × Fin 16) (fD : Buf (Elt F) (dLoc d)) (fT : Buf (Elt F) (tLoc d)) (g : Buf (Elt F) (cdLoc d)) (gi : Buf (Elt F) (ciLoc d)) :
    iprop((dLoc d ↦{rd (coordsV x.1 x.2)} fD) ∗ (tLoc d ↦{rd (coordsV x.1 x.2)} fT)
        ∗ (bigSep Finset.univ fun b : Fin k0_t1_loop.trips => cdLoc d ↦[cdSet (x, b)]{fullShare} g)
        ∗ (bigSep Finset.univ fun b : Fin k0_t1_loop.trips => ciLoc d ↦[ciSet (x, b)]{fullShare} gi))
      ⊢ (goPay d (coordsV x.1 x.2) : sProp 𝕄) := by
  unfold goPay
  rw [← bigSep_sep']
  iintro ⟨Hd, Ht, Hb⟩
  iexists fD, fT
  isplitl [Hd]; · iexact Hd
  isplitl [Ht]; · iexact Ht
  iapply (big_mono (s := Finset.univ) fun b _ => rawBand_intro d (x, b) g gi)
  iexact Hb

/-- The four arrays at the call: the host keeps the left halves of the two it shares, and the subcores' tasks get the rest. -/
theorem split (d : Dev nD) (fD : Buf (Elt F) (dLoc d)) (fT : Buf (Elt F) (tLoc d)) (g : Buf (Elt F) (cdLoc d)) (gi : Buf (Elt F) (ciLoc d)) :
    iprop((dLoc d ↦{fullShare} fD) ∗ (tLoc d ↦{fullShare} fT) ∗ (cdLoc d ↦{fullShare} g) ∗ ciLoc d ↦{fullShare} gi)
      ⊢ (iprop((dLoc d ↦{PosShare.left fullShare} fD) ∗ (tLoc d ↦{PosShare.left fullShare} fT)
        ∗ bigSep Finset.univ fun c : Fin 2 => bigSep Finset.univ fun s : Fin 16 => goPay d (coordsV c s)) : sProp 𝕄) := by
  rw [halves (dLoc d), halves (tLoc d), shares (dLoc d), shares (tLoc d), cd_bands, ci_bands,
    ← bigSep_univ_prod (fun x : Fin 2 × Fin 16 => (goPay d (coordsV x.1 x.2) : sProp 𝕄))]
  iintro ⟨⟨HdL, HdR⟩, ⟨HtL, HtR⟩, Hcd, Hci⟩
  isplitl [HdL]; · iexact HdL
  isplitl [HtL]; · iexact HtL
  iapply (big_mono (s := Finset.univ) fun x _ => goPay_intro d x fD fT g gi)
  rw [bigSep_sep', bigSep_sep', bigSep_sep']
  isplitl [HdR]; · iexact HdR
  isplitl [HtR]; · iexact HtR
  isplitl [Hcd]; · iexact Hcd
  iexact Hci

/-! ## After the call -/

omit [FloatOps F] in
/-- What each part turns into beside `R`, all do. -/
theorem bigSep_beside {I : Type} [DecidableEq I] (R : sProp 𝕄) (Φ Ψ : I → sProp 𝕄) (h : ∀ i, iprop(R ∗ Φ i) ⊢ iprop(R ∗ Ψ i)) (s : Finset I) :
    iprop(R ∗ bigSep s Φ) ⊢ iprop(R ∗ bigSep s Ψ) := by
  induction s using Finset.induction_on with
  | empty =>
    rw [bigSep_empty, bigSep_empty]
  | insert a s ha ih =>
    rw [SparseCore.bigSep_insert' ha, SparseCore.bigSep_insert' ha]
    iintro ⟨HR, Ha, Hs⟩
    ihave H := (h a) $$ [HR Ha]
    · isplitl [HR] <;> iassumption
    icases H with ⟨HR, Ha⟩
    ihave H := ih $$ [HR Hs]
    · isplitl [HR] <;> iassumption
    icases H with ⟨HR, Hs⟩
    isplitl [HR]; · iexact HR
    isplitl [Ha] <;> iassumption

omit [FloatOps F] in
theorem agree_keep (ℓ : Loc nD τ sig) (q₁ q₂ : PosShare TreeShare) (f g : Buf (Elt F) ℓ) :
    iprop((ℓ ↦{q₁} f) ∗ ℓ ↦{q₂} g) ⊢ (iprop(⌜g = f⌝ ∗ (ℓ ↦{q₁} f) ∗ ℓ ↦{q₂} g) : sProp 𝕄) := by
  iintro H
  ihave H := (persistent_entails_right (pointsTo_agree (ℓ := ℓ) (I := Finset.univ) (J := Finset.univ) (q₁ := q₁) (q₂ := q₂) (f := f) (g := g))) $$ H
  icases H with ⟨%h, H⟩
  isplitr
  · ipureintro; exact funext fun i => ((h i (Finset.mem_inter.mpr ⟨Finset.mem_univ i, Finset.mem_univ i⟩)).1).symm
  · iexact H

/-- A subcore's task gave its bands back compacted by the very distances and thresholds the host still holds. -/
theorem tdPay_agree (d : Dev nD) (fD : Buf (Elt F) (dLoc d)) (fT : Buf (Elt F) (tLoc d)) (x : Fin 2 × Fin 16) :
    iprop(((dLoc d ↦{PosShare.left fullShare} fD) ∗ (tLoc d ↦{PosShare.left fullShare} fT)) ∗ tdPay d (coordsV x.1 x.2))
      ⊢ (iprop(((dLoc d ↦{PosShare.left fullShare} fD) ∗ (tLoc d ↦{PosShare.left fullShare} fT))
        ∗ (dLoc d ↦{rd (coordsV x.1 x.2)} fD) ∗ (tLoc d ↦{rd (coordsV x.1 x.2)} fT)
        ∗ bigSep Finset.univ fun b : Fin k0_t1_loop.trips => doneBand fD fT d (coordsV x.1 x.2) b) : sProp 𝕄) := by
  unfold tdPay
  iintro ⟨⟨Hd, Ht⟩, %fD', %fT', Hd', Ht', H⟩
  ihave Hd := (agree_keep (dLoc d) (PosShare.left fullShare) (rd (coordsV x.1 x.2)) fD fD') $$ [Hd Hd']
  · isplitl [Hd]; · iexact Hd
    iexact Hd'
  ihave Ht := (agree_keep (tLoc d) (PosShare.left fullShare) (rd (coordsV x.1 x.2)) fT fT') $$ [Ht Ht']
  · isplitl [Ht]; · iexact Ht
    iexact Ht'
  icases Hd with ⟨%eD, Hd, Hd'⟩
  icases Ht with ⟨%eT, Ht, Ht'⟩
  subst eD; subst eT
  isplitl [Hd Ht]
  · isplitl [Hd] <;> iassumption
  isplitl [Hd']; · iexact Hd'
  isplitl [Ht']; · iexact Ht'
  iexact H

/-- What the two outputs hold after the call. -/
def Compacted (fD : Vec F S1024x100000 .f32) (fT : Vec F S1024x16 .f32) (g : Vec F S1024x1024 .f32) (gi : Vec F S1024x1024 .i32) : Prop :=
  ∀ t : BandIx, VRows (bandD fD (row0 (gp t) t.2.val)) (bandT fT (row0 (gp t) t.2.val)) (fun _ => 100000) (fun j => (cdB (gp t) t.2).view.read (Elt F) g j)
    ∧ IRows (bandD fD (row0 (gp t) t.2.val)) (bandT fT (row0 (gp t) t.2.val)) (fun _ => 100000) (fun j => (ciB (gp t) t.2).view.read (Elt F) gi j)

omit [FloatOps F] in
theorem read_cd_congr (t : BandIx) (g g' : Vec F S1024x1024 .f32) (h : ∀ i ∈ cdSet t, g i = g' i) :
    (fun j => (cdB (gp t) t.2).view.read (Elt F) g j) = fun j => (cdB (gp t) t.2).view.read (Elt F) g' j :=
  funext fun j => h _ (View.emb_mem_set _ j)
omit [FloatOps F] in
theorem read_ci_congr (t : BandIx) (g g' : Vec F S1024x1024 .i32) (h : ∀ i ∈ ciSet t, g i = g' i) :
    (fun j => (ciB (gp t) t.2).view.read (Elt F) g j) = fun j => (ciB (gp t) t.2).view.read (Elt F) g' j :=
  funext fun j => h _ (View.emb_mem_set _ j)

theorem bands_join (d : Dev nD) (fD : Vec F S1024x100000 .f32) (fT : Vec F S1024x16 .f32) :
    (bigSep Finset.univ fun t : BandIx => doneBand fD fT d (gp t) t.2)
      ⊢ (iprop(∃ g gi, ⌜Compacted fD fT g gi⌝ ∗ (cdLoc d ↦{fullShare} g) ∗ ciLoc d ↦{fullShare} gi) : sProp 𝕄) := by
  let φ : BandIx → Buf (Elt F) (cdLoc d) × Buf (Elt F) (ciLoc d) → Prop := fun t y =>
    VRows (bandD fD (row0 (gp t) t.2.val)) (bandT fT (row0 (gp t) t.2.val)) (fun _ => 100000) (fun j => (cdB (gp t) t.2).view.read (Elt F) y.1 j)
    ∧ IRows (bandD fD (row0 (gp t) t.2.val)) (bandT fT (row0 (gp t) t.2.val)) (fun _ => 100000) (fun j => (ciB (gp t) t.2).view.read (Elt F) y.2 j)
  let Ψ : (t : BandIx) → Buf (Elt F) (cdLoc d) × Buf (Elt F) (ciLoc d) → sProp 𝕄 := fun t y =>
    iprop(⌜φ t y⌝ ∗ (cdLoc d ↦[cdSet t]{fullShare} y.1) ∗ ciLoc d ↦[ciSet t]{fullShare} y.2)
  have h1 : (bigSep Finset.univ fun t : BandIx => doneBand fD fT d (gp t) t.2) ⊢ bigSep Finset.univ fun t : BandIx => iprop(∃ y, Ψ t y) :=
    big_mono fun t _ => by
      unfold doneBand
      iintro ⟨%g, %gi, H⟩
      iexists (g, gi)
      iexact H
  have : Nonempty (Buf (Elt F) (cdLoc d) × Buf (Elt F) (ciLoc d)) := ⟨(fun _ => fill, fun _ => (0#32 : BitVec 32))⟩
  refine h1.trans ((bigSep_exists_pi Finset.univ Ψ).trans ?_)
  iintro ⟨%y, H⟩
  ihave H := (bigSep_pure_sep Finset.univ (fun t => φ t (y t)) (fun t => iprop((cdLoc d ↦[cdSet t]{fullShare} (y t).1) ∗ ciLoc d ↦[ciSet t]{fullShare} (y t).2))) $$ H
  icases H with ⟨%hφ, H⟩
  ihave H := (Entails.of_eq (bigSep_sep' (s := Finset.univ) (fun t : BandIx => (cdLoc d ↦[cdSet t]{fullShare} (y t).1 : sProp 𝕄)) (fun t => ciLoc d ↦[ciSet t]{fullShare} (y t).2))) $$ H
  icases H with ⟨Hc, Hi⟩
  let t₀ : BandIx := ((0, 0), ⟨0, by decide⟩)
  ihave Hc := (pointsTo_biUnion_join (ℓ := cdLoc d) (q := fullShare) (Val := Elt F) Finset.univ cdSet (fun t => (y t).1) (y t₀).1 cdSet_disjoint) $$ Hc
  ihave Hi := (pointsTo_biUnion_join (ℓ := ciLoc d) (q := fullShare) (Val := Elt F) Finset.univ ciSet (fun t => (y t).2) (y t₀).2 (ciSet_eq ▸ cdSet_disjoint)) $$ Hi
  icases Hc with ⟨%g, %hg, Hc⟩
  icases Hi with ⟨%gi, %hgi, Hi⟩
  rw [ciSet_eq, cdSet_cover]
  iexists g, gi
  isplitr
  · ipureintro
    intro t
    have e1 := read_cd_congr (F := F) t g (y t).1 (hg t (Finset.mem_univ _))
    have e2 := read_ci_congr (F := F) t gi (y t).2 (hgi t (Finset.mem_univ _))
    rw [e1, e2]
    exact hφ t (Finset.mem_univ _)
  isplitl [Hc]; · iexact Hc
  iexact Hi

/-- After the call: the outputs whole again, compacted by what the host's halves hold. -/
theorem join (d : Dev nD) (fD : Buf (Elt F) (dLoc d)) (fT : Buf (Elt F) (tLoc d)) :
    iprop((dLoc d ↦{PosShare.left fullShare} fD) ∗ (tLoc d ↦{PosShare.left fullShare} fT)
        ∗ bigSep Finset.univ fun c : Fin 2 => bigSep Finset.univ fun s : Fin 16 => tdPay d (coordsV c s))
      ⊢ (iprop((dLoc d ↦{fullShare} fD) ∗ (tLoc d ↦{fullShare} fT)
        ∗ ∃ g gi, ⌜Compacted fD fT g gi⌝ ∗ (cdLoc d ↦{fullShare} g) ∗ ciLoc d ↦{fullShare} gi) : sProp 𝕄) := by
  rw [← bigSep_univ_prod (fun x : Fin 2 × Fin 16 => (tdPay d (coordsV x.1 x.2) : sProp 𝕄)), halves (dLoc d), halves (tLoc d), shares (dLoc d), shares (tLoc d)]
  iintro ⟨Hd, Ht, H⟩
  ihave H := (bigSep_beside (I := Fin 2 × Fin 16) _ _ _ (tdPay_agree d fD fT) Finset.univ) $$ [Hd Ht H]
  · isplitl [Hd Ht]
    · isplitl [Hd] <;> iassumption
    iexact H
  rw [bigSep_sep', bigSep_sep']
  icases H with ⟨⟨Hd, Ht⟩, Hd', Ht', H⟩
  ihave H := (Entails.of_eq (bigSep_univ_prod (fun t : BandIx => (doneBand fD fT d (gp t) t.2 : sProp 𝕄))).symm) $$ H
  ihave H := (bands_join d fD fT) $$ H
  isplitl [Hd Hd']
  · isplitl [Hd] <;> iassumption
  isplitl [Ht Ht']
  · isplitl [Ht] <;> iassumption
  iexact H

end Cert.Proof

end
-- ==== Proof.HostOps.lean ====
/-
  The host operations of @main as lists, and what each called function returns of its operands.
-/
module

public import proofs.«01_k».proof.Proof.Gen.KernelIdeal
public import proofs.«01_k».proof.Proof.Gen.KernelIdeal.Skeleton
public import Idealize.ShloMosaic.Lib.StableHlo.Run

@[expose] public section

noncomputable section

namespace Cert.Proof.HostOps

open Cert.KernelIdeal Cert.KernelIdeal.Gen Idealize.ShloMosaic Idealize.ShloMosaic.TcCoe Idealize.SL.Sem Idealize.ShloMosaic.StableHlo

variable {F : FTy → Type} [FloatOps F]

/-! ## `take_along_axis` -/

/-- The operations of the called `take_along_axis`, in order. -/
def alongOps (arg0 : TRef sig ⟨S1024x1024, .i32⟩) (arg1 : TRef sig ⟨S1024x320, .i32⟩) (φ : fn_take_along_axis.Bufs) : List (HloOp τ sig (Elt F)) :=
  [ TRef.nullary φ.c (constantI S_ 32 0#32),
    TRef.unary φ.c φ.v0 (broadcastInDim S1024x320 ![] bcast_S_S1024x320),
    TRef.binary arg1 φ.v0 φ.v1 (cmpi .slt),
    TRef.nullary φ.c_0 (constantI S_ 32 1024#32),
    TRef.unary φ.c_0 φ.v2 (broadcastInDim S1024x320 ![] bcast_S_S1024x320),
    TRef.binary arg1 φ.v2 φ.v3 addi,
    TRef.ternary φ.v1 φ.v3 arg1 φ.v4 select,
    TRef.reshape φ.v4 φ.v5 (rfl : (.i32 : EltTy) = .i32) shapeCasts_S1024x320_S1024x320x1,
    TRef.nullary φ.c_1 (constantI S1 32 1023#32),
    TRef.nullary φ.c_2 (constantI S_ 32 0#32),
    TRef.unary φ.c_2 φ.v6 (broadcastInDim S1024x320x1 ![] bcast_S_S1024x320x1),
    TRef.binary φ.v5 φ.v6 φ.v7 (cmpi .sge),
    TRef.unary φ.c_1 φ.v8 (broadcastInDim S1x1x1 ![2] bcast_S1_S1x1x1_2),
    TRef.unary φ.v8 φ.v9 (broadcastInDim S1024x320x1 ![0, 1, 2] bcast_S1x1x1_S1024x320x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1024x320x1_S1024x320_d2 h_S_),
    TRef.binary arg0 φ.v5 φ.v13 (fun x i => Host.gather gather_S1024x1024_S1024x320x1_S1024x320_n_1_0_0_1_2_11 x i),
    TRef.nullary φ.c_4 (constantI S_ 32 2147483648#32),
    TRef.unary φ.c_4 φ.v14 (broadcastInDim S1024x320 ![] bcast_S_S1024x320),
    TRef.ternary φ.v12 φ.v13 φ.v14 φ.v15 select ]

/-- What `take_along_axis` returns, of its operands. -/
def alongV (arg0 : (⟨S1024x1024, .i32⟩ : BufTy).Contents (Elt F)) (arg1 : (⟨S1024x320, .i32⟩ : BufTy).Contents (Elt F)) : (⟨S1024x320, .i32⟩ : BufTy).Contents (Elt F) :=
  let c : (⟨S_, .i32⟩ : BufTy).Contents (Elt F) := constantI S_ 32 0#32
  let v0 : (⟨S1024x320, .i32⟩ : BufTy).Contents (Elt F) := (broadcastInDim S1024x320 ![] bcast_S_S1024x320) c
  let v1 : (⟨S1024x320, .i1⟩ : BufTy).Contents (Elt F) := (cmpi .slt) arg1 v0
  let c_0 : (⟨S_, .i32⟩ : BufTy).Contents (Elt F) := constantI S_ 32 1024#32
  let v2 : (⟨S1024x320, .i32⟩ : BufTy).Contents (Elt F) := (broadcastInDim S1024x320 ![] bcast_S_S1024x320) c_0
  let v3 : (⟨S1024x320, .i32⟩ : BufTy).Contents (Elt F) := addi arg1 v2
  let v4 : (⟨S1024x320, .i32⟩ : BufTy).Contents (Elt F) := select v1 v3 arg1
  let v5 : (⟨S1024x320x1, .i32⟩ : BufTy).Contents (Elt F) := shapeCast _ v4 shapeCasts_S1024x320_S1024x320x1
  let c_1 : (⟨S1, .i32⟩ : BufTy).Contents (Elt F) := constantI S1 32 1023#32
  let c_2 : (⟨S_, .i32⟩ : BufTy).Contents (Elt F) := constantI S_ 32 0#32
  let v6 : (⟨S1024x320x1, .i32⟩ : BufTy).Contents (Elt F) := (broadcastInDim S1024x320x1 ![] bcast_S_S1024x320x1) c_2
  let v7 : (⟨S1024x320x1, .i1⟩ : BufTy).Contents (Elt F) := (cmpi .sge) v5 v6
  let v8 : (⟨S1x1x1, .i32⟩ : BufTy).Contents (Elt F) := (broadcastInDim S1x1x1 ![2] bcast_S1_S1x1x1_2) c_1
  let v9 : (⟨S1024x320x1, .i32⟩ : BufTy).Contents (Elt F) := (broadcastInDim S1024x320x1 ![0, 1, 2] bcast_S1x1x1_S1024x320x1_0_1_2) v8
  let v10 : (⟨S1024x320x1, .i1⟩ : BufTy).Contents (Elt F) := (cmpi .sle) v5 v9
  let v11 : (⟨S1024x320x1, .i1⟩ : BufTy).Contents (Elt F) := andi v7 v10
  let c_3 : (⟨S_, .i1⟩ : BufTy).Contents (Elt F) := constantI S_ 1 1#1
  let v12 : (⟨S1024x320, .i1⟩ : BufTy).Contents (Elt F) := (fun x v => Host.reduce IntOp.andi x v reducesTo_S1024x320x1_S1024x320_d2 h_S_) v11 c_3
  let v13 : (⟨S1024x320, .i32⟩ : BufTy).Contents (Elt F) := (fun x i => Host.gather gather_S1024x1024_S1024x320x1_S1024x320_n_1_0_0_1_2_11 x i) arg0 v5
  let c_4 : (⟨S_, .i32⟩ : BufTy).Contents (Elt F) := constantI S_ 32 2147483648#32
  let v14 : (⟨S1024x320, .i32⟩ : BufTy).Contents (Elt F) := (broadcastInDim S1024x320 ![] bcast_S_S1024x320) c_4
  select v12 v13 v14

/-! ## `take` -/

/-- The operations of the called `take`, in order. -/
def takeOps (arg0 : TRef sig ⟨S100000x64, .f32⟩) (arg1 : TRef sig ⟨S1024x320, .i32⟩) (φ : fn_take.Bufs) : List (HloOp τ sig (Elt F)) :=
  [ TRef.nullary φ.c (constantI S_ 32 0#32),
    TRef.unary φ.c φ.v0 (broadcastInDim S1024x320 ![] bcast_S_S1024x320),
    TRef.binary arg1 φ.v0 φ.v1 (cmpi .slt),
    TRef.nullary φ.c_0 (constantI S_ 32 100000#32),
    TRef.unary φ.c_0 φ.v2 (broadcastInDim S1024x320 ![] bcast_S_S1024x320),
    TRef.binary arg1 φ.v2 φ.v3 addi,
    TRef.ternary φ.v1 φ.v3 arg1 φ.call0.v0 select,
    TRef.unary φ.call0.v0 φ.v5 (broadcastInDim S1024x320x1 ![0, 1] bcast_S1024x320_S1024x320x1_0_1),
    TRef.nullary φ.c_1 (constantI S1 32 99999#32),
    TRef.nullary φ.c_2 (constantI S_ 32 0#32),
    TRef.unary φ.c_2 φ.v6 (broadcastInDim S1024x320x1 ![] bcast_S_S1024x320x1),
    TRef.binary φ.v5 φ.v6 φ.v7 (cmpi .sge),
    TRef.unary φ.c_1 φ.v8 (broadcastInDim S1x1x1 ![2] bcast_S1_S1x1x1_2),
    TRef.unary φ.v8 φ.v9 (broadcastInDim S1024x320x1 ![0, 1, 2] bcast_S1x1x1_S1024x320x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1024x320x1_S1024x320_d2 h_S_),
    TRef.binary arg0 φ.v5 φ.v13 (fun x i => Host.gather gather_S100000x64_S1024x320x1_S1024x320x64_2_0_n_n_0_2_164 x i),
    TRef.unary φ.v12 φ.v14 (broadcastInDim S1024x320x64 ![0, 1] bcast_S1024x320_S1024x320x64_0_1),
    TRef.nullary φ.cst (constant S_ .f32 0x7FC00000#32),
    TRef.unary φ.cst φ.v15 (broadcastInDim S1024x320x64 ![] bcast_S_S1024x320x64),
    TRef.ternary φ.v14 φ.v13 φ.v15 φ.v16 select ]

/-- What `take` returns, of its operands. -/
def takeV (arg0 : (⟨S100000x64, .f32⟩ : BufTy).Contents (Elt F)) (arg1 : (⟨S1024x320, .i32⟩ : BufTy).Contents (Elt F)) : (⟨S1024x320x64, .f32⟩ : BufTy).Contents (Elt F) :=
  let c : (⟨S_, .i32⟩ : BufTy).Contents (Elt F) := constantI S_ 32 0#32
  let v0 : (⟨S1024x320, .i32⟩ : BufTy).Contents (Elt F) := (broadcastInDim S1024x320 ![] bcast_S_S1024x320) c
  let v1 : (⟨S1024x320, .i1⟩ : BufTy).Contents (Elt F) := (cmpi .slt) arg1 v0
  let c_0 : (⟨S_, .i32⟩ : BufTy).Contents (Elt F) := constantI S_ 32 100000#32
  let v2 : (⟨S1024x320, .i32⟩ : BufTy).Contents (Elt F) := (broadcastInDim S1024x320 ![] bcast_S_S1024x320) c_0
  let v3 : (⟨S1024x320, .i32⟩ : BufTy).Contents (Elt F) := addi arg1 v2
  let v4 : (⟨S1024x320, .i32⟩ : BufTy).Contents (Elt F) := select v1 v3 arg1
  let v5 : (⟨S1024x320x1, .i32⟩ : BufTy).Contents (Elt F) := (broadcastInDim S1024x320x1 ![0, 1] bcast_S1024x320_S1024x320x1_0_1) v4
  let c_1 : (⟨S1, .i32⟩ : BufTy).Contents (Elt F) := constantI S1 32 99999#32
  let c_2 : (⟨S_, .i32⟩ : BufTy).Contents (Elt F) := constantI S_ 32 0#32
  let v6 : (⟨S1024x320x1, .i32⟩ : BufTy).Contents (Elt F) := (broadcastInDim S1024x320x1 ![] bcast_S_S1024x320x1) c_2
  let v7 : (⟨S1024x320x1, .i1⟩ : BufTy).Contents (Elt F) := (cmpi .sge) v5 v6
  let v8 : (⟨S1x1x1, .i32⟩ : BufTy).Contents (Elt F) := (broadcastInDim S1x1x1 ![2] bcast_S1_S1x1x1_2) c_1
  let v9 : (⟨S1024x320x1, .i32⟩ : BufTy).Contents (Elt F) := (broadcastInDim S1024x320x1 ![0, 1, 2] bcast_S1x1x1_S1024x320x1_0_1_2) v8
  let v10 : (⟨S1024x320x1, .i1⟩ : BufTy).Contents (Elt F) := (cmpi .sle) v5 v9
  let v11 : (⟨S1024x320x1, .i1⟩ : BufTy).Contents (Elt F) := andi v7 v10
  let c_3 : (⟨S_, .i1⟩ : BufTy).Contents (Elt F) := constantI S_ 1 1#1
  let v12 : (⟨S1024x320, .i1⟩ : BufTy).Contents (Elt F) := (fun x v => Host.reduce IntOp.andi x v reducesTo_S1024x320x1_S1024x320_d2 h_S_) v11 c_3
  let v13 : (⟨S1024x320x64, .f32⟩ : BufTy).Contents (Elt F) := (fun x i => Host.gather gather_S100000x64_S1024x320x1_S1024x320x64_2_0_n_n_0_2_164 x i) arg0 v5
  let v14 : (⟨S1024x320x64, .i1⟩ : BufTy).Contents (Elt F) := (broadcastInDim S1024x320x64 ![0, 1] bcast_S1024x320_S1024x320x64_0_1) v12
  let cst : (⟨S_, .f32⟩ : BufTy).Contents (Elt F) := constant S_ .f32 0x7FC00000#32
  let v15 : (⟨S1024x320x64, .f32⟩ : BufTy).Contents (Elt F) := (broadcastInDim S1024x320x64 ![] bcast_S_S1024x320x64) cst
  select v14 v13 v15

/-! ## `take_along_axis_0` -/

/-- The operations of the called `take_along_axis_0`, in order. -/
def along0Ops (arg0 : TRef sig ⟨S1024x320, .i32⟩) (arg1 : TRef sig ⟨S1024x5, .i32⟩) (φ : fn_take_along_axis_0.Bufs) : List (HloOp τ sig (Elt F)) :=
  [ TRef.nullary φ.c (constantI S_ 32 0#32),
    TRef.unary φ.c φ.v0 (broadcastInDim S1024x5 ![] bcast_S_S1024x5),
    TRef.binary arg1 φ.v0 φ.v1 (cmpi .slt),
    TRef.nullary φ.c_0 (constantI S_ 32 320#32),
    TRef.unary φ.c_0 φ.v2 (broadcastInDim S1024x5 ![] bcast_S_S1024x5),
    TRef.binary arg1 φ.v2 φ.v3 addi,
    TRef.ternary φ.v1 φ.v3 arg1 φ.v4 select,
    TRef.reshape φ.v4 φ.v5 (rfl : (.i32 : EltTy) = .i32) shapeCasts_S1024x5_S1024x5x1,
    TRef.nullary φ.c_1 (constantI S1 32 319#32),
    TRef.nullary φ.c_2 (constantI S_ 32 0#32),
    TRef.unary φ.c_2 φ.v6 (broadcastInDim S1024x5x1 ![] bcast_S_S1024x5x1),
    TRef.binary φ.v5 φ.v6 φ.v7 (cmpi .sge),
    TRef.unary φ.c_1 φ.v8 (broadcastInDim S1x1x1 ![2] bcast_S1_S1x1x1_2),
    TRef.unary φ.v8 φ.v9 (broadcastInDim S1024x5x1 ![0, 1, 2] bcast_S1x1x1_S1024x5x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1024x5x1_S1024x5_d2 h_S_),
    TRef.binary arg0 φ.v5 φ.v13 (fun x i => Host.gather gather_S1024x320_S1024x5x1_S1024x5_n_1_0_0_1_2_11 x i),
    TRef.nullary φ.c_4 (constantI S_ 32 2147483648#32),
    TRef.unary φ.c_4 φ.v14 (broadcastInDim S1024x5 ![] bcast_S_S1024x5),
    TRef.ternary φ.v12 φ.v13 φ.v14 φ.v15 select ]

/-- What `take_along_axis_0` returns, of its operands. -/
def along0V (arg0 : (⟨S1024x320, .i32⟩ : BufTy).Contents (Elt F)) (arg1 : (⟨S1024x5, .i32⟩ : BufTy).Contents (Elt F)) : (⟨S1024x5, .i32⟩ : BufTy).Contents (Elt F) :=
  let c : (⟨S_, .i32⟩ : BufTy).Contents (Elt F) := constantI S_ 32 0#32
  let v0 : (⟨S1024x5, .i32⟩ : BufTy).Contents (Elt F) := (broadcastInDim S1024x5 ![] bcast_S_S1024x5) c
  let v1 : (⟨S1024x5, .i1⟩ : BufTy).Contents (Elt F) := (cmpi .slt) arg1 v0
  let c_0 : (⟨S_, .i32⟩ : BufTy).Contents (Elt F) := constantI S_ 32 320#32
  let v2 : (⟨S1024x5, .i32⟩ : BufTy).Contents (Elt F) := (broadcastInDim S1024x5 ![] bcast_S_S1024x5) c_0
  let v3 : (⟨S1024x5, .i32⟩ : BufTy).Contents (Elt F) := addi arg1 v2
  let v4 : (⟨S1024x5, .i32⟩ : BufTy).Contents (Elt F) := select v1 v3 arg1
  let v5 : (⟨S1024x5x1, .i32⟩ : BufTy).Contents (Elt F) := shapeCast _ v4 shapeCasts_S1024x5_S1024x5x1
  let c_1 : (⟨S1, .i32⟩ : BufTy).Contents (Elt F) := constantI S1 32 319#32
  let c_2 : (⟨S_, .i32⟩ : BufTy).Contents (Elt F) := constantI S_ 32 0#32
  let v6 : (⟨S1024x5x1, .i32⟩ : BufTy).Contents (Elt F) := (broadcastInDim S1024x5x1 ![] bcast_S_S1024x5x1) c_2
  let v7 : (⟨S1024x5x1, .i1⟩ : BufTy).Contents (Elt F) := (cmpi .sge) v5 v6
  let v8 : (⟨S1x1x1, .i32⟩ : BufTy).Contents (Elt F) := (broadcastInDim S1x1x1 ![2] bcast_S1_S1x1x1_2) c_1
  let v9 : (⟨S1024x5x1, .i32⟩ : BufTy).Contents (Elt F) := (broadcastInDim S1024x5x1 ![0, 1, 2] bcast_S1x1x1_S1024x5x1_0_1_2) v8
  let v10 : (⟨S1024x5x1, .i1⟩ : BufTy).Contents (Elt F) := (cmpi .sle) v5 v9
  let v11 : (⟨S1024x5x1, .i1⟩ : BufTy).Contents (Elt F) := andi v7 v10
  let c_3 : (⟨S_, .i1⟩ : BufTy).Contents (Elt F) := constantI S_ 1 1#1
  let v12 : (⟨S1024x5, .i1⟩ : BufTy).Contents (Elt F) := (fun x v => Host.reduce IntOp.andi x v reducesTo_S1024x5x1_S1024x5_d2 h_S_) v11 c_3
  let v13 : (⟨S1024x5, .i32⟩ : BufTy).Contents (Elt F) := (fun x i => Host.gather gather_S1024x320_S1024x5x1_S1024x5_n_1_0_0_1_2_11 x i) arg0 v5
  let c_4 : (⟨S_, .i32⟩ : BufTy).Contents (Elt F) := constantI S_ 32 2147483648#32
  let v14 : (⟨S1024x5, .i32⟩ : BufTy).Contents (Elt F) := (broadcastInDim S1024x5 ![] bcast_S_S1024x5) c_4
  select v12 v13 v14

/-! ## `take_along_axis_1` -/

/-- The operations of the called `take_along_axis_1`, in order. -/
def along1Ops (arg0 : TRef sig ⟨S1024x320x64, .f32⟩) (arg1 : TRef sig ⟨S1024x5x1, .i32⟩) (φ : fn_take_along_axis_1.Bufs) : List (HloOp τ sig (Elt F)) :=
  [ TRef.nullary φ.c (constantI S_ 32 0#32),
    TRef.unary φ.c φ.v0 (broadcastInDim S1024x5x1 ![] bcast_S_S1024x5x1),
    TRef.binary arg1 φ.v0 φ.v1 (cmpi .slt),
    TRef.nullary φ.c_0 (constantI S_ 32 320#32),
    TRef.unary φ.c_0 φ.v2 (broadcastInDim S1024x5x1 ![] bcast_S_S1024x5x1),
    TRef.binary arg1 φ.v2 φ.v3 addi,
    TRef.ternary φ.v1 φ.v3 arg1 φ.v4 select,
    TRef.nullary φ.c_1 (constantI S1 32 319#32),
    TRef.nullary φ.c_2 (constantI S_ 32 0#32),
    TRef.unary φ.c_2 φ.v5 (broadcastInDim S1024x5x1 ![] bcast_S_S1024x5x1),
    TRef.binary φ.v4 φ.v5 φ.v6 (cmpi .sge),
    TRef.unary φ.c_1 φ.v7 (broadcastInDim S1x1x1 ![2] bcast_S1_S1x1x1_2),
    TRef.unary φ.v7 φ.v8 (broadcastInDim S1024x5x1 ![0, 1, 2] bcast_S1x1x1_S1024x5x1_0_1_2),
    TRef.binary φ.v4 φ.v8 φ.v9 (cmpi .sle),
    TRef.binary φ.v6 φ.v9 φ.v10 andi,
    TRef.nullary φ.c_3 (constantI S_ 1 1#1),
    TRef.binary φ.v10 φ.c_3 φ.v11 (fun x v => Host.reduce IntOp.andi x v reducesTo_S1024x5x1_S1024x5_d2 h_S_),
    TRef.binary arg0 φ.v4 φ.v12 (fun x i => Host.gather gather_S1024x320x64_S1024x5x1_S1024x5x64_2_1_0_0_1_2_1164 x i),
    TRef.unary φ.v11 φ.v13 (broadcastInDim S1024x5x64 ![0, 1] bcast_S1024x5_S1024x5x64_0_1),
    TRef.nullary φ.cst (constant S_ .f32 0x7FC00000#32),
    TRef.unary φ.cst φ.v14 (broadcastInDim S1024x5x64 ![] bcast_S_S1024x5x64),
    TRef.ternary φ.v13 φ.v12 φ.v14 φ.v15 select ]

/-- What `take_along_axis_1` returns, of its operands. -/
def along1V (arg0 : (⟨S1024x320x64, .f32⟩ : BufTy).Contents (Elt F)) (arg1 : (⟨S1024x5x1, .i32⟩ : BufTy).Contents (Elt F)) : (⟨S1024x5x64, .f32⟩ : BufTy).Contents (Elt F) :=
  let c : (⟨S_, .i32⟩ : BufTy).Contents (Elt F) := constantI S_ 32 0#32
  let v0 : (⟨S1024x5x1, .i32⟩ : BufTy).Contents (Elt F) := (broadcastInDim S1024x5x1 ![] bcast_S_S1024x5x1) c
  let v1 : (⟨S1024x5x1, .i1⟩ : BufTy).Contents (Elt F) := (cmpi .slt) arg1 v0
  let c_0 : (⟨S_, .i32⟩ : BufTy).Contents (Elt F) := constantI S_ 32 320#32
  let v2 : (⟨S1024x5x1, .i32⟩ : BufTy).Contents (Elt F) := (broadcastInDim S1024x5x1 ![] bcast_S_S1024x5x1) c_0
  let v3 : (⟨S1024x5x1, .i32⟩ : BufTy).Contents (Elt F) := addi arg1 v2
  let v4 : (⟨S1024x5x1, .i32⟩ : BufTy).Contents (Elt F) := select v1 v3 arg1
  let c_1 : (⟨S1, .i32⟩ : BufTy).Contents (Elt F) := constantI S1 32 319#32
  let c_2 : (⟨S_, .i32⟩ : BufTy).Contents (Elt F) := constantI S_ 32 0#32
  let v5 : (⟨S1024x5x1, .i32⟩ : BufTy).Contents (Elt F) := (broadcastInDim S1024x5x1 ![] bcast_S_S1024x5x1) c_2
  let v6 : (⟨S1024x5x1, .i1⟩ : BufTy).Contents (Elt F) := (cmpi .sge) v4 v5
  let v7 : (⟨S1x1x1, .i32⟩ : BufTy).Contents (Elt F) := (broadcastInDim S1x1x1 ![2] bcast_S1_S1x1x1_2) c_1
  let v8 : (⟨S1024x5x1, .i32⟩ : BufTy).Contents (Elt F) := (broadcastInDim S1024x5x1 ![0, 1, 2] bcast_S1x1x1_S1024x5x1_0_1_2) v7
  let v9 : (⟨S1024x5x1, .i1⟩ : BufTy).Contents (Elt F) := (cmpi .sle) v4 v8
  let v10 : (⟨S1024x5x1, .i1⟩ : BufTy).Contents (Elt F) := andi v6 v9
  let c_3 : (⟨S_, .i1⟩ : BufTy).Contents (Elt F) := constantI S_ 1 1#1
  let v11 : (⟨S1024x5, .i1⟩ : BufTy).Contents (Elt F) := (fun x v => Host.reduce IntOp.andi x v reducesTo_S1024x5x1_S1024x5_d2 h_S_) v10 c_3
  let v12 : (⟨S1024x5x64, .f32⟩ : BufTy).Contents (Elt F) := (fun x i => Host.gather gather_S1024x320x64_S1024x5x1_S1024x5x64_2_1_0_0_1_2_1164 x i) arg0 v4
  let v13 : (⟨S1024x5x64, .i1⟩ : BufTy).Contents (Elt F) := (broadcastInDim S1024x5x64 ![0, 1] bcast_S1024x5_S1024x5x64_0_1) v11
  let cst : (⟨S_, .f32⟩ : BufTy).Contents (Elt F) := constant S_ .f32 0x7FC00000#32
  let v14 : (⟨S1024x5x64, .f32⟩ : BufTy).Contents (Elt F) := (broadcastInDim S1024x5x64 ![] bcast_S_S1024x5x64) cst
  select v13 v12 v14

/-! ## @main -/

/-- @main before the call. -/
def preOps : List (HloOp τ sig (Elt F)) :=
  [ reshape main_arg3 main_v0 (rfl : (.f32 : EltTy) = .f32) shapeCasts_S1024_S1024x1,
    reshape main_v0 main_v1 (rfl : (.f32 : EltTy) = .f32) shapeCasts_S1024x1_S1x1024x1x1,
    unary main_v1 main_v2 (broadcastInDim S1x1024x16x1 ![0, 1, 2, 3] bcast_S1x1024x1x1_S1x1024x16x1_0_1_2_3 : (⟨S1x1024x1x1, .f32⟩ : BufTy).Contents (Elt F) → (⟨S1x1024x16x1, .f32⟩ : BufTy).Contents (Elt F)),
    reshape main_v2 main_v3 (rfl : (.f32 : EltTy) = .f32) shapeCasts_S1x1024x16x1_S1024x16 ]

/-- The negated distances and the 320 greatest of them. -/
def host0 : List (HloOp τ sig (Elt F)) :=
  [ unary main_v4_0 main_v5 (Host.negf : (⟨S1024x1024, .f32⟩ : BufTy).Contents (Elt F) → (⟨S1024x1024, .f32⟩ : BufTy).Contents (Elt F)),
    unary main_v5 main_values ((fun x => (Host.topK S1024x320 1 (FloatOps.cmpfTotal .gt) x sliceFits_S1024x1024_S1024x320).1) : (⟨S1024x1024, .f32⟩ : BufTy).Contents (Elt F) → (⟨S1024x320, .f32⟩ : BufTy).Contents (Elt F)),
    unary main_v5 main_indices ((fun x => (Host.topK S1024x320 1 (FloatOps.cmpfTotal .gt) x sliceFits_S1024x1024_S1024x320).2) : (⟨S1024x1024, .f32⟩ : BufTy).Contents (Elt F) → (⟨S1024x320, .i32⟩ : BufTy).Contents (Elt F)) ]

/-- The squared distances to the candidates and the five nearest. -/
def host1 : List (HloOp τ sig (Elt F)) :=
  [ unary main_arg0 main_v8 (broadcastInDim S1024x1x64 ![0, 2] bcast_S1024x64_S1024x1x64_0_2 : (⟨S1024x64, .f32⟩ : BufTy).Contents (Elt F) → (⟨S1024x1x64, .f32⟩ : BufTy).Contents (Elt F)),
    unary main_v8 main_v9 (broadcastInDim S1024x320x64 ![0, 1, 2] bcast_S1024x1x64_S1024x320x64_0_1_2 : (⟨S1024x1x64, .f32⟩ : BufTy).Contents (Elt F) → (⟨S1024x320x64, .f32⟩ : BufTy).Contents (Elt F)),
    binary main_v9 main_v7 main_v10 (subf : (⟨S1024x320x64, .f32⟩ : BufTy).Contents (Elt F) → (⟨S1024x320x64, .f32⟩ : BufTy).Contents (Elt F) → (⟨S1024x320x64, .f32⟩ : BufTy).Contents (Elt F)),
    binary main_v10 main_v10 main_v11 (mulf : (⟨S1024x320x64, .f32⟩ : BufTy).Contents (Elt F) → (⟨S1024x320x64, .f32⟩ : BufTy).Contents (Elt F) → (⟨S1024x320x64, .f32⟩ : BufTy).Contents (Elt F)),
    nullary main_cst (constant S_ .f32 0x00000000#32),
    binary main_v11 main_cst main_v12 ((fun x v => Host.reduceAdd x v reducesTo_S1024x320x64_S1024x320_d2 h_S_) : (⟨S1024x320x64, .f32⟩ : BufTy).Contents (Elt F) → (⟨S_, .f32⟩ : BufTy).Contents (Elt F) → (⟨S1024x320, .f32⟩ : BufTy).Contents (Elt F)),
    unary main_v12 main_v13 (Host.negf : (⟨S1024x320, .f32⟩ : BufTy).Contents (Elt F) → (⟨S1024x320, .f32⟩ : BufTy).Contents (Elt F)),
    unary main_v13 main_values_0 ((fun x => (Host.topK S1024x5 1 (FloatOps.cmpfTotal .gt) x sliceFits_S1024x320_S1024x5).1) : (⟨S1024x320, .f32⟩ : BufTy).Contents (Elt F) → (⟨S1024x5, .f32⟩ : BufTy).Contents (Elt F)),
    unary main_v13 main_indices_1 ((fun x => (Host.topK S1024x5 1 (FloatOps.cmpfTotal .gt) x sliceFits_S1024x320_S1024x5).2) : (⟨S1024x320, .f32⟩ : BufTy).Contents (Elt F) → (⟨S1024x5, .i32⟩ : BufTy).Contents (Elt F)) ]

/-- The positions with a unit axis. -/
def host2 : List (HloOp τ sig (Elt F)) :=
  [ unary main_indices_1 main_v15 (broadcastInDim S1024x5x1 ![0, 1] bcast_S1024x5_S1024x5x1_0_1 : (⟨S1024x5, .i32⟩ : BufTy).Contents (Elt F) → (⟨S1024x5x1, .i32⟩ : BufTy).Contents (Elt F)) ]

/-- The indices, flattened. -/
def host3 : List (HloOp τ sig (Elt F)) :=
  [ reshape main_v14 main_v17 (rfl : (.i32 : EltTy) = .i32) shapeCasts_S1024x5_S5120 ]

/-- @main after the call. -/
def postOps : List (HloOp τ sig (Elt F)) :=
  host0 ++ (alongOps (.of main_v4_1) (.of main_indices) main_call0 ++ (takeOps (.of main_arg1) (.of main_v6) main_call1 ++ (host1 ++ (along0Ops (.of main_v6) (.of main_indices_1) main_call2 ++ (host2 ++ (along1Ops (.of main_v7) (.of main_v15) main_call3 ++ (host3)))))))

set_option maxRecDepth 8192 in
set_option maxHeartbeats 4000000 in
theorem main_eq (d : Dev nD) : main (F := F) d = (seq preOps >>= fun _ => sc.run d 0 >>= fun _ => seq postOps >>= fun _ => pure ⟨⟩) := by
  rfl

end Cert.Proof.HostOps

end
-- ==== Proof.HostRun.lean ====
/-
  What the host part of @main returns: each stretch's result as a function of the buffers it reads.
-/
module

public import proofs.«01_k».proof.Proof.HostOps
public import Idealize.ShloMosaic.Lib.Pipeline.Frame

@[expose] public section

noncomputable section

namespace Cert.Proof.HostOps

open Cert.KernelIdeal Cert.KernelIdeal.Gen Idealize.ShloMosaic Idealize.ShloMosaic.TcCoe Idealize.SL.Sem Idealize.ShloMosaic.StableHlo

variable {F : FTy → Type} [FloatOps F]

local notation "R[" r "]" => (Proc.devRef (τ := τ) Proc.tc r)

/-- The threshold column repeated over sixteen lanes. -/
def lanesV (t : (⟨S1024, .f32⟩ : BufTy).Contents (Elt F)) : (⟨S1024x16, .f32⟩ : BufTy).Contents (Elt F) :=
  shapeCast _ (broadcastInDim S1x1024x16x1 ![0, 1, 2, 3] bcast_S1x1024x1x1_S1x1024x16x1_0_1_2_3
    (shapeCast _ (shapeCast _ t shapeCasts_S1024_S1024x1) shapeCasts_S1024x1_S1x1024x1x1) : (⟨S1x1024x16x1, .f32⟩ : BufTy).Contents (Elt F)) shapeCasts_S1x1024x16x1_S1024x16

/-- The positions, among a row's kept distances, of its 320 least. -/
def posV (cd : (⟨S1024x1024, .f32⟩ : BufTy).Contents (Elt F)) : (⟨S1024x320, .i32⟩ : BufTy).Contents (Elt F) :=
  (Host.topK S1024x320 1 (FloatOps.cmpfTotal .gt) (Host.negf cd) sliceFits_S1024x1024_S1024x320).2

/-- The positions, among a row's candidates, of the five nearest. -/
def nearV (q : (⟨S1024x64, .f32⟩ : BufTy).Contents (Elt F)) (x : (⟨S1024x320x64, .f32⟩ : BufTy).Contents (Elt F)) : (⟨S1024x5, .i32⟩ : BufTy).Contents (Elt F) :=
  let b : (⟨S1024x320x64, .f32⟩ : BufTy).Contents (Elt F) := broadcastInDim S1024x320x64 ![0, 1, 2] bcast_S1024x1x64_S1024x320x64_0_1_2
    (broadcastInDim S1024x1x64 ![0, 2] bcast_S1024x64_S1024x1x64_0_2 q : (⟨S1024x1x64, .f32⟩ : BufTy).Contents (Elt F))
  let e : (⟨S1024x320x64, .f32⟩ : BufTy).Contents (Elt F) := subf b x
  (Host.topK S1024x5 1 (FloatOps.cmpfTotal .gt)
    (Host.negf (Host.reduceAdd (mulf e e) (constant S_ .f32 0x00000000#32) reducesTo_S1024x320x64_S1024x320_d2 h_S_ : (⟨S1024x320, .f32⟩ : BufTy).Contents (Elt F)))
    sliceFits_S1024x320_S1024x5).2

/-- The positions with a unit axis behind. -/
def unitV (p : (⟨S1024x5, .i32⟩ : BufTy).Contents (Elt F)) : (⟨S1024x5x1, .i32⟩ : BufTy).Contents (Elt F) :=
  broadcastInDim S1024x5x1 ![0, 1] bcast_S1024x5_S1024x5x1_0_1 p

/-- The three results, of the queries, the table and the candidates. -/
def out0 (mu : (⟨S100000x64, .f32⟩ : BufTy).Contents (Elt F)) (c : (⟨S1024x320, .i32⟩ : BufTy).Contents (Elt F)) : (⟨S1024x320x64, .f32⟩ : BufTy).Contents (Elt F) := takeV mu c
def out1 (q : (⟨S1024x64, .f32⟩ : BufTy).Contents (Elt F)) (mu : (⟨S100000x64, .f32⟩ : BufTy).Contents (Elt F)) (c : (⟨S1024x320, .i32⟩ : BufTy).Contents (Elt F)) : (⟨S5120, .i32⟩ : BufTy).Contents (Elt F) :=
  shapeCast _ (along0V c (nearV q (out0 mu c))) shapeCasts_S1024x5_S5120
def out2 (q : (⟨S1024x64, .f32⟩ : BufTy).Contents (Elt F)) (mu : (⟨S100000x64, .f32⟩ : BufTy).Contents (Elt F)) (c : (⟨S1024x320, .i32⟩ : BufTy).Contents (Elt F)) : (⟨S1024x5x64, .f32⟩ : BufTy).Contents (Elt F) :=
  along1V (out0 mu c) (unitV (nearV q (out0 mu c)))

theorem pre_v3 (V : Valuation τ sig (Elt F)) : after preOps V R[main_v3] = lanesV (V R[main_arg3]) := by
  simp only [preOps]; after_results_simp <;> rfl

theorem host0_indices (V : Valuation τ sig (Elt F)) : after host0 V R[main_indices] = posV (V R[main_v4_0]) := by
  simp only [host0]; after_results_simp <;> rfl

set_option maxHeartbeats 4000000 in
theorem along_v6 (V : Valuation τ sig (Elt F)) : after (alongOps (.of main_v4_1) (.of main_indices) main_call0) V R[main_v6] = alongV (V R[main_v4_1]) (V R[main_indices]) := by
  simp only [alongOps, TRef.binary, TRef.nullary, TRef.reshape, TRef.ternary, TRef.unary, TRef.toBuf, TRef.ofBuf, cast_eq]; after_results_simp <;> rfl

set_option maxHeartbeats 4000000 in
theorem take_v7 (V : Valuation τ sig (Elt F)) : after (takeOps (.of main_arg1) (.of main_v6) main_call1) V R[main_v7] = takeV (V R[main_arg1]) (V R[main_v6]) := by
  simp only [takeOps, TRef.binary, TRef.nullary, TRef.reshape, TRef.ternary, TRef.unary, TRef.toBuf, TRef.ofBuf, cast_eq]; after_results_simp <;> rfl

theorem host1_indices (V : Valuation τ sig (Elt F)) : after host1 V R[main_indices_1] = nearV (V R[main_arg0]) (V R[main_v7]) := by
  simp only [host1]; after_results_simp <;> rfl

set_option maxHeartbeats 4000000 in
theorem along0_v14 (V : Valuation τ sig (Elt F)) : after (along0Ops (.of main_v6) (.of main_indices_1) main_call2) V R[main_v14] = along0V (V R[main_v6]) (V R[main_indices_1]) := by
  simp only [along0Ops, TRef.binary, TRef.nullary, TRef.reshape, TRef.ternary, TRef.unary, TRef.toBuf, TRef.ofBuf, cast_eq]; after_results_simp <;> rfl

theorem host2_v15 (V : Valuation τ sig (Elt F)) : after host2 V R[main_v15] = unitV (V R[main_indices_1]) := by
  simp only [host2]; after_results_simp <;> rfl

set_option maxHeartbeats 4000000 in
theorem along1_v16 (V : Valuation τ sig (Elt F)) : after (along1Ops (.of main_v7) (.of main_v15) main_call3) V R[main_v16] = along1V (V R[main_v7]) (V R[main_v15]) := by
  simp only [along1Ops, TRef.binary, TRef.nullary, TRef.reshape, TRef.ternary, TRef.unary, TRef.toBuf, TRef.ofBuf, cast_eq]; after_results_simp <;> rfl

theorem host3_v17 (V : Valuation τ sig (Elt F)) : after host3 V R[main_v17] = shapeCast _ (V R[main_v14]) shapeCasts_S1024x5_S5120 := by
  simp only [host3]; after_results_simp <;> rfl

/-! ## What each stretch leaves as it is -/

theorem keep_preOps (V : Valuation τ sig (Elt F)) {r : Ref sig .tc}
    (h : r ∉ ([main_v0, main_v1, main_v2, main_v3] : List (Ref sig .tc))) :
    after preOps V R[r] = V R[r] := after_of_writes_sub _ _ (forall_writes_sub_of_map rfl) h

theorem keep_host0 (V : Valuation τ sig (Elt F)) {r : Ref sig .tc}
    (h : r ∉ ([main_v5, main_values, main_indices] : List (Ref sig .tc))) :
    after host0 V R[r] = V R[r] := after_of_writes_sub _ _ (forall_writes_sub_of_map rfl) h

theorem keep_along (V : Valuation τ sig (Elt F)) {r : Ref sig .tc}
    (h : r ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v6] : List (Ref sig .tc))) :
    after (alongOps (.of main_v4_1) (.of main_indices) main_call0) V R[r] = V R[r] := after_of_writes_sub _ _ (forall_writes_sub_of_map rfl) h

theorem keep_take (V : Valuation τ sig (Elt F)) {r : Ref sig .tc}
    (h : r ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7] : List (Ref sig .tc))) :
    after (takeOps (.of main_arg1) (.of main_v6) main_call1) V R[r] = V R[r] := after_of_writes_sub _ _ (forall_writes_sub_of_map rfl) h

theorem keep_host1 (V : Valuation τ sig (Elt F)) {r : Ref sig .tc}
    (h : r ∉ ([main_v8, main_v9, main_v10, main_v11, main_cst, main_v12, main_v13, main_values_0, main_indices_1] : List (Ref sig .tc))) :
    after host1 V R[r] = V R[r] := after_of_writes_sub _ _ (forall_writes_sub_of_map rfl) h

theorem keep_along0 (V : Valuation τ sig (Elt F)) {r : Ref sig .tc}
    (h : r ∉ ([main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v14] : List (Ref sig .tc))) :
    after (along0Ops (.of main_v6) (.of main_indices_1) main_call2) V R[r] = V R[r] := after_of_writes_sub _ _ (forall_writes_sub_of_map rfl) h

theorem keep_host2 (V : Valuation τ sig (Elt F)) {r : Ref sig .tc}
    (h : r ∉ ([main_v15] : List (Ref sig .tc))) :
    after host2 V R[r] = V R[r] := after_of_writes_sub _ _ (forall_writes_sub_of_map rfl) h

theorem keep_along1 (V : Valuation τ sig (Elt F)) {r : Ref sig .tc}
    (h : r ∉ ([main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v16] : List (Ref sig .tc))) :
    after (along1Ops (.of main_v7) (.of main_v15) main_call3) V R[r] = V R[r] := after_of_writes_sub _ _ (forall_writes_sub_of_map rfl) h

theorem keep_host3 (V : Valuation τ sig (Elt F)) {r : Ref sig .tc}
    (h : r ∉ ([main_v17] : List (Ref sig .tc))) :
    after host3 V R[r] = V R[r] := after_of_writes_sub _ _ (forall_writes_sub_of_map rfl) h

/-! ## The whole stretch after the call -/

theorem after_app (l₁ l₂ : List (HloOp τ sig (Elt F))) (V : Valuation τ sig (Elt F)) : after (l₁ ++ l₂) V = after l₂ (after l₁ V) := by
  induction l₁ generalizing V with
  | nil => rfl
  | cons _ _ ih => simp only [List.cons_append, after_cons, ih]

/-- The candidates, of what the call leaves. -/
def candV (cd : (⟨S1024x1024, .f32⟩ : BufTy).Contents (Elt F)) (ci : (⟨S1024x1024, .i32⟩ : BufTy).Contents (Elt F)) : (⟨S1024x320, .i32⟩ : BufTy).Contents (Elt F) :=
  alongV ci (posV cd)

theorem post_v7 (V : Valuation τ sig (Elt F)) : after postOps V R[main_v7] = out0 (V R[main_arg1]) (candV (V R[main_v4_0]) (V R[main_v4_1])) := by
  unfold postOps; simp only [after_app]
  rw [keep_host3 _ (by decide), keep_along1 _ (by decide), keep_host2 _ (by decide), keep_along0 _ (by decide), keep_host1 _ (by decide), take_v7, along_v6,
    keep_along _ (by decide), keep_host0 _ (by decide), keep_host0 _ (by decide), host0_indices]
  rfl

theorem post_v16 (V : Valuation τ sig (Elt F)) : after postOps V R[main_v16] = out2 (V R[main_arg0]) (V R[main_arg1]) (candV (V R[main_v4_0]) (V R[main_v4_1])) := by
  unfold postOps; simp only [after_app]
  rw [keep_host3 _ (by decide), along1_v16, host2_v15, keep_host2 _ (by decide), keep_along0 _ (by decide), keep_along0 _ (by decide), host1_indices, keep_host1 _ (by decide),
    take_v7, along_v6, keep_take _ (by decide), keep_along _ (by decide), keep_along _ (by decide), host0_indices, keep_host0 _ (by decide), keep_host0 _ (by decide), keep_host0 _ (by decide)]
  rfl

theorem post_v17 (V : Valuation τ sig (Elt F)) : after postOps V R[main_v17] = out1 (V R[main_arg0]) (V R[main_arg1]) (candV (V R[main_v4_0]) (V R[main_v4_1])) := by
  unfold postOps; simp only [after_app]
  rw [host3_v17, keep_along1 _ (by decide), keep_host2 _ (by decide), along0_v14, host1_indices, keep_host1 _ (by decide), keep_take _ (by decide), keep_take _ (by decide),
    take_v7, along_v6, keep_along _ (by decide), keep_along _ (by decide), host0_indices, keep_host0 _ (by decide), keep_host0 _ (by decide), keep_host0 _ (by decide)]
  rfl

/-- The arguments stay. -/
theorem post_keep (V : Valuation τ sig (Elt F)) {r : Ref sig .tc} (h : r ∈ ([main_arg0, main_arg1, main_arg2, main_arg3] : List (Ref sig .tc))) :
    after postOps V R[r] = V R[r] := by
  unfold postOps; simp only [after_app]
  rw [keep_host3 _ (by revert h; revert r; decide), keep_along1 _ (by revert h; revert r; decide), keep_host2 _ (by revert h; revert r; decide), keep_along0 _ (by revert h; revert r; decide),
    keep_host1 _ (by revert h; revert r; decide), keep_take _ (by revert h; revert r; decide), keep_along _ (by revert h; revert r; decide), keep_host0 _ (by revert h; revert r; decide)]

theorem pre_keep (V : Valuation τ sig (Elt F)) {r : Ref sig .tc} (h : r ∈ ([main_arg0, main_arg1, main_arg2, main_arg3] : List (Ref sig .tc))) :
    after preOps V R[r] = V R[r] := keep_preOps _ (by revert h; revert r; decide)

/-! ## The buffers the operations touch -/

theorem sub_preOps : (preOps : List (HloOp τ sig (Elt F))).Forall fun op => op.bufs ⊆ tcRefs τ sig :=
  ⟨reshape_bufs_sub .., reshape_bufs_sub .., unary_bufs_sub .., reshape_bufs_sub ..⟩

theorem fresh_preOps : ∀ op ∈ (preOps : List (HloOp τ sig (Elt F))), op.fresh = ∅ := by
  intro _ h; (repeat (cases h with | head => rfl | tail _ h => ?_)); exact nomatch h

theorem sub_host0 : (host0 : List (HloOp τ sig (Elt F))).Forall fun op => op.bufs ⊆ tcRefs τ sig :=
  ⟨unary_bufs_sub .., unary_bufs_sub .., unary_bufs_sub ..⟩

theorem fresh_host0 : ∀ op ∈ (host0 : List (HloOp τ sig (Elt F))), op.fresh = ∅ := by
  intro _ h; (repeat (cases h with | head => rfl | tail _ h => ?_)); exact nomatch h

theorem sub_along : ((alongOps (.of main_v4_1) (.of main_indices) main_call0) : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem fresh_along : ∀ op ∈ ((alongOps (.of main_v4_1) (.of main_indices) main_call0) : List (HloOp τ sig (Elt F))), op.fresh = ∅ := by
  intro _ h; (repeat (cases h with | head => rfl | tail _ h => ?_)); exact nomatch h

theorem sub_take : ((takeOps (.of main_arg1) (.of main_v6) main_call1) : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem fresh_take : ∀ op ∈ ((takeOps (.of main_arg1) (.of main_v6) main_call1) : List (HloOp τ sig (Elt F))), op.fresh = ∅ := by
  intro _ h; (repeat (cases h with | head => rfl | tail _ h => ?_)); exact nomatch h

theorem sub_host1 : (host1 : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub .., unary_bufs_sub .., unary_bufs_sub ..⟩

theorem fresh_host1 : ∀ op ∈ (host1 : List (HloOp τ sig (Elt F))), op.fresh = ∅ := by
  intro _ h; (repeat (cases h with | head => rfl | tail _ h => ?_)); exact nomatch h

theorem sub_along0 : ((along0Ops (.of main_v6) (.of main_indices_1) main_call2) : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem fresh_along0 : ∀ op ∈ ((along0Ops (.of main_v6) (.of main_indices_1) main_call2) : List (HloOp τ sig (Elt F))), op.fresh = ∅ := by
  intro _ h; (repeat (cases h with | head => rfl | tail _ h => ?_)); exact nomatch h

theorem sub_host2 : (host2 : List (HloOp τ sig (Elt F))).Forall fun op => op.bufs ⊆ tcRefs τ sig :=
  unary_bufs_sub ..

theorem fresh_host2 : ∀ op ∈ (host2 : List (HloOp τ sig (Elt F))), op.fresh = ∅ := by
  intro _ h; (repeat (cases h with | head => rfl | tail _ h => ?_)); exact nomatch h

theorem sub_along1 : ((along1Ops (.of main_v7) (.of main_v15) main_call3) : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem fresh_along1 : ∀ op ∈ ((along1Ops (.of main_v7) (.of main_v15) main_call3) : List (HloOp τ sig (Elt F))), op.fresh = ∅ := by
  intro _ h; (repeat (cases h with | head => rfl | tail _ h => ?_)); exact nomatch h

theorem sub_host3 : (host3 : List (HloOp τ sig (Elt F))).Forall fun op => op.bufs ⊆ tcRefs τ sig :=
  reshape_bufs_sub ..

theorem fresh_host3 : ∀ op ∈ (host3 : List (HloOp τ sig (Elt F))), op.fresh = ∅ := by
  intro _ h; (repeat (cases h with | head => rfl | tail _ h => ?_)); exact nomatch h

theorem uc_of_sub {l : List (HloOp τ sig (Elt F))} (h : l.Forall fun op => op.bufs ⊆ tcRefs τ sig) : ∀ op ∈ l, op.bufs ⊆ Pipeline.ucRefs τ sig :=
  fun op ho => Pipeline.sub_ucRefs op (List.forall_iff_forall_mem.1 h op ho)

theorem uc_pre : ∀ op ∈ (preOps : List (HloOp τ sig (Elt F))), op.bufs ⊆ Pipeline.ucRefs τ sig := uc_of_sub sub_preOps

theorem uc_post : ∀ op ∈ (postOps : List (HloOp τ sig (Elt F))), op.bufs ⊆ Pipeline.ucRefs τ sig := by
  intro op h
  simp only [postOps, List.mem_append] at h
  rcases h with h | h | h | h | h | h | h | h
  · exact uc_of_sub sub_host0 op h
  · exact uc_of_sub sub_along op h
  · exact uc_of_sub sub_take op h
  · exact uc_of_sub sub_host1 op h
  · exact uc_of_sub sub_along0 op h
  · exact uc_of_sub sub_host2 op h
  · exact uc_of_sub sub_along1 op h
  · exact uc_of_sub sub_host3 op h

theorem fresh_post : ∀ op ∈ (postOps : List (HloOp τ sig (Elt F))), op.fresh = ∅ := by
  intro op h
  simp only [postOps, List.mem_append] at h
  rcases h with h | h | h | h | h | h | h | h
  · exact fresh_host0 op h
  · exact fresh_along op h
  · exact fresh_take op h
  · exact fresh_host1 op h
  · exact fresh_along0 op h
  · exact fresh_host2 op h
  · exact fresh_along1 op h
  · exact fresh_host3 op h

end Cert.Proof.HostOps

end
-- ==== Proof.Run.lean ====
/-
  The whole program's run: every fair execution ends with the results computed from what the call leaves.
-/
module

public import proofs.«01_k».proof.Proof.Split
public import proofs.«01_k».proof.Proof.HostRun

@[expose] public section

noncomputable section

namespace Cert.Proof

open Cert.KernelIdeal Cert.KernelIdeal.Gen Cert.Proof.Rows Cert.Proof.HostOps

open Idealize.ShloMosaic
open Idealize.ShloMosaic.StableHlo (after held held_sub_split held_congr)
open Idealize.ShloMosaic.Pipeline (ucRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "R[" r "]" => (Proc.devRef (τ := τ) Proc.tc r)

/-! ## The launch element of the ghost state -/

def u₀ : UU := (initOf (K (F := F)).hsCells (K (F := F)).hsToks, 1)

omit [FloatOps F] in
theorem big_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [big_emp]; iempintro
  rw [show (bigSep Finset.univ fun thr : Thread nD τ => bigSep Finset.univ fun q : Fin 1 => (P (F := F)).x q thr) = bigSep Finset.univ fun _ => iprop(emp) from
    bigSep_congr fun _ _ => bigSep_univ_of_subsingleton (0 : Fin 1), big_emp]
  iempintro

/-! ## The buffers at the call -/

/-- The launch contents of a device's buffers. -/
abbrev V₀ (m : (ℓ : Loc nD τ sig) → Buf (Elt F) ℓ) (d : Dev nD) : Valuation τ sig (Elt F) := fun b => m (d, b)

/-- The contents with the two outputs replaced. -/
def upd (W : Valuation τ sig (Elt F)) (g : Vec F S1024x1024 .f32) (gi : Vec F S1024x1024 .i32) : Valuation τ sig (Elt F) :=
  Function.update (Function.update W R[main_v4_0] g) R[main_v4_1] gi

omit [FloatOps F] in
theorem upd_cd (W : Valuation τ sig (Elt F)) (g : Vec F S1024x1024 .f32) (gi : Vec F S1024x1024 .i32) : upd W g gi R[main_v4_0] = g := by
  unfold upd
  rw [Function.update_of_ne (fun e => absurd (Proc.devRef_injective _ e) (by decide)), Function.update_self]
omit [FloatOps F] in
theorem upd_ci (W : Valuation τ sig (Elt F)) (g : Vec F S1024x1024 .f32) (gi : Vec F S1024x1024 .i32) : upd W g gi R[main_v4_1] = gi := by
  unfold upd
  rw [Function.update_self]
omit [FloatOps F] in
theorem upd_other (W : Valuation τ sig (Elt F)) (g : Vec F S1024x1024 .f32) (gi : Vec F S1024x1024 .i32) {b : DevRef τ sig}
    (h0 : b ≠ R[main_v4_0]) (h1 : b ≠ R[main_v4_1]) : upd W g gi b = W b := by
  unfold upd
  rw [Function.update_of_ne h1, Function.update_of_ne h0]

/-- The four buffers the call reads and writes. -/
def callRefs : Finset (DevRef τ sig) := {R[main_arg2], R[main_v3], R[main_v4_0], R[main_v4_1]}

theorem callRefs_sub : callRefs ⊆ ucRefs τ sig := by
  intro b hb
  simp only [callRefs, Finset.mem_insert, Finset.mem_singleton] at hb
  refine Finset.mem_filter.mpr ?_
  rcases hb with rfl | rfl | rfl | rfl <;> exact ⟨StableHlo.devRef_mem_tcRefs _, by decide⟩

omit [FloatOps F] in
theorem held_call (d : Dev nD) (W : Valuation τ sig (Elt F)) :
    (held (d.tc : Thread nD τ) callRefs W : sProp 𝕄)
      = iprop((dLoc d ↦{fullShare} W R[main_arg2]) ∗ (tLoc d ↦{fullShare} W R[main_v3]) ∗ (cdLoc d ↦{fullShare} W R[main_v4_0]) ∗ ciLoc d ↦{fullShare} W R[main_v4_1]) := by
  have ne {a b : Ref sig .tc} (h : a ≠ b) : R[a] ≠ R[b] := fun e => h (Proc.devRef_injective _ e)
  unfold held callRefs
  rw [SparseCore.bigSep_insert', SparseCore.bigSep_insert', SparseCore.bigSep_insert', bigSep_singleton]
  · rw [Finset.mem_singleton]; exact ne (by decide)
  · rw [Finset.mem_insert, Finset.mem_singleton, not_or]; exact ⟨ne (by decide), ne (by decide)⟩
  · rw [Finset.mem_insert, Finset.mem_insert, Finset.mem_singleton, not_or, not_or]; exact ⟨ne (by decide), ne (by decide), ne (by decide)⟩

omit [FloatOps F] in
theorem held_upd (d : Dev nD) (W : Valuation τ sig (Elt F)) (g : Vec F S1024x1024 .f32) (gi : Vec F S1024x1024 .i32) :
    iprop((dLoc d ↦{fullShare} W R[main_arg2]) ∗ (tLoc d ↦{fullShare} W R[main_v3]) ∗ (cdLoc d ↦{fullShare} g) ∗ (ciLoc d ↦{fullShare} gi)
        ∗ held (d.tc : Thread nD τ) (ucRefs τ sig \ callRefs) W)
      ⊢ (held (d.tc : Thread nD τ) (ucRefs τ sig) (upd W g gi) : sProp 𝕄) := by
  have ne {a b : Ref sig .tc} (h : a ≠ b) : R[a] ≠ R[b] := fun e => h (Proc.devRef_injective _ e)
  rw [held_sub_split (d.tc : Thread nD τ) callRefs_sub, held_call, upd_cd, upd_ci,
    upd_other W g gi (ne (show main_arg2 ≠ main_v4_0 by decide)) (ne (show main_arg2 ≠ main_v4_1 by decide)),
    upd_other W g gi (ne (show main_v3 ≠ main_v4_0 by decide)) (ne (show main_v3 ≠ main_v4_1 by decide)),
    held_congr (d.tc : Thread nD τ) (S := ucRefs τ sig \ callRefs) (V := upd W g gi) (V' := W) fun b hb => upd_other W g gi
      (fun e => (Finset.mem_sdiff.mp hb).2 (by rw [e]; simp only [callRefs, Finset.mem_insert, Finset.mem_singleton, true_or, or_true]))
      (fun e => (Finset.mem_sdiff.mp hb).2 (by rw [e]; simp only [callRefs, Finset.mem_insert, Finset.mem_singleton, true_or, or_true]))]
  iintro ⟨H1, H2, H3, H4, H5⟩
  isplitr [H5]
  · isplitl [H1]; · iexact H1
    isplitl [H2]; · iexact H2
    isplitl [H3]; · iexact H3
    iexact H4
  iexact H5

/-! ## @main -/

/-- What @main ends with: all the host's buffers, at the operations' results of some outputs of the call. -/
def FIN (m : (ℓ : Loc nD τ sig) → Buf (Elt F) ℓ) (d : Dev nD) : sProp 𝕄 :=
  iprop(∃ g gi, ⌜Compacted (after preOps (V₀ m d) R[main_arg2]) (after preOps (V₀ m d) R[main_v3]) g gi⌝
    ∗ held (d.tc : Thread nD τ) (ucRefs τ sig) (after postOps (upd (after preOps (V₀ m d)) g gi)))

attribute [local irreducible] goPay tdPay

theorem st_eq (d : Dev nD) : (bigSep Finset.univ fun c : Fin ((K (F := F)).nCore 0) => (P (F := F)).st 0 d c)
    = bigSep Finset.univ fun c : Fin 2 => bigSep Finset.univ fun s : Fin 16 => goPay d (coordsV c s) := bigSep_congr fun _ _ => rfl
theorem dn_eq (d : Dev nD) : (bigSep Finset.univ fun c : Fin ((K (F := F)).nCore 0) => (P (F := F)).dn 0 d c)
    = bigSep Finset.univ fun c : Fin 2 => bigSep Finset.univ fun s : Fin 16 => tdPay d (coordsV c s) := bigSep_congr fun _ _ => rfl

theorem hmain (m : (ℓ : Loc nD τ sig) → Buf (Elt F) ℓ) (ρ : Dev nD → PrngReg) (κ : GSem nD τ sig → ℕ) (d : Dev nD) :
    iprop((K (F := F)).ctx EH P κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d : Thread nD τ).loc b)) : sProp 𝕄) = held (d.tc : Thread nD τ) (ucRefs τ sig) (V₀ m d) from
    Pipeline.unscopedBufs_held (Ix := HIx 1) (Name := ℕ) (U := UU) (Lvl := ℕ) d (V₀ m d)]
  iintro ⟨#Hctx, Hst, ⟨Hb, Hh, Hts, -⟩, -⟩
  iapply (StableHlo.wp_seq 𝒱 none Set.univ d (ucRefs τ sig) _ preOps uc_pre fresh_preOps (V₀ m d)) $$ [Hb Hh]
  · isplitl [Hb]; · iexact Hb
    iexact Hh
  iintro ⟨Hb, Hh⟩
  ihave Hh := (Entails.of_eq ((held_sub_split (d.tc : Thread nD τ) callRefs_sub (after preOps (V₀ m d))).trans (by rw [held_call]))) $$ Hh
  icases Hh with ⟨Hcall, Hrest⟩
  ihave Hs := (split d _ _ _ _) $$ Hcall
  icases Hs with ⟨HdL, HtL, Hgo⟩
  rw [wp_bind]
  iapply ((K (F := F)).wp_run (D (F := F)) 𝒱 (EH := EH) (P := P) κ d 0) $$ [Hst Hgo HdL HtL Hrest Hb Hts]
  isplitr; · iexact Hctx
  isplitl [Hst]; · iexact Hst
  isplitl [Hgo]
  · rw [st_eq]; iexact Hgo
  iintro ⟨Hst, Hdn⟩
  ihave Hdn := (Entails.of_eq (dn_eq d)) $$ Hdn
  ihave Hj := (join d _ _) $$ [HdL HtL Hdn]
  · isplitl [HdL]; · iexact HdL
    isplitl [HtL]; · iexact HtL
    iexact Hdn
  icases Hj with ⟨Hd, Ht, %g, %gi, %hg, Hcd, Hci⟩
  ihave Hh := (held_upd d (after preOps (V₀ m d)) g gi) $$ [Hd Ht Hcd Hci Hrest]
  · isplitl [Hd]; · iexact Hd
    isplitl [Ht]; · iexact Ht
    isplitl [Hcd]; · iexact Hcd
    isplitl [Hci]; · iexact Hci
    iexact Hrest
  iapply (StableHlo.wp_seq 𝒱 none Set.univ d (ucRefs τ sig) _ postOps uc_post fresh_post (upd (after preOps (V₀ m d)) g gi)) $$ [Hb Hh]
  · isplitl [Hb]; · iexact Hb
    iexact Hh
  iintro ⟨Hb, Hh⟩
  rw [wp_pure]; imodintro
  isplitl [Hst]; · iexact Hst
  isplitl [Hh]
  · unfold FIN
    iexists g, gi
    isplitr; · ipureintro; exact hg
    iexact Hh
  isplitl [Hb] <;> iassumption

/-! ## The final memory -/

def fq (m : (ℓ : Loc nD τ sig) → Buf (Elt F) ℓ) (d : Dev nD) (s' : Phys nD τ sig (Elt F)) : Prop :=
  ∃ g gi, Compacted (after preOps (V₀ m d) R[main_arg2]) (after preOps (V₀ m d) R[main_v3]) g gi
    ∧ ∀ b ∈ ucRefs τ sig, s'.mem.mem (d, b) = after postOps (upd (after preOps (V₀ m d)) g gi) b

theorem hfin (m : (ℓ : Loc nD τ sig) → Buf (Elt F) ℓ) (d : Dev nD) (s' : Phys nD τ sig (Elt F)) : iprop(FIN m d ∗ SI s') ⊢ (⌜fq m d s'⌝ : sProp 𝕄) := by
  unfold FIN held
  iintro ⟨⟨%g, %gi, %hg, H⟩, HSI⟩
  ihave %h := (SI_pointsTo_bufs_agree (qs := fun _ => fullShare) (ucRefs τ sig)) $$ [HSI H]
  · isplitl [HSI]; · iexact HSI
    iexact H
  ipureintro
  exact ⟨g, gi, hg, h⟩

def QC (m : (ℓ : Loc nD τ sig) → Buf (Elt F) ℓ) : PUnit × MemSt nD τ sig (Elt F) → Prop := fun r =>
  (∀ d : Dev nD, ∃ g gi, Compacted (after preOps (V₀ m d) R[main_arg2]) (after preOps (V₀ m d) R[main_v3]) g gi
    ∧ ∀ b ∈ ucRefs τ sig, r.2.mem (d, b) = after postOps (upd (after preOps (V₀ m d)) g gi) b) ∧ r.2.sem = fun _ => 0

theorem run_main [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P) (A := ∅) facts v₀
    (fun q hq => match q with | 0 => nomatch hq)
    (fun q _ => match q with | 0 => tileObl)
    (fun q _ => match q with | 0 => SparseCore.Cfg.VecSplit.of_plain vecSplit)
    m ρ main (fun _ => iprop(emp)) (FIN m) (u₀ (F := F)) (sep_elim_left.trans hu₀) (hmain m ρ) (fq m) (hfin m) (QC m) (fun _ h hz => ⟨h, hz⟩)

end Cert.Proof

end
-- ==== Proof.Frames.lean ====
/-
  The frames of the kernel, read exactly and at the reals, and of the reference; the reference's results by the same functions as the kernel's.
-/
module

public import proofs.«01_k».proof.Defs
public import proofs.«01_k».proof.Proof.Run
public import proofs.«01_k».proof.Proof.Gen.Kernel
public import proofs.«01_k».proof.Proof.Gen.Pre_in_reach
public import proofs.«01_k».proof.Proof.Gen.ReferenceIdeal.Run

@[expose] public section

noncomputable section

namespace Cert.Proof

open Idealize.ShloMosaic Idealize.SL.Sem
open Idealize.ShloMosaic.StableHlo (after)
open Cert.KernelIdeal Cert.KernelIdeal.Gen Cert.Proof.HostOps

variable {F : FTy → Type} [FloatOps F]

local notation "R[" r "]" => (Proc.devRef (τ := τ) Proc.tc r)

theorem mem_uc (r : Ref sig .tc) (h : r.isScoped = false) : R[r] ∈ Pipeline.ucRefs τ sig :=
  Finset.mem_filter.mpr ⟨StableHlo.devRef_mem_tcRefs _, by rw [show R[r].isScoped = r.isScoped from rfl, h]; exact Bool.false_ne_true⟩

/-- What a buffer holds at the end of a run with outputs `g`, `gi` of the call. -/
abbrev endV (m : (ℓ : Loc nD τ sig) → Buf (Elt F) ℓ) (d : Dev nD) (g : Vec F S1024x1024 .f32) (gi : Vec F S1024x1024 .i32) : Valuation τ sig (Elt F) :=
  after postOps (upd (after preOps (V₀ m d)) g gi)

theorem upd_arg (W : Valuation τ sig (Elt F)) (g : Vec F S1024x1024 .f32) (gi : Vec F S1024x1024 .i32) {r : Ref sig .tc}
    (h : r ∈ ([main_arg0, main_arg1, main_arg2, main_arg3] : List (Ref sig .tc))) : upd W g gi R[r] = W R[r] :=
  upd_other W g gi (fun e => absurd (Proc.devRef_injective _ e) (by revert h; revert r; decide)) (fun e => absurd (Proc.devRef_injective _ e) (by revert h; revert r; decide))

theorem endV_arg (m : (ℓ : Loc nD τ sig) → Buf (Elt F) ℓ) (d : Dev nD) (g : Vec F S1024x1024 .f32) (gi : Vec F S1024x1024 .i32) {r : Ref sig .tc}
    (h : r ∈ ([main_arg0, main_arg1, main_arg2, main_arg3] : List (Ref sig .tc))) : endV m d g gi R[r] = m (d, R[r]) := by
  unfold endV
  rw [post_keep _ h, upd_arg _ g gi h, pre_keep _ h]

theorem QC_arg {m : (ℓ : Loc nD τ sig) → Buf (Elt F) ℓ} {r : PUnit × MemSt nD τ sig (Elt F)} (h : QC m r) (d : Dev nD) {a : Ref sig .tc}
    (ha : a ∈ ([main_arg0, main_arg1, main_arg2, main_arg3] : List (Ref sig .tc))) : r.2.mem ((d.tc : Thread nD τ).loc a) = m ((d.tc : Thread nD τ).loc a) := by
  obtain ⟨g, gi, -, e⟩ := h.1 d
  exact (e R[a] (mem_uc a (by revert ha; revert a; decide))).trans (endV_arg m d g gi ha)

theorem QC_args {m : (ℓ : Loc nD τ sig) → Buf (Elt F) ℓ} {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3) :=
  ⟨QC_arg h d (by decide), QC_arg h d (by decide), QC_arg h d (by decide), QC_arg h d (by decide)⟩

/-! ## The kernel read exactly and the one read at the reals are one text -/

theorem kernel_defs : Cert.Kernel.defs (F := Bits) = Cert.KernelIdeal.defs (F := Bits) := rfl

set_option maxHeartbeats 4000000 in
theorem kernel_main (d : Dev Cert.Kernel.nD) : Cert.Kernel.main (F := Bits) d = Cert.KernelIdeal.main (F := Bits) d := by
  with_unfolding_all rfl

theorem kernel_threads : Cert.Kernel.threads (F := Bits) = Cert.KernelIdeal.threads (F := Bits) :=
  congrArg (Cert.KernelIdeal.sc (F := Bits)).threads (funext kernel_main)

/-- The kernel's own text runs, terminates and keeps its arguments. -/
theorem frame_kernel : Cert.quiescent_Kernel := fun m ρ _ => by
  rw [kernel_defs, kernel_threads]
  exact (θ_run Cert.KernelIdeal.defs _ _).mono (fun _ h => ⟨fun d => QC_args h d, h.2⟩) (run_main (F := Bits) m ρ)

theorem frame_ideal : Cert.quiescent_KernelIdeal := fun m ρ _ =>
  (θ_run Cert.KernelIdeal.defs _ _).mono (fun _ h => ⟨fun d => QC_args h d, h.2⟩) (run_main (F := Ideal) m ρ)

theorem frame_ideal_pre : Cert.quiescent_KernelIdeal_pre_in_reach := fun m ρ _ =>
  (θ_run Cert.KernelIdeal.defs _ _).mono (fun _ h => ⟨fun d => QC_args h d, h.2⟩) (run_main (F := Ideal) m ρ)

theorem frame_ref : Cert.quiescent_ReferenceIdeal := fun m ρ _ =>
  (θ_run Cert.ReferenceIdeal.defs _ _).mono (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run (F := Ideal) m ρ)

theorem frame_ref_pre : Cert.quiescent_ReferenceIdeal_pre_in_reach := fun m ρ _ =>
  (θ_run Cert.ReferenceIdeal.defs _ _).mono (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run (F := Ideal) m ρ)

/-! ## The results -/

/-- The reference's candidates: the columns of each row's 320 least distances. -/
def refCand (fD : (⟨S1024x100000, .f32⟩ : BufTy).Contents (Elt F)) : (⟨S1024x320, .i32⟩ : BufTy).Contents (Elt F) :=
  (Host.topK S1024x320 1 (FloatOps.cmpfTotal .gt) (Host.negf fD) Cert.ReferenceIdeal.Gen.sliceFits_S1024x100000_S1024x320).2

/-- Where the reference's array `r` lies. -/
abbrev rLoc (c : Dev Cert.ReferenceIdeal.nD) (r : Ref Cert.ReferenceIdeal.sig .tc) : Loc Cert.ReferenceIdeal.nD Cert.ReferenceIdeal.τ Cert.ReferenceIdeal.sig :=
  (c.tc : Thread Cert.ReferenceIdeal.nD Cert.ReferenceIdeal.τ).loc r

theorem ref_run (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r => ∀ c : Dev Cert.ReferenceIdeal.nD,
      r.2.mem (rLoc c Cert.ReferenceIdeal.main_v1) = out0 (m (rLoc c Cert.ReferenceIdeal.main_arg1)) (refCand (m (rLoc c Cert.ReferenceIdeal.main_arg2)))
      ∧ r.2.mem (rLoc c Cert.ReferenceIdeal.main_v11) = out1 (m (rLoc c Cert.ReferenceIdeal.main_arg0)) (m (rLoc c Cert.ReferenceIdeal.main_arg1)) (refCand (m (rLoc c Cert.ReferenceIdeal.main_arg2)))
      ∧ r.2.mem (rLoc c Cert.ReferenceIdeal.main_v10) = out2 (m (rLoc c Cert.ReferenceIdeal.main_arg0)) (m (rLoc c Cert.ReferenceIdeal.main_arg1)) (refCand (m (rLoc c Cert.ReferenceIdeal.main_arg2)))
      ∧ r.2.mem (rLoc c Cert.ReferenceIdeal.main_arg0) = m (rLoc c Cert.ReferenceIdeal.main_arg0)
      ∧ r.2.mem (rLoc c Cert.ReferenceIdeal.main_arg1) = m (rLoc c Cert.ReferenceIdeal.main_arg1)
      ∧ r.2.mem (rLoc c Cert.ReferenceIdeal.main_arg2) = m (rLoc c Cert.ReferenceIdeal.main_arg2)
      ∧ r.2.mem (rLoc c Cert.ReferenceIdeal.main_arg3) = m (rLoc c Cert.ReferenceIdeal.main_arg3) :=
  (θ_run Cert.ReferenceIdeal.defs _ _).mono (fun r h c => ⟨(h c).1, (h c).2.1, (h c).2.2.1, (h c).2.2.2⟩)
    (Cert.ReferenceIdeal.Value.run m ρ)

/-- The kernel's results: of the candidates that the call's outputs give. -/
theorem kernel_run [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ fun r => ∀ d : Dev nD,
      ∃ g gi, Compacted (m (dLoc d)) (lanesV (m ((d.tc : Thread nD τ).loc main_arg3))) g gi
      ∧ r.2.mem ((d.tc : Thread nD τ).loc main_v7) = out0 (m ((d.tc : Thread nD τ).loc main_arg1)) (candV g gi)
      ∧ r.2.mem ((d.tc : Thread nD τ).loc main_v17) = out1 (m ((d.tc : Thread nD τ).loc main_arg0)) (m ((d.tc : Thread nD τ).loc main_arg1)) (candV g gi)
      ∧ r.2.mem ((d.tc : Thread nD τ).loc main_v16) = out2 (m ((d.tc : Thread nD τ).loc main_arg0)) (m ((d.tc : Thread nD τ).loc main_arg1)) (candV g gi)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3) := by
  refine (θ_run Cert.KernelIdeal.defs _ _).mono (fun r h d => ?_) (run_main m ρ)
  have hargs := QC_args h d
  obtain ⟨g, gi, hg, e⟩ := h.1 d
  rw [pre_v3, pre_keep _ (show main_arg2 ∈ ([main_arg0, main_arg1, main_arg2, main_arg3] : List (Ref sig .tc)) by decide)] at hg
  have a0 : upd (after preOps (V₀ m d)) g gi R[main_arg0] = m ((d.tc : Thread nD τ).loc main_arg0) := (upd_arg _ g gi (by decide)).trans (pre_keep _ (by decide))
  have a1 : upd (after preOps (V₀ m d)) g gi R[main_arg1] = m ((d.tc : Thread nD τ).loc main_arg1) := (upd_arg _ g gi (by decide)).trans (pre_keep _ (by decide))
  refine ⟨g, gi, hg, (e _ (mem_uc main_v7 (by decide))).trans ?_, (e _ (mem_uc main_v17 (by decide))).trans ?_, (e _ (mem_uc main_v16 (by decide))).trans ?_, hargs⟩
  · rw [post_v7, a1, upd_cd, upd_ci]
  · rw [post_v17, a0, a1, upd_cd, upd_ci]
  · rw [post_v16, a0, a1, upd_cd, upd_ci]

end Cert.Proof

end
-- ==== Proof.Along.lean ====
/-
  Indexing along a row by positions that are in range: the entries there. And the thresholds spread over sixteen lanes:
  each lane the row's threshold.
-/
module

public import proofs.«01_k».proof.Proof.HostRun
public import proofs.«01_k».proof.Proof.Gen.KernelIdeal
public import Idealize.ShloMosaic.Lib.ValueIdxCore
public import Idealize.ShloMosaic.Lib.ReduceAll
public import Idealize.ShloMosaic.Lib.Affine
public import Idealize.ShloMosaic.Lib.Pipeline.Value

@[expose] public section

noncomputable section

namespace Cert.Proof.Along

open Idealize.ShloMosaic Idealize.ShloMosaic.ValueIdx
open Cert.KernelIdeal Cert.KernelIdeal.Gen Cert.Proof.HostOps

variable {F : FTy → Type} [FloatOps F]

/-- The batched gather along the rows, at an index. -/
theorem gather_row_apply {α : Type} (x : S1024x1024.Idx → α) (idx : IVec S1024x320x1 32) (r : Fin 1024) (i : Fin 320) (p : Fin 1024)
    (hp : (idx (ix3 r i 0)).toInt.toNat = p.val) :
    Host.gather gather_S1024x1024_S1024x320x1_S1024x320_n_1_0_0_1_2_11 x idx (ix2 r i) = x (ix2 r p) := by
  set d := gather_S1024x1024_S1024x320x1_S1024x320_n_1_0_0_1_2_11
  unfold Host.gather
  congr 1
  funext a
  refine Fin.ext ?_
  show d.start (ix2 r i) idx a + d.batchCoord (ix2 r i) a + d.offCoord (ix2 r i) a = _
  have ha : a = (0 : Fin 2) ∨ a = (1 : Fin 2) := by
    match a with
    | ⟨0, _⟩ => exact Or.inl rfl
    | ⟨1, _⟩ => exact Or.inr rfl
  rcases ha with rfl | rfl
  · rw [d.start_batching _ _ _ (List.mem_singleton.mpr rfl), d.offCoord_eq_zero _ _ (fun h => ((d.mem_sKept _).mp h).2 (List.mem_singleton.mpr rfl)),
      Nat.zero_add, Nat.add_zero]
    unfold GatherDims.batchCoord
    rw [dif_pos (show (0 : Fin 2) ∈ d.operandBatchingDims from List.mem_singleton.mpr rfl)]
    rfl
  · rw [d.batchCoord_eq_zero _ _ (fun h => absurd (List.mem_singleton.mp h) (by decide)), d.offCoord_eq_zero _ _ (fun h => ((d.mem_sKept _).mp h).1 (List.mem_singleton.mpr rfl)),
      Nat.add_zero]
    unfold GatherDims.start
    rw [dif_pos (show (1 : Fin 2) ∈ d.startIndexMap from List.mem_singleton.mpr rfl)]
    have hsi : d.siIdx (ix2 r i) ⟨List.idxOf (1 : Fin 2) d.startIndexMap, List.idxOf_lt_length_iff.2 (List.mem_singleton.mpr rfl)⟩ = ix3 r i 0 := by
      funext b; refine Fin.ext ?_
      match b with
      | ⟨0, _⟩ => rfl
      | ⟨1, _⟩ => rfl
      | ⟨2, _⟩ => rfl
    rw [hsi, hp]
    exact Nat.min_eq_left (by have := p.isLt; show p.val ≤ 1024 - 1; omega)

theorem toInt_small {p : ℕ} (hp : p < 1024) : (BitVec.ofNat 32 p).toInt = (p : ℤ) := by
  rw [BitVec.toInt_ofNat']
  rw [Int.bmod_eq_of_le] <;> omega

theorem select_one {s : Shape} {α : Type} (m : IVec s 1) (x y : s.Idx → α) (j : s.Idx) (h : m j = 1#1) : select m x y j = x j := if_pos h
theorem select_not {s : Shape} {α : Type} (m : IVec s 1) (x y : s.Idx → α) (j : s.Idx) (h : ¬m j = 1#1) : select m x y j = y j := if_neg h

/-- A row's entries at positions in range. -/
theorem alongV_apply (ci : IVec S1024x1024 32) (idx : IVec S1024x320 32) (q : Fin 1024 → Fin 320 → Fin 1024)
    (hq : ∀ r i, idx (ix2 r i) = BitVec.ofNat 32 (q r i).val) (r : Fin 1024) (i : Fin 320) :
    alongV (F := F) ci idx (ix2 r i) = ci (ix2 r (q r i)) := by
  have hI : ∀ r i, (idx (ix2 r i)).toInt = ((q r i).val : ℤ) := fun r i => by rw [hq]; exact toInt_small (q r i).isLt
  have h4 : select (cmpi .slt idx ((broadcastInDim S1024x320 ![] bcast_S_S1024x320) (constantI S_ 32 0#32)))
      (addi idx ((broadcastInDim S1024x320 ![] bcast_S_S1024x320) (constantI S_ 32 1024#32))) idx = idx := by
    funext j
    obtain ⟨a, b, rfl⟩ : ∃ (a : Fin 1024) (b : Fin 320), j = ix2 a b := ⟨j 0, j 1, eq_ix2 j⟩
    refine select_not _ _ _ _ ?_
    intro h
    have h' : (idx (ix2 a b)).toInt < (0#32).toInt := IntOp.cmpi_slt.mp h
    rw [hI] at h'
    exact absurd h' (not_lt.mpr (Int.natCast_nonneg _))
  have h5 : ∀ r i, shapeCast S1024x320x1 idx shapeCasts_S1024x320_S1024x320x1 (ix3 r i 0) = idx (ix2 r i) := fun r i =>
    shapeCast_apply _ _ _ _ (by rw [Shape.rowMajor_val_two, Shape.rowMajor_val_three]; simp)
  unfold alongV
  simp only [h4]
  rw [select_one, gather_row_apply _ _ _ _ (q r i) (by rw [h5, hI]; rfl)]
  refine Host.reduce_andi_one _ _ _ _ _ rfl fun k => ?_
  obtain ⟨a, b, rfl⟩ : ∃ (a : Fin 1024) (b : Fin 320), k = ix3 a b 0 := ⟨k 0, k 1, (eq_ix3 k).trans (by congr 1; exact Subsingleton.elim (α := Fin 1) _ _)⟩
  refine IntOp.andi_eq_one.mpr ⟨IntOp.cmpi_sge.mpr ?_, IntOp.cmpi_sle.mpr ?_⟩
  · rw [h5, hI]; exact Int.natCast_nonneg _
  · rw [h5, hI]
    have := (q a b).isLt
    show ((q a b).val : ℤ) ≤ 1023
    omega

/-- Every lane of a row's threshold vector is the row's threshold. -/
theorem lanesV_apply (t : (⟨S1024, .f32⟩ : BufTy).Contents (Elt F)) (r : Fin 1024) (k : Fin 16) : lanesV t (ix2 r k) = t (ix1 r) := by
  unfold lanesV
  rw [shapeCast_apply _ _ (ix2 r k) (ix4 0 r k 0) (by rw [Shape.rowMajor_val_two, Shape.rowMajor_val_four]; simp)]
  show shapeCast _ _ _ _ = _
  rw [shapeCast_apply _ _ _ (ix2 r 0) (by rw [Shape.rowMajor_val_two, Shape.rowMajor_val_four]; simp), shapeCast_apply _ _ _ (ix1 r) (by rw [Shape.rowMajor_val_two, Shape.rowMajor_val_one]; simp)]

end Cert.Proof.Along

end
-- ==== Proof.Sorting.lean ====
/-
  The first entries of a sort by a key and then by position. A sort of more positions starts with the sort of fewer when
  the fewer are among the more, in the same order, and none of the others comes before one of them. And the host's
  top-k of the negated keys, read at an index.
-/
module

public import proofs.«01_k».proof.KernelIdeal
public import Idealize.ShloMosaic.Lib.SortPrefix
public import Idealize.ShloMosaic.PureOps.Ideal
public import Idealize.ShloMosaic.Lib.ValueIdxCore

@[expose] public section

noncomputable section

namespace Cert.Proof.Sorting

open Idealize.ShloMosaic Idealize.ShloMosaic.ValueIdx

/-- `k` comes before `k'`: a smaller key, or an equal key at an earlier position. -/
def bef {n : ℕ} (key : Fin n → EReal) (k k' : Fin n) : Bool :=
  decide (key k < key k') || (decide (key k = key k') && decide (k < k'))

theorem bef_total {n : ℕ} (key : Fin n → EReal) : StrictTotalBefore (bef key) :=
  StrictTotalBefore.of_key_then_position (fun a b => decide (a < b)) key (fun a => by simp)
    (fun a b c hab hbc => by simp only [decide_eq_true_eq] at *; exact hab.trans hbc)
    (fun a b => by simpa using lt_trichotomy a b)

/-- The stable sort by the key alone of positions in increasing order is the sort by the key and then the position. -/
theorem stableSort_bef {n : ℕ} (key : Fin n → EReal) (l : List (Fin n)) (hl : l.Pairwise (· < ·)) :
    stableSort (fun k k' => decide (key k < key k')) l = stableSort (bef key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold bef
    rw [show decide (b < a) = false from decide_eq_false (lt_asymm hab), Bool.and_false, Bool.or_false]

theorem sortedFrom_bef {n : ℕ} (key : Fin n → EReal) (k : Fin n) :
    sortedFrom (fun k k' => decide (key k < key k')) k = sortedFrom (bef key) k := by
  have e : sortPositions n (fun k k' => decide (key k < key k')) = sortPositions n (bef key) :=
    stableSort_bef key _ (List.pairwise_lt_finRange n)
  unfold sortedFrom
  rw [List.get_eq_getElem, List.get_eq_getElem]
  simp only [e]
  rfl

/-- Entry `i` of the sort of `n` positions is that of the sort of the `m` positions `σ`. -/
theorem sortedFrom_embed {n m : ℕ} (hm : m ≤ n) (key : Fin n → EReal) (key' : Fin m → EReal) (σ : Fin m → Fin n)
    (hmono : ∀ a b, σ a < σ b ↔ a < b) (hkey : ∀ a, key (σ a) = key' a)
    (hdom : ∀ (a : Fin m) (p : Fin n), (∀ b, σ b ≠ p) → key (σ a) < key p ∨ (key (σ a) ≤ key p ∧ σ a < p)) (i : Fin m) :
    sortedFrom (bef key) (i.castLE hm) = σ (sortedFrom (bef key') i) := by
  have hinj : Function.Injective σ := fun a b h => by
    rcases lt_trichotomy a b with hlt | e | hgt
    · exact absurd ((hmono a b).mpr hlt) (by rw [h]; exact lt_irrefl _)
    · exact e
    · exact absurd ((hmono b a).mpr hgt) (by rw [h]; exact lt_irrefl _)
  have hbef : ∀ a b, bef key (σ a) (σ b) = bef key' a b := fun a b => by
    unfold bef
    rw [hkey, hkey]
    simp only [hmono]
  refine (bef_total key).sortedFrom_eq_of_prefix hm (fun i => σ (sortedFrom (bef key') i))
    (fun a b h => sortedFrom_injective _ (hinj h)) (fun a b hab => ?_) (fun a p hp => ?_) i
  · rw [hbef]
    exact sortedFrom_noInversion (bef key') (bef key') (fun a b h => (bef_total key').asymm a b h) (fun _ _ h => h) (bef_total key').negTrans _ _ hab
  · have hne : ∀ b, σ b ≠ p := fun b e => by
      obtain ⟨j, hj⟩ := sortedFrom_surjective (bef key') b
      exact hp j (by rw [hj]; exact e)
    have hd := hdom (sortedFrom (bef key') a) p hne
    generalize sortedFrom (bef key') a = q at hd ⊢
    unfold bef
    rcases hd with h | ⟨h, h'⟩
    · rw [decide_eq_false (lt_asymm h), decide_eq_false (ne_of_gt h)]; rfl
    · rw [decide_eq_false (not_lt.mpr h), decide_eq_false (lt_asymm h'), Bool.and_false]; rfl

/-- The positions the host's top-k of the negated array gives: those of the sort by the array. -/
theorem topK_neg {n w k : ℕ} (hk : k ≤ w) (x : FVec Ideal ⟨2, ![n, w]⟩ .f32) (h : (⟨2, ![n, w]⟩ : Shape).Slices (fun _ => 0) ⟨2, ![n, k]⟩) (r : Fin n) (i : Fin k) :
    (Host.topK (⟨2, ![n, k]⟩ : Shape) 1 (FloatOps.cmpfTotal (F := Ideal) (φ := .f32) .gt) (Host.negf x) h).2 (ix2 r i)
      = BitVec.ofNat 32 (sortedFrom (bef fun c : Fin w => (x (ix2 r c) : EReal)) (i.castLE hk)).val := by
  rw [← sortedFrom_bef]
  have hB : (fun c c' : Fin w => decide ((x (ix2 r c) : EReal) < x (ix2 r c')))
      = fun c c' : Fin w => (FloatOps.cmpfTotal (F := Ideal) (φ := .f32) .gt (Host.negf x (ix2 r c)) (Host.negf x (ix2 r c')) == 1#1) := by
    funext c c'
    show _ = ((BitVec.ofBool (decide (-(x (ix2 r c') : EReal) < -(x (ix2 r c) : EReal)))) == 1#1)
    by_cases hlt : (x (ix2 r c) : EReal) < x (ix2 r c')
    · rw [decide_eq_true hlt, decide_eq_true (EReal.neg_lt_neg_iff.mpr hlt)]; rfl
    · rw [decide_eq_false hlt, decide_eq_false (fun h' => hlt (EReal.neg_lt_neg_iff.mp h'))]; rfl
  have hal : ∀ (j : (⟨2, ![n, w]⟩ : Shape).Idx), (j 0).val = r.val → ∀ c : Fin w, j.along (1 : Fin 2) c = ix2 r c := fun j hj c => by
    funext a
    match a with
    | ⟨0, _⟩ => exact Fin.ext hj
    | ⟨1, _⟩ => rfl
  rw [hB]
  set j : (⟨2, ![n, w]⟩ : Shape).Idx := fun a => ⟨0 + (ix2 r i (a.cast h.1.symm)).val, Nat.lt_of_lt_of_le (Nat.add_lt_add_left (ix2 r i _).isLt _) (h.2 a)⟩ with hj
  have hj0 : (j 0).val = r.val := Nat.zero_add _
  have hj1 : j 1 = i.castLE hk := Fin.ext (Nat.zero_add _)
  have hB' : (fun c c' : Fin w => (FloatOps.cmpfTotal (F := Ideal) (φ := .f32) .gt (Host.negf x (ix2 r c)) (Host.negf x (ix2 r c')) == 1#1))
      = fun c c' : Fin w => (FloatOps.cmpfTotal (F := Ideal) (φ := .f32) .gt (Host.negf x (j.along (1 : Fin 2) c)) (Host.negf x (j.along (1 : Fin 2) c')) == 1#1) := by
    funext c c'; rw [hal j hj0, hal j hj0]
  rw [hB', ← hj1]
  rfl

end Cert.Proof.Sorting

end
-- ==== Proof.RowSort.lean ====
/-
  One row: its selected columns in order in the leading positions of a row of 1024 and the greatest key behind them. The
  columns of the 320 least kept entries are the 320 least columns of the whole row.
-/
module

public import proofs.«01_k».proof.Proof.Sorting
public import Mathlib.Data.Nat.Count

@[expose] public section

noncomputable section

namespace Cert.Proof.Sorting

open Idealize.ShloMosaic

/-- Two predicates that agree below `n` have one count below `n`. -/
theorem count_congr {P Q : ℕ → Prop} (iP : DecidablePred P) (iQ : DecidablePred Q) (n : ℕ) (h : ∀ k < n, P k ↔ Q k) : @Nat.count P iP n = @Nat.count Q iQ n := by
  induction n with
  | zero => rfl
  | succ n ih =>
    rw [Nat.count_succ, Nat.count_succ, ih fun k hk => h k (Nat.lt_succ_of_lt hk)]
    congr 1
    exact if_congr (h n (Nat.lt_succ_self n)) rfl rfl

variable {P : ℕ → Prop} [DecidablePred P]

/-- Every number below the count is the count below a selected column. -/
theorem exists_count {n a : ℕ} (h : a < Nat.count P n) : ∃ c, c < n ∧ P c ∧ Nat.count P c = a := by
  induction n with
  | zero => exact absurd h (Nat.not_lt_zero a)
  | succ n ih =>
    rw [Nat.count_succ] at h
    by_cases ha : a < Nat.count P n
    · obtain ⟨c, hc, hP, he⟩ := ih ha
      exact ⟨c, Nat.lt_succ_of_lt hc, hP, he⟩
    · by_cases hn : P n
      · rw [if_pos hn] at h
        exact ⟨n, Nat.lt_succ_self n, hn, by omega⟩
      · rw [if_neg hn] at h; omega

/-- The columns of the least kept entries are the least columns of the row. -/
theorem row_cand {w n k : ℕ} (D : Fin w → EReal) (T : EReal) (hP : ∀ c : Fin w, P c.val ↔ D c ≤ T) (hk : k ≤ Nat.count P w) (hn : Nat.count P w ≤ n)
    (hw : k ≤ w) (hkn : k ≤ n) (e : Fin n → EReal) (idx : Fin n → BitVec 32)
    (he : ∀ c : Fin w, P c.val → ∀ p : Fin n, p.val = Nat.count P c.val → e p = D c)
    (hi : ∀ c : Fin w, P c.val → ∀ p : Fin n, p.val = Nat.count P c.val → idx p = BitVec.ofNat 32 c.val)
    (htop : ∀ p : Fin n, Nat.count P w ≤ p.val → e p = ⊤) (i : Fin k) :
    idx (sortedFrom (bef e) (i.castLE hkn)) = BitVec.ofNat 32 (sortedFrom (bef D) (i.castLE hw)).val := by
  have hmw : Nat.count P w ≤ w := Nat.count_le _
  choose col hcw hcP hcc using fun a : Fin (Nat.count P w) => exists_count a.isLt
  let σ : Fin (Nat.count P w) → Fin w := fun a => ⟨col a, hcw a⟩
  let τ : Fin (Nat.count P w) → Fin n := fun a => a.castLE hn
  have hτ : ∀ a, (τ a).val = Nat.count P (σ a).val := fun a => (hcc a).symm
  have hmono : ∀ a b, σ a < σ b ↔ a < b := fun a b => by
    constructor
    · intro h
      have := Nat.count_strict_mono (hcP a) (show col a < col b from h)
      rw [hcc, hcc] at this
      exact this
    · intro h
      by_contra hle
      have := Nat.count_monotone P (show col b ≤ col a from not_lt.mp hle)
      rw [hcc, hcc] at this
      exact absurd h (not_lt.mpr this)
  have h1 : sortedFrom (bef e) ((i.castLE hk).castLE hn) = τ (sortedFrom (bef fun a => D (σ a)) (i.castLE hk)) := by
    refine sortedFrom_embed hn e _ τ (fun a b => Iff.rfl) (fun a => he (σ a) (hcP a) _ (hτ a)) (fun a p hp => ?_) _
    have hpm : Nat.count P w ≤ p.val := by
      by_contra h
      exact hp ⟨p.val, not_le.mp h⟩ rfl
    exact Or.inr ⟨by rw [htop p hpm]; exact le_top, Fin.lt_def.mpr (lt_of_lt_of_le (show (τ a).val < Nat.count P w from a.isLt) hpm)⟩
  have h2 : sortedFrom (bef D) ((i.castLE hk).castLE hmw) = σ (sortedFrom (bef fun a => D (σ a)) (i.castLE hk)) := by
    refine sortedFrom_embed hmw D _ σ hmono (fun a => rfl) (fun a p hp => Or.inl ?_) _
    have hnP : ¬P p.val := fun h => by
      have hlt : Nat.count P p.val < Nat.count P w := Nat.count_strict_mono h p.isLt
      exact hp ⟨_, hlt⟩ (Fin.ext (Nat.count_injective (hcP ⟨_, hlt⟩) h (hcc ⟨_, hlt⟩)))
    exact lt_of_le_of_lt ((hP (σ a)).mp (hcP a)) (not_le.mp fun h => hnP ((hP p).mpr h))
  rw [show i.castLE hkn = (i.castLE hk).castLE hn from rfl, show i.castLE hw = (i.castLE hk).castLE hmw from rfl, h1, h2]
  exact hi _ (hcP _) _ (hτ _)

end Cert.Proof.Sorting

end
-- ==== Proof.Cands.lean ====
/-
  The candidates the kernel's compacted rows give are the reference's, when every row has at least 320 selected columns and
  at most 1024.
-/
module

public import proofs.«01_k».proof.Proof.Frames
public import proofs.«01_k».proof.Proof.Along
public import proofs.«01_k».proof.Proof.RowSort

@[expose] public section

noncomputable section

namespace Cert.Proof

open Idealize.ShloMosaic Idealize.ShloMosaic.ValueIdx
open Cert.KernelIdeal Cert.KernelIdeal.Gen Cert.Proof.HostOps Cert.Proof.Along Cert.Proof.Sorting Cert.Proof.Rows

theorem fill_top : (fill : Ideal .f32) = (⊤ : EReal) := by
  show Ideal.ofBits .f32 0x7F800000#32 = ⊤
  simp [Ideal.ofBits, Ideal.ieee]

/-- Column `c` of row `r` is selected. -/
def Near (fD : FVec Ideal S1024x100000 .f32) (t : FVec Ideal S1024 .f32) (r : Fin 1024) (c : ℕ) : Prop :=
  ∃ h : c < 100000, (fD (ix2 r ⟨c, h⟩) : EReal) ≤ t (ix1 r)

open Classical in
/-- How many columns of row `r` are selected. -/
def nNear (fD : FVec Ideal S1024x100000 .f32) (t : FVec Ideal S1024 .f32) (r : Fin 1024) : ℕ := Nat.count (Near fD t r) 100000

/-- The band that holds row `r`. -/
def bandOf (r : Fin 1024) : BandIx :=
  ((⟨r.val / 32 % 2, Nat.mod_lt _ (by decide)⟩, ⟨r.val / 64, by have := r.isLt; omega⟩), ⟨r.val % 32 / 8, by rw [trips4]; omega⟩)

/-- Row `r`'s place in its band. -/
def inBand (r : Fin 1024) : Fin 8 := ⟨r.val % 8, Nat.mod_lt _ (by decide)⟩

theorem row0_bandOf (r : Fin 1024) : row0 (gp (bandOf r)) (bandOf r).2.val + (inBand r).val = r.val := by
  unfold gp bandOf inBand
  rw [row0_coordsV]
  show 32 * (2 * (r.val / 64) + r.val / 32 % 2) + 8 * (r.val % 32 / 8) + r.val % 8 = r.val
  omega

theorem cd_read (g : FVec Ideal S1024x1024 .f32) (r : Fin 1024) (p : Fin 1024) :
    (cdB (gp (bandOf r)) (bandOf r).2).view.read (Elt Ideal) g (ix (inBand r) p) = g (ix2 r p) := by
  refine (View.read_apply _ _).trans ((cast_eq _ _).trans ?_)
  refine congrArg g (funext fun a => Fin.ext ?_)
  have h := row0_bandOf r
  match a with
  | ⟨0, _⟩ =>
    show k0_off21 (gp (bandOf r)) (bandOf r).2 0 + 1 * (inBand r).val = r.val
    rw [off21_eq]
    show row0 (gp (bandOf r)) (bandOf r).2.val + 1 * (inBand r).val = r.val
    omega
  | ⟨1, _⟩ =>
    show k0_off21 (gp (bandOf r)) (bandOf r).2 1 + 1 * p.val = p.val
    rw [off21_eq]
    show 0 + 1 * p.val = p.val
    omega

theorem ci_read (g : IVec S1024x1024 32) (r : Fin 1024) (p : Fin 1024) :
    (ciB (gp (bandOf r)) (bandOf r).2).view.read (Elt Ideal) g (ix (inBand r) p) = g (ix2 r p) := by
  refine (View.read_apply _ _).trans ((cast_eq _ _).trans ?_)
  refine congrArg g (funext fun a => Fin.ext ?_)
  have h := row0_bandOf r
  match a with
  | ⟨0, _⟩ =>
    show k0_off21 (gp (bandOf r)) (bandOf r).2 0 + 1 * (inBand r).val = r.val
    rw [off21_eq]
    show row0 (gp (bandOf r)) (bandOf r).2.val + 1 * (inBand r).val = r.val
    omega
  | ⟨1, _⟩ =>
    show k0_off21 (gp (bandOf r)) (bandOf r).2 1 + 1 * p.val = p.val
    rw [off21_eq]
    show 0 + 1 * p.val = p.val
    omega

theorem band_dist (fD : FVec Ideal S1024x100000 .f32) (r : Fin 1024) (c : Fin 100000) :
    bandD fD (row0 (gp (bandOf r)) (bandOf r).2.val) (inBand r) c.val = fD (ix2 r c) := by
  have h := row0_bandOf r
  unfold bandD
  rw [dif_pos ⟨by rw [h]; exact r.isLt, c.isLt⟩]
  refine congrArg fD (funext fun a => Fin.ext ?_)
  match a with
  | ⟨0, _⟩ => exact h
  | ⟨1, _⟩ => rfl

theorem band_thr (t : FVec Ideal S1024 .f32) (r : Fin 1024) (k : Fin 16) :
    bandT (lanesV (F := Ideal) t) (row0 (gp (bandOf r)) (bandOf r).2.val) (inBand r) k = t (ix1 r) := by
  have h := row0_bandOf r
  unfold bandT
  rw [dif_pos (by rw [h]; exact r.isLt), ← lanesV_apply (F := Ideal) t r k]
  refine congrArg (lanesV (F := Ideal) t) (funext fun a => Fin.ext ?_)
  match a with
  | ⟨0, _⟩ => exact h
  | ⟨1, _⟩ => rfl

theorem sel_near (fD : FVec Ideal S1024x100000 .f32) (t : FVec Ideal S1024 .f32) (r : Fin 1024) (c : ℕ) (hc : c < 100000) :
    Sel (bandD fD (row0 (gp (bandOf r)) (bandOf r).2.val)) (bandT (lanesV (F := Ideal) t) (row0 (gp (bandOf r)) (bandOf r).2.val)) (inBand r) c ↔ Near fD t r c := by
  unfold Sel
  have hd : bandD fD (row0 (gp (bandOf r)) (bandOf r).2.val) (inBand r) c = fD (ix2 r ⟨c, hc⟩) := band_dist fD r ⟨c, hc⟩
  rw [band_thr, hd]
  show BitVec.ofBool (decide ((fD (ix2 r ⟨c, hc⟩) : EReal) ≤ t (ix1 r))) = 1#1 ↔ _
  constructor
  · intro h
    by_contra hn
    rw [decide_eq_false (fun h' => hn ⟨hc, h'⟩)] at h
    exact absurd h (by decide)
  · rintro ⟨_, h⟩
    rw [decide_eq_true h]; rfl

open Classical in
theorem cand_eq (fD : FVec Ideal S1024x100000 .f32) (t : FVec Ideal S1024 .f32) (g : FVec Ideal S1024x1024 .f32) (gi : IVec S1024x1024 32)
    (hc : Compacted (F := Ideal) fD (lanesV (F := Ideal) t) g gi) (hlo : ∀ r, 320 ≤ nNear fD t r) (hhi : ∀ r, nNear fD t r ≤ 1024) :
    candV (F := Ideal) g gi = refCand (F := Ideal) fD := by
  have hpos : ∀ (r : Fin 1024) (i : Fin 320), posV (F := Ideal) g (ix2 r i)
      = BitVec.ofNat 32 (sortedFrom (bef fun p : Fin 1024 => (g (ix2 r p) : EReal)) (i.castLE (by decide))).val := fun r i => topK_neg (by decide) g _ r i
  have href : ∀ (r : Fin 1024) (i : Fin 320), refCand (F := Ideal) fD (ix2 r i)
      = BitVec.ofNat 32 (sortedFrom (bef fun c : Fin 100000 => (fD (ix2 r c) : EReal)) (i.castLE (by decide))).val := fun r i => topK_neg (by decide) fD _ r i
  funext j
  obtain ⟨r, i, rfl⟩ : ∃ (r : Fin 1024) (i : Fin 320), j = ix2 r i := ⟨j 0, j 1, eq_ix2 j⟩
  rw [href]
  refine (alongV_apply (F := Ideal) gi (posV (F := Ideal) g) (fun r i => sortedFrom (bef fun p : Fin 1024 => (g (ix2 r p) : EReal)) (i.castLE (by decide))) hpos r i).trans ?_
  obtain ⟨hv, hx⟩ := hc (bandOf r)
  have hcnt : ∀ n, n ≤ 100000 → ∀ inst, @Nat.count (Sel (bandD fD (row0 (gp (bandOf r)) (bandOf r).2.val)) (bandT (lanesV (F := Ideal) t) (row0 (gp (bandOf r)) (bandOf r).2.val)) (inBand r)) inst n
      = Nat.count (Near fD t r) n := fun n hn inst => count_congr _ _ n fun k hk => sel_near fD t r k (lt_of_lt_of_le hk hn)
  obtain ⟨hv1, hv2⟩ := hv (inBand r) (by rw [hcnt _ le_rfl]; exact hhi r)
  obtain ⟨hx1, -⟩ := hx (inBand r) (by rw [hcnt _ le_rfl]; exact hhi r)
  refine row_cand (P := Near fD t r) (fun c : Fin 100000 => (fD (ix2 r c) : EReal)) (t (ix1 r)) (fun c => ⟨fun h => h.2, fun h => ⟨c.isLt, h⟩⟩) (hlo r) (hhi r)
    (by decide) (by decide) (fun p : Fin 1024 => (g (ix2 r p) : EReal)) (fun p => gi (ix2 r p)) (fun c hN p hp => ?_) (fun c hN p hp => ?_) (fun p hp => ?_) i
  · have := hv1 c.val c.isLt ((sel_near fD t r c.val c.isLt).mpr hN) p (by rw [hcnt _ c.isLt.le]; exact hp)
    rw [band_dist] at this
    exact (cd_read g r p).symm.trans this
  · exact (ci_read gi r p).symm.trans (hx1 c.val c.isLt ((sel_near fD t r c.val c.isLt).mpr hN) p (by rw [hcnt _ c.isLt.le]; exact hp))
  · exact (cd_read g r p).symm.trans ((hv2 p (by rw [hcnt _ le_rfl]; exact hp)).trans fill_top)

end Cert.Proof

end
-- ==== Proof.Reach.lean ====
/-
  What the precondition says: every row has at least 320 selected columns and at most 1024.
-/
module

public import proofs.«01_k».proof.Proof.Cands
public import Idealize.ShloMosaic.Lib.StableHlo.Predicate

@[expose] public section

noncomputable section

namespace Cert.Proof

open Idealize.ShloMosaic Idealize.ShloMosaic.ValueIdx Cert.Proof.Sorting

/-- A count below `n` as the size of a set of positions. -/
theorem count_card {n : ℕ} (P : ℕ → Prop) [iP : DecidablePred P] (Q : Fin n → Prop) [DecidablePred Q] (h : ∀ c, Q c ↔ P c.val) :
    (Finset.univ.filter Q).card = Nat.count P n := by
  rw [Nat.count_eq_card_filter_range]
  refine Finset.card_bij (fun c _ => c.val) (fun c hc => ?_) (fun a _ b _ e => Fin.ext e) (fun k hk => ?_)
  · rw [Finset.mem_filter] at hc ⊢
    exact ⟨Finset.mem_range.mpr c.isLt, (h c).mp hc.2⟩
  · rw [Finset.mem_filter, Finset.mem_range] at hk
    exact ⟨⟨k, hk.1⟩, Finset.mem_filter.mpr ⟨Finset.mem_univ _, (h ⟨k, hk.1⟩).mpr hk.2⟩, rfl⟩

/-- The mask's bit at a column says whether the column is selected. -/
theorem bit_near [Cert.Pre_in_reach.Facts] (fD : FVec Ideal Cert.Pre_in_reach.S1024x100000 .f32) (t : FVec Ideal Cert.Pre_in_reach.S1024 .f32) (r : Fin 1024) (c : Fin 100000) :
    cmpf .ole fD (broadcastInDim Cert.Pre_in_reach.S1024x100000 (![0, 1] : Fin 2 → Fin 2) Cert.Pre_in_reach.Facts.bcast_S1024x1_S1024x100000_0_1
      (broadcastInDim Cert.Pre_in_reach.S1024x1 (![0] : Fin 1 → Fin 2) Cert.Pre_in_reach.Facts.bcast_S1024_S1024x1_0 t : FVec Ideal Cert.Pre_in_reach.S1024x1 .f32)) (ix2 r c) = 1#1 ↔ Near fD t r c.val := by
  have e : broadcastInDim Cert.Pre_in_reach.S1024x100000 (![0, 1] : Fin 2 → Fin 2) Cert.Pre_in_reach.Facts.bcast_S1024x1_S1024x100000_0_1
      (broadcastInDim Cert.Pre_in_reach.S1024x1 (![0] : Fin 1 → Fin 2) Cert.Pre_in_reach.Facts.bcast_S1024_S1024x1_0 t : FVec Ideal Cert.Pre_in_reach.S1024x1 .f32) (ix2 r c) = t (ix1 r) :=
    (broadcastInDim_apply _ _ _ _ (ix2 r 0) (fun a => by match a with | ⟨0, _⟩ => rfl | ⟨1, _⟩ => rfl)).trans
      (broadcastInDim_apply _ _ _ _ (ix1 r) (fun a => by match a with | ⟨0, _⟩ => rfl))
  unfold cmpf
  rw [e]
  show BitVec.ofBool (decide ((fD (ix2 r c) : EReal) ≤ t (ix1 r))) = 1#1 ↔ _
  constructor
  · intro h
    by_contra hn
    rw [decide_eq_false (fun h' => hn ⟨c.isLt, h'⟩)] at h
    exact absurd h (by decide)
  · rintro ⟨_, h⟩
    rw [decide_eq_true h]; rfl

open Classical in
/-- The precondition, row by row. -/
theorem reach [Cert.Pre_in_reach.Facts] (a0 : FVec Ideal Cert.Pre_in_reach.S1024x64 .f32) (a1 : FVec Ideal Cert.Pre_in_reach.S100000x64 .f32)
    (fD : FVec Ideal Cert.Pre_in_reach.S1024x100000 .f32) (t : FVec Ideal Cert.Pre_in_reach.S1024 .f32)
    (h : Cert.Pre_in_reach.fn (F := Ideal) a0 a1 fD t = fun _ => 1#1) (r : Fin 1024) : 320 ≤ nNear fD t r ∧ nNear fD t r ≤ 1024 := by
  have h0 := congrFun h (fun a => a.elim0)
  dsimp only [Cert.Pre_in_reach.fn] at h0
  haveI : Subsingleton Cert.Pre_in_reach.S_.Idx := ⟨fun a b => funext fun k => k.elim0⟩
  have h1 := Host.reduce_andi_all _ _ _ _ _ h0 (ix1 r)
  obtain ⟨hlo, hhi⟩ := IntOp.andi_eq_one.mp h1
  have hlo' := IntOp.cmpi_sge.mp hlo
  have hhi' := IntOp.cmpi_sle.mp hhi
  set x := Host.reduce IntOp.addi _ _ _ _ (ix1 r) with hx
  have hcard : x.toNat = nNear fD t r := by
    refine ((congrArg BitVec.toNat hx).trans (StableHlo.Predicate.toNat_reduce_count_cols (by decide) _ _ _ _ (ix1 r))).trans ?_
    exact count_card (Near fD t r) _ fun c => bit_near fD t r c
  have hle : nNear fD t r ≤ 100000 := Nat.count_le _
  have hint : x.toInt = (nNear fD t r : ℤ) := by
    rw [BitVec.toInt_eq_toNat_cond, hcard, if_pos (by omega)]
  rw [hint] at hlo' hhi'
  have e1 : (320 : ℤ) ≤ nNear fD t r := hlo'
  have e2 : (nNear fD t r : ℤ) ≤ 1024 := hhi'
  omega

end Cert.Proof

end
-- ==== Proof.DistSetup.lean ====
/-
  The distances' program: its host operations, the blocks its call fetches, and one run of the body.
-/
module

public import proofs.«01_k».proof.Proof.Gen.DistancesIdeal.Launch
public import proofs.«01_k».proof.Proof.Gen.DistancesIdeal.Skeleton
public import Idealize.ShloMosaic.Lib.Pipeline.FrameBody
public import Idealize.ShloMosaic.Lib.Ring
public import Idealize.ShloMosaic.Lib.Tactic
public import Idealize.ShloMosaic.Lib.VecWindow
public import Idealize.ShloMosaic.Lib.Claim

@[expose] public section

set_option maxRecDepth 16384

noncomputable section

namespace Cert.DistProof

open Cert.DistancesIdeal Cert.DistancesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-! ## The host operations before the call -/

/-- What the TensorCore's buffers hold when the call is entered: the launch memory after every host operation. -/
abbrev V (c : Dev nD) (b : Ref sig .tc) : Buf (Elt F) ((c : Thread nD τ).loc b) :=
  StableHlo.after (List.flatten [hostOps0, hostOps0_1, hostOps0_2]) (fun b => m (c, b)) b

/-- No host operation asks for fresh contents. -/
theorem hostOps_fresh :
    [hostOps0, hostOps0_1, hostOps0_2].Forall
      fun ops : List (HloOp τ sig (Elt F)) => ops.Forall fun op => op.fresh = ∅ := by
  simp only [List.Forall]; repeat' constructor

/-- The program's text up to the call, as the launch rule takes it. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩) hostOps_fresh main_chain

/-- The host operations leave the queries as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The host operations leave the means as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The windows' blocks -/

/-- The part of window `w`'s block at point `t` that lies in its array, as the call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The means' window is fetched at every point. -/
theorem fetch4 (t : Fin cfg0.N) : (cfg0.win 4).fetch t = true :=
  (Pipeline.Window.fetch_reads win0_4 rfl 0 (by decide) (by decide)
    (Pipeline.Window.sep_of_coord cc0_transform_4 0 0 (fun _ => rfl) (by decide)) (P := 1) (by decide) t).mpr (Nat.mod_one _)

/-- The distances' window is written back at every point. -/
theorem flush5 (t : Fin cfg0.N) : (cfg0.win 5).flush t = true :=
  (Pipeline.Window.flush_reads win0_5 rfl 0 (by decide) (by decide)
    (Pipeline.Window.sep_of_coord cc0_transform_5 0 1 (fun _ => rfl) (by decide)) (P := 1) (m := 0) (by decide) rfl t).mpr
    (Nat.mod_one _)

/-! ## The body, on any whole staging memrefs -/

/-- A load of a whole memref's buffer over all of it gives the contents it was filled with. -/
theorem load_full {sp : Space} {s : Shape} {e : EltTy} (μ : Memref sig .tc sp s e) (hμ : μ.IsWhole)
    {off : Fin s.rank → ℕ} (inb : ∀ a, off a + s.size a ≤ s.size a) (x : s.Idx → Elt F e) :
    μ.view.readAt (Elt F) (Rect.unit off s.size inb).toLoadRect (hμ.unread x) = x := by
  rw [View.readAt_full, hμ.read_unread]

set_option maxHeartbeats 2000000 in
/-- One run of the body: the five inputs come back as they were, the distances' buffer holds the payload of the
    inputs, and the counts' buffer holds something. -/
theorem body_run (c : Dev nD) (i : grid0.Coords)
    (arg1 : Memref sig .tc .vmem S1024x1 .f32) (harg1 : arg1.IsWhole)
    (arg2 : Memref sig .tc .vmem S1x2048 .f32) (harg2 : arg2.IsWhole)
    (arg3 : Memref sig .tc .vmem S1024x1 .f32) (harg3 : arg3.IsWhole)
    (arg4 : Memref sig .tc .vmem S1024x64 .f32) (harg4 : arg4.IsWhole)
    (arg5 : Memref sig .tc .vmem S2048x64 .f32) (harg5 : arg5.IsWhole)
    (arg6 : Memref sig .tc .vmem S1024x2048 .f32) (harg6 : arg6.IsWhole)
    (arg7 : Memref sig .tc .vmem S1024x8 .i32) (harg7 : arg7.IsWhole)
    (x0 : Vec F S1024x1 .f32) (x1 : Vec F S1x2048 .f32) (x2 : Vec F S1024x1 .f32) (x3 : Vec F S1024x64 .f32)
    (x4 : Vec F S2048x64 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (k0_pay3 x3 x4 x0 x1)
            ∗ (∃ d, owns (c : Thread nD τ) arg7 fullShare d)) -∗ K ⟨⟩))
      ⊢ wp frame (wpE (defs₀ (F := F)) Variants.none c none) E
          (cc0__dist_count_body i arg1 harg1 arg2 harg2 arg3 harg3 arg4 harg4 arg5 harg5 arg6 harg6 arg7 harg7) K := by
  simp only [cc0__dist_count_body_eq_skeleton]; unfold cc0__dist_count_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩,
    ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  by_cases hc0 : k0_cond1 i = 1#1 <;> by_cases hc1 : k0_cond2 i = 1#1
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr
      swap; · iexact H5
      ipureintro
      refine (View.read_writes_full _ _ _ _ _).trans ?_
      rw [load_full arg4 harg4, load_full arg5 harg5, load_full arg1 harg1, load_full arg2 harg2]
    iexists _; iexists _; isplitr
    swap; · iexact H6
    ipureintro; rfl

end Cert.DistProof

end
-- ==== Proof.DistRun.lean ====
/-
  The distances' call: the data of its pipeline, the obligation of its body, and the run of the whole program.
-/
module

public import proofs.«01_k».proof.Proof.DistSetup

@[expose] public section

set_option maxRecDepth 16384

noncomputable section

namespace Cert.DistProof

open Cert.DistancesIdeal Cert.DistancesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The means' staging buffer at point `t`: the fetched rows, over the filler `d` where the block leaves the array. -/
abbrev mblk (c : Dev nD) (t : Fin cfg0.N) (d : Vec F S2048x64 .f32) : Vec F S2048x64 .f32 :=
  (cfg0.win 4).fill (cfg0.grid.coords t) d (iblk m c 4 t)

/-- What the body leaves in the distances' buffer at point `t`, over that filler. -/
abbrev dblk (c : Dev nD) (t : Fin cfg0.N) (d : Vec F S2048x64 .f32) : Vec F S1024x2048 .f32 :=
  k0_pay3 (iblk m c 3 t) (mblk m c t d) (iblk m c 0 t) (iblk m c 1 t)

/-- The pipeline's arrays at its entry, and what each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mblk m c t (Dat.unnamed (cfg := cfg0) 4 t)
    | ⟨5, _⟩ => dblk m c t (Dat.unnamed (cfg := cfg0) 4 t)
    | ⟨6, _⟩ => Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = mblk m c t (Dat.unnamed (cfg := cfg0) 4 t) := by dsimp only [dats]
theorem after_5 (c : Dev nD) (t : Fin cfg0.N) :
    (dats m 0 c).after 5 t = dblk m c t (Dat.unnamed (cfg := cfg0) 4 t) := by dsimp only [dats]

/-- An input whose blocks tile its array and that the body leaves in place holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The means' buffer, fetched at every point, holds its block over what the buffer held before. -/
theorem before_4 (c : Dev nD) (t : Fin cfg0.N) (d) : ∃ d', (dats m 0 c).before 4 t d = mblk m c t d' := by
  unfold Dat.before
  rw [if_pos (fetch4 t)]
  unfold Dat.fetched Dat.blockOf mblk iblk
  rw [A_eq]
  exact ⟨_, rfl⟩

/-! ## The body obligation -/

/-- The body's text at point `t`, on the staging buffers the pipeline calls it with. -/
abbrev bodyAt (t : Fin cfg0.N) : Prog (TpuEff nD τ sig (Elt F) Λ₀ .tc) PUnit :=
  cc0__dist_count_body (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))

theorem defs₀_row (t : Fin cfg0.N) :
    defs₀ (F := F) .tc cfg0.body (cfg0.bodyArgs t (cfg0.slots t)) = bodyAt t := by
  unfold defs₀; rw [Defs.onTc_tc]

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare d)
    ∗ (∃ d, owns (c : Thread nD τ) (win0_6.stage (cfg0.slots t 6)) fullShare d))

/-- and what it returns, the distances' buffer described by `P5`. -/
def bodyPost (c : Dev nD) (t : Fin cfg0.N) (P5 : sProp 𝕄) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (∃ d, owns (c : Thread nD τ) (win0_4.stage (cfg0.slots t 4)) fullShare
        ((cfg0.win 4).fill (cfg0.grid.coords t) d ((cfg0.win 4).cut (cfg0.grid.coords t) ((dats m 0 c).after 4 t))))
    ∗ P5
    ∗ (∃ d, owns (c : Thread nD τ) (win0_6.stage (cfg0.slots t 6)) fullShare d))

/-- The body at any point, for any description of the distances' buffer that every filler's block satisfies. -/
theorem sound_body (c : Dev nD) (t : Fin cfg0.N) (P5 : sProp 𝕄)
    (h5 : ∀ d, owns (c : Thread nD τ) (win0_5.stage (cfg0.slots t 5)) fullShare (dblk m c t d) ⊢ P5) :
    bodyPre m c t ⊢ wp frame (wpE (defs₀ (F := F)) Variants.none c none) Set.univ (bodyAt t)
      (fun _ => bodyPost m c t P5) := by
  unfold bodyPre bodyPost bodyAt
  simp only [before_0, before_1, before_2, before_3, after_0, after_1, after_2, after_3, after_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, H5, H6⟩
  obtain ⟨d', hd'⟩ := before_4 m c t d4
  rw [hd']
  iapply (body_run c (grid0.coords t) _ _ _ _ _ _ _ _ _ _ _ _ _ _ (iblk m c 0 t) (iblk m c 1 t) (iblk m c 2 t)
    (iblk m c 3 t) (mblk m c t d') Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists d'
    rw [Window.cut_fill]
    iexact H4
  isplitl [H5]
  · iapply (h5 d')
    iexact H5
  iexact H6

/-- The outputs whose contents a frame does not follow: both. -/
def fgtBoth (w : Fin cfg0.W) : Bool := match w with
  | ⟨0, _⟩ => false | ⟨1, _⟩ => false | ⟨2, _⟩ => false | ⟨3, _⟩ => false | ⟨4, _⟩ => false
  | ⟨5, _⟩ => true | ⟨6, _⟩ => true

/-- The output whose contents the value does not follow: the counts. -/
def fgtCounts (w : Fin cfg0.W) : Bool := match w with
  | ⟨0, _⟩ => false | ⟨1, _⟩ => false | ⟨2, _⟩ => false | ⟨3, _⟩ => false | ⟨4, _⟩ => false
  | ⟨5, _⟩ => false | ⟨6, _⟩ => true

/-- The body obligation with both outputs forgotten. -/
theorem body_both (c : Dev nD) :
    BodyObligationLoose (dats (F := F) m 0 c) (defs₀ (F := F)) Variants.none () Set.univ fgtBoth := fun t => by
  rw [bigSep_W0, bigSep_W0, defs₀_row]
  exact triple_restated (sound_body m c t iprop(∃ d, owns (c : Thread nD τ) (win0_5.stage (cfg0.slots t 5)) fullShare d)
    (fun d => by iintro H; iexists _; iexact H)) rfl .rfl fun _ => .rfl

/-! ## The run -/

set_option backward.isDefEq.respectTransparency.types false in
/-- The launch, for any choice of forgotten outputs whose obligation is proved. -/
theorem run_forget (fgt : Fin cfg0.W → Bool)
    (hbody : ∀ c, BodyObligationLoose (dats (F := F) m 0 c) (defs₀ (F := F)) Variants.none () Set.univ fgt) :
    θ_run defs (onTc (τ := τ) (main (F := F))) (s₀ m ρ) (fun r =>
      RDat.FramePost (U' := UR sig nD τ) cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := hbody) (hshare := fun c => (dats m 0 c).share_full fun _ => rfl)
    (howed := fun _ _ => rfl) (V := V m) (hmain := hmain m Variants.none) (hA := A_eq m) (hΦ := fun _ _ => rfl)

/-- What such a run leaves in the arguments: what they held at launch. -/
theorem args_of {fgt : Fin cfg0.W → Bool} {r : PUnit × MemSt nD τ sig (Elt F)}
    (h : RDat.FramePost (U' := UR sig nD τ) cfg0 (fun c => (dats m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c 3 rfl).trans ((A_eq m c 3).trans (V_main_arg0 m c)),
    (h.arr_in c 4 rfl).trans ((A_eq m c 4).trans (V_main_arg1 m c))⟩

/-- The program runs to the end from any memory, leaving its arguments and every counter as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => args_of m h.1 c, h.2⟩) (run_forget m ρ fgtBoth (body_both m))

/-! ## The host operands of the call -/

/-- The row norms of the queries, squared. -/
theorem V_qsq (c : Dev nD) : V m c main_v2 = broadcastInDim S1024x1 ![0] bcast_S1024_S1024x1_0
    (Host.reduceAdd (mulf (m ((c : Thread nD τ).loc main_arg0)) (m ((c : Thread nD τ).loc main_arg0)))
      (constant S_ .f32 0x00000000#32) reducesTo_S1024x64_S1024_d1 h_S_) := by
  unfold V
  simp only [hostOps0, hostOps0_1, hostOps0_2, List.flatten_cons, List.flatten_nil, List.append_nil, List.cons_append,
    List.nil_append]
  after_results

end Cert.DistProof

end
-- ==== Proof.DistValue.lean ====
/-
  The distances' call, element by element: what its buffers hold and what its body computes from them.
-/
module

public import proofs.«01_k».proof.Proof.DistRun
public import proofs.«01_k».proof.Proof.Gen.ReferenceDistancesIdeal.Run
public import Idealize.ShloMosaic.Lib.Pointwise
public import Idealize.ShloMosaic.Lib.KernelVsHost
public import Idealize.ShloMosaic.Lib.Pipeline.Value
public import Idealize.ShloMosaic.Lib.ValueIdx

@[expose] public section

set_option maxRecDepth 16384

noncomputable section

namespace Cert.DistProof

open Cert.DistancesIdeal Cert.DistancesIdeal.Gen
open Idealize.ShloMosaic Idealize.ShloMosaic.TcCoe
open Idealize.SL.Sem
open Idealize.ShloMosaic.Pipeline (Dat Cfg Window BodyObligationLoose)

variable (m : (ℓ : Loc nD τ sig) → Buf (Elt Ideal) ℓ) (ρ : Dev nD → PrngReg)

/-! ## The distances, element by element -/

/-- The payload at row `r` and column `k`: only row `k` of the means' block enters. -/
theorem pay3_apply (v0 : Vec Ideal S1024x64 .f32) (v1 : Vec Ideal S2048x64 .f32) (v3 : Vec Ideal S1024x1 .f32)
    (v5 : Vec Ideal S1x2048 .f32) (r : Fin 1024) (k : Fin 2048) :
    k0_pay3 v0 v1 v3 v5 (ix2 r k) = (v3 (ix2 r 0) + v5 (ix2 0 k))
      - Ideal.ofBits .f32 0x40000000#32 * ∑ j : Fin 64, v0 (ix2 r j) * v1 (ix2 k j) := by
  pointwise [k0_pay3]

/-- The row norms of the means, squared, with the padding behind them. -/
theorem V_ksq (c : Dev nD) : V m c main_v52 = shapeCast S1x100352 (pad S100352 ![0] ![352] ![0]
    (Host.reduceAdd (mulf (m ((c : Thread nD τ).loc main_arg1)) (m ((c : Thread nD τ).loc main_arg1)))
      (constant S_ .f32 0x00000000#32) reducesTo_S100000x64_S100000_d1 h_S_ : FVec Ideal S100000 .f32)
      (constant S_ .f32 0x7F800000#32 : FVec Ideal S_ .f32)
      pads_S100000_S100352_03520 h_S_ : FVec Ideal S100352 .f32) shapeCasts_S100352_S1x100352 := by
  unfold V
  simp only [hostOps0, hostOps0_1, hostOps0_2, List.flatten_cons, List.flatten_nil, List.append_nil, List.cons_append,
    List.nil_append]
  after_results_simp <;> rfl

/-- How much of the means' block at point `t` lies in the array, and which block it is. -/
theorem xs4 : ∀ t : Fin cfg0.N, win0_4.xsize (grid0.coords t) 0 = min 2048 (100000 - 2048 * t.val)
    ∧ win0_4.xsize (grid0.coords t) 1 = 64 ∧ win0_4.index t 0 = t.val ∧ win0_4.index t 1 = 0 :=
  (by decide +kernel : ∀ t : Fin grid0.N, win0_4.xsize (grid0.coords t) 0 = min 2048 (100000 - 2048 * t.val)
    ∧ win0_4.xsize (grid0.coords t) 1 = 64 ∧ win0_4.index t 0 = t.val ∧ win0_4.index t 1 = 0)

/-- The same of the distances' block. -/
theorem xs5 : ∀ t : Fin cfg0.N, win0_5.xsize (grid0.coords t) 1 = min 2048 (100000 - 2048 * t.val)
    ∧ win0_5.xsize (grid0.coords t) 0 = 1024 ∧ win0_5.index t 0 = 0 ∧ win0_5.index t 1 = t.val :=
  (by decide +kernel : ∀ t : Fin grid0.N, win0_5.xsize (grid0.coords t) 1 = min 2048 (100000 - 2048 * t.val)
    ∧ win0_5.xsize (grid0.coords t) 0 = 1024 ∧ win0_5.index t 0 = 0 ∧ win0_5.index t 1 = t.val)

/-- Which block of the means' norms point `t` reads. -/
theorem ix_1 : ∀ t : Fin cfg0.N, win0_1.index t 0 = 0 ∧ win0_1.index t 1 = t.val :=
  (by decide +kernel : ∀ t : Fin grid0.N, win0_1.index t 0 = 0 ∧ win0_1.index t 1 = t.val)

/-! ## The blocks, element by element -/

/-- A row of the means' buffer that lies in the array is that row of the means, whatever the filler. -/
theorem mblk_apply (c : Dev nD) (t : Fin cfg0.N) (d : Vec Ideal S2048x64 .f32) (k : Fin 2048) (j : Fin 64)
    (h : 2048 * t.val + k.val < 100000) :
    mblk m c t d (ix2 k j) = m ((c : Thread nD τ).loc main_arg1) (ix2 ⟨2048 * t.val + k.val, h⟩ j) := by
  obtain ⟨e0, e1, i0, i1⟩ := xs4 t
  have hm : (cfg0.win 4).moved (cfg0.grid.coords t) (ix2 k j) = true :=
    ((cfg0.win 4).moved_iff _ _).mpr fun a => match a with
      | ⟨0, _⟩ => by
        show k.val < win0_4.xsize (grid0.coords t) 0
        rw [e0]; have := k.isLt; omega
      | ⟨1, _⟩ => by
        show j.val < win0_4.xsize (grid0.coords t) 1
        rw [e1]; exact j.isLt
  unfold mblk Window.fill
  rw [dif_pos hm]
  unfold iblk
  rw [show V m c (Pipeline.arrRef spec0 4) = m ((c : Thread nD τ).loc main_arg1) from V_main_arg1 m c]
  refine congrArg (m ((c : Thread nD τ).loc main_arg1)) (funext fun a => Fin.ext ?_)
  match a with
  | ⟨0, _⟩ =>
    show win0_4.index t 0 * 2048 + 1 * k.val = 2048 * t.val + k.val
    rw [i0]; omega
  | ⟨1, _⟩ =>
    show win0_4.index t 1 * 64 + 1 * j.val = j.val
    rw [i1]; omega

/-- The queries' buffer holds the queries. -/
theorem iblk3_apply (c : Dev nD) (t : Fin cfg0.N) (r : Fin 1024) (j : Fin 64) :
    iblk m c 3 t (ix2 r j) = m ((c : Thread nD τ).loc main_arg0) (ix2 r j) := by
  unfold iblk
  rw [show V m c (Pipeline.arrRef spec0 3) = m ((c : Thread nD τ).loc main_arg0) from V_main_arg0 m c]
  refine congrArg (m ((c : Thread nD τ).loc main_arg0)) (funext fun a => Fin.ext ?_)
  match a with
  | ⟨0, _⟩ => show 0 * 1024 + 1 * r.val = r.val; omega
  | ⟨1, _⟩ => show 0 * 64 + 1 * j.val = j.val; omega

/-- The squared row norms of the queries. -/
def qnorm (q : FVec Ideal S1024x64 .f32) : FVec Ideal S1024 .f32 :=
  Host.reduceAdd (mulf q q) (constant S_ .f32 0x00000000#32) reducesTo_S1024x64_S1024_d1 h_S_
/-- The squared row norms of the means. -/
def mnorm (mu : FVec Ideal S100000x64 .f32) : FVec Ideal S100000 .f32 :=
  Host.reduceAdd (mulf mu mu) (constant S_ .f32 0x00000000#32) reducesTo_S100000x64_S100000_d1 h_S_

/-- The buffer of the queries' norms holds them, one to a row. -/
theorem iblk0_apply (c : Dev nD) (t : Fin cfg0.N) (r : Fin 1024) :
    iblk m c 0 t (ix2 r 0) = qnorm (m ((c : Thread nD τ).loc main_arg0)) (ix1 r) := by
  unfold iblk
  rw [show V m c (Pipeline.arrRef spec0 0) = _ from V_qsq m c]
  refine congrArg (qnorm (m ((c : Thread nD τ).loc main_arg0))) (funext fun a => Fin.ext ?_)
  match a with
  | ⟨0, _⟩ => show 0 * 1024 + 1 * r.val = r.val; omega

/-- The padded row of norms, at a column before the padding. -/
theorem padded_apply (v : FVec Ideal S100000 .f32) (n : Nat) (h : n < 100000) :
    shapeCast S1x100352 (pad S100352 ![0] ![352] ![0] v (constant S_ .f32 0x7F800000#32 : FVec Ideal S_ .f32)
      pads_S100000_S100352_03520 h_S_) shapeCasts_S100352_S1x100352 (ix2 0 ⟨n, by omega⟩) = v (ix1 ⟨n, h⟩) := by
  pointwise
  exact dif_pos h

/-- The buffer of the means' norms holds those of the block's rows. -/
theorem iblk1_apply (c : Dev nD) (t : Fin cfg0.N) (k : Fin 2048) (h : 2048 * t.val + k.val < 100000) :
    iblk m c 1 t (ix2 0 k) = mnorm (m ((c : Thread nD τ).loc main_arg1)) (ix1 ⟨2048 * t.val + k.val, h⟩) := by
  obtain ⟨i0, i1⟩ := ix_1 t
  unfold iblk
  rw [show V m c (Pipeline.arrRef spec0 1) = _ from V_ksq m c]
  refine Eq.trans ?_ (padded_apply (mnorm (m ((c : Thread nD τ).loc main_arg1))) _ h)
  refine congrArg (shapeCast S1x100352 (pad S100352 ![0] ![352] ![0] (mnorm (m ((c : Thread nD τ).loc main_arg1)))
    (constant S_ .f32 0x7F800000#32 : FVec Ideal S_ .f32) pads_S100000_S100352_03520 h_S_) shapeCasts_S100352_S1x100352)
    (?_ : ((cfg0.win 1).blk t).view.emb (ix2 0 k) = _)
  funext a; apply Fin.ext
  match a with
  | ⟨0, _⟩ => show win0_1.index t 0 * 1 + 1 * 0 = 0; rw [i0]
  | ⟨1, _⟩ => show win0_1.index t 1 * 2048 + 1 * k.val = 2048 * t.val + k.val; rw [i1]; omega

/-- The distance between query `r` and mean `n`. -/
def dist (q : FVec Ideal S1024x64 .f32) (mu : FVec Ideal S100000x64 .f32) (r : Fin 1024) (n : Fin 100000) : EReal :=
  (qnorm q (ix1 r) + mnorm mu (ix1 n))
    - Ideal.ofBits .f32 0x40000000#32 * ∑ j : Fin 64, q (ix2 r j) * mu (ix2 n j)

/-- Equal terms make equal distances. -/
theorem dist_congr {a a' b b' : EReal} {x x' y y' : Fin 64 → EReal} (ha : a = a') (hb : b = b')
    (hx : ∀ j, x j = x' j) (hy : ∀ j, y j = y' j) :
    (a + b) - Ideal.ofBits .f32 0x40000000#32 * ∑ j, x j * y j
      = (a' + b') - Ideal.ofBits .f32 0x40000000#32 * ∑ j, x' j * y' j := by
  rw [ha, hb, funext hx, funext hy]

/-- What the body leaves in the distances' buffer, at the columns that lie in the array. -/
theorem dblk_apply (c : Dev nD) (t : Fin cfg0.N) (d : Vec Ideal S2048x64 .f32) (r : Fin 1024) (k : Fin 2048)
    (h : 2048 * t.val + k.val < 100000) :
    dblk m c t d (ix2 r k) = dist (m ((c : Thread nD τ).loc main_arg0)) (m ((c : Thread nD τ).loc main_arg1)) r
      ⟨2048 * t.val + k.val, h⟩ := by
  unfold dblk dist
  exact (pay3_apply _ _ _ _ r k).trans (dist_congr (iblk0_apply m c t r) (iblk1_apply m c t k h)
    (fun j => iblk3_apply m c t r j) fun j => mblk_apply m c t d k j h)

/-- The part of that block that is written back does not depend on the filler. -/
theorem cut_dblk (c : Dev nD) (t : Fin cfg0.N) (d d' : Vec Ideal S2048x64 .f32) :
    (cfg0.win 5).cut (cfg0.grid.coords t) (dblk m c t d) = (cfg0.win 5).cut (cfg0.grid.coords t) (dblk m c t d') := by
  obtain ⟨e1, e0, _, _⟩ := xs5 t
  funext j
  have h1 : (j 1).val < win0_5.xsize (grid0.coords t) 1 := (j 1).isLt
  have h0 : (j 0).val < win0_5.xsize (grid0.coords t) 0 := (j 0).isLt
  rw [e1] at h1; rw [e0] at h0
  have hx : (cfg0.win 5).xinj (cfg0.grid.coords t) j = (ix2 ⟨(j 0).val, h0⟩ ⟨(j 1).val, by omega⟩ : S1024x2048.Idx) :=
    funext fun a => Fin.ext (by match a with | ⟨0, _⟩ => rfl | ⟨1, _⟩ => rfl)
  show dblk m c t d ((cfg0.win 5).xinj (cfg0.grid.coords t) j) = dblk m c t d' ((cfg0.win 5).xinj (cfg0.grid.coords t) j)
  rw [hx, dblk_apply m c t d _ _ (by show 2048 * t.val + (j 1).val < _; omega),
    dblk_apply m c t d' _ _ (by show 2048 * t.val + (j 1).val < _; omega)]

end Cert.DistProof

end
-- ==== Proof.DistFinal.lean ====
/-
  The distances' call: the array it leaves, and the claims about the program that makes it.
-/
module

public import proofs.«01_k».proof.Proof.DistValue
public import proofs.«01_k».proof.Defs
public import proofs.«01_k».proof.Proof.Gen.Distances
public import proofs.«01_k».proof.Proof.Gen.ReferenceDistancesIdeal

@[expose] public section

set_option maxRecDepth 16384

noncomputable section

namespace Cert.DistProof

open Cert.DistancesIdeal Cert.DistancesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## The body, the distances followed -/

/-- Whatever the filler, the body's block is the named block where it is written back. -/
theorem dblk_loose (c : Dev nD) (t : Fin cfg0.N) (d : Vec Ideal S2048x64 .f32) :
    owns (c : Thread nD τ) (win0_5.stage (cfg0.slots t 5)) fullShare (dblk m c t d)
      ⊢ (iprop(∃ X, owns (c : Thread nD τ) (win0_5.stage (cfg0.slots t 5)) fullShare
        ((cfg0.win 5).fill (cfg0.grid.coords t) X ((cfg0.win 5).cut (cfg0.grid.coords t) ((dats m 0 c).after 5 t)))) : sProp 𝕄) := by
  iintro H
  iexists (dblk m c t d)
  rw [after_5, (cfg0.win 5).fill_congr_cut (cfg0.grid.coords t) (cut_dblk m c t d _)]
  iexact H

/-- What the call hands the body is what the body is called with. -/
theorem pre_counts (c : Dev nD) (t : Fin cfg0.N) :
    (iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare d)) : sProp 𝕄) ⊢ bodyPre m c t := by
  unfold bodyPre
  iintro ⟨HΦ, Ho, H0, H1, H2, H3, H4, ⟨%d5, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexact H6

/-- The body obligation with the counts alone forgotten. -/
theorem body_counts (c : Dev nD) :
    BodyObligationLoose (dats (F := Ideal) m 0 c) (defs₀ (F := Ideal)) Variants.none () Set.univ fgtCounts := fun t => by
  rw [bigSep_W0, bigSep_W0, defs₀_row]
  exact triple_restated (sound_body m c t _ (dblk_loose m c t)) rfl (pre_counts m c t) fun _ => .rfl

/-! ## The array of distances -/

/-- Distinct points write distinct blocks of columns. -/
theorem idx_inj5 : ∀ t t' : Fin cfg0.N, win0_5.index t = win0_5.index t' → t = t' := fun t t' h =>
  Fin.ext ((xs5 t).2.2.2.symm.trans ((congrFun h 1).trans (xs5 t').2.2.2))

theorem disjoint5 : ∀ t t' : Fin cfg0.N, (cfg0.win 5).flush t = true → (cfg0.win 5).flush t' = true → t ≠ t' →
    Disjoint ((cfg0.win 5).blk t).view.set ((cfg0.win 5).blk t').view.set := fun t t' _ _ hne =>
  (cfg0.win 5).disjoint_blk fun h => hne (idx_inj5 t t' h)

/-- The array at the end of the call: at row `r` and column `n`, the distance between query `r` and mean `n`. -/
theorem arr5_apply (c : Dev nD) (r : Fin 1024) (n : Fin 100000) :
    (dats m 0 c).arrAt 5 cfg0.N (ix2 r n : S1024x100000.Idx)
      = dist (m ((c : Thread nD τ).loc main_arg0)) (m ((c : Thread nD τ).loc main_arg1)) r n := by
  have hn := n.isLt
  have ht : n.val / 2048 < cfg0.N := by show n.val / 2048 < 49; omega
  obtain ⟨e1, e0, i0, i1⟩ := xs5 ⟨n.val / 2048, ht⟩
  have hb := congrFun ((dats m 0 c).read_blk_arrAt_eq_flushed 5 disjoint5 cfg0.N ⟨n.val / 2048, ht⟩ ht (flush5 _))
    (fun a => match a with
      | ⟨0, _⟩ => ⟨r.val, by show r.val < win0_5.xsize (grid0.coords ⟨n.val / 2048, ht⟩) 0; rw [e0]; exact r.isLt⟩
      | ⟨1, _⟩ => ⟨n.val % 2048, by
          show n.val % 2048 < win0_5.xsize (grid0.coords ⟨n.val / 2048, ht⟩) 1; rw [e1]
          show n.val % 2048 < min 2048 (100000 - 2048 * (n.val / 2048)); omega⟩)
  refine (Eq.trans ?_ hb).trans ?_
  · refine congrArg ((dats m 0 c).arrAt 5 cfg0.N) (funext fun a => Fin.ext ?_)
    match a with
    | ⟨0, _⟩ =>
      show r.val = win0_5.index ⟨n.val / 2048, ht⟩ 0 * 1024 + 1 * r.val
      rw [i0]; omega
    | ⟨1, _⟩ =>
      show n.val = win0_5.index ⟨n.val / 2048, ht⟩ 1 * 2048 + 1 * (n.val % 2048)
      rw [i1]; show n.val = n.val / 2048 * 2048 + 1 * (n.val % 2048); omega
  · have hk : 2048 * (n.val / 2048) + n.val % 2048 < 100000 := by omega
    have hd := dblk_apply m c ⟨n.val / 2048, ht⟩ (Dat.unnamed (cfg := cfg0) 4 ⟨n.val / 2048, ht⟩) r
      ⟨n.val % 2048, by omega⟩ hk
    refine (?_ : _ = dblk m c ⟨n.val / 2048, ht⟩ (Dat.unnamed (cfg := cfg0) 4 ⟨n.val / 2048, ht⟩)
      (ix2 r ⟨n.val % 2048, by omega⟩)).trans (hd.trans ?_)
    · rw [← after_5]
      refine congrArg ((dats m 0 c).after 5 ⟨n.val / 2048, ht⟩) (funext fun a => Fin.ext ?_)
      match a with
      | ⟨0, _⟩ => rfl
      | ⟨1, _⟩ => rfl
    · exact congrArg (dist _ _ r) (Fin.ext (Nat.div_add_mod n.val 2048))

/-- The reference's array, as its operations compose it. -/
def refDist (q : FVec Ideal S1024x64 .f32) (mu : FVec Ideal S100000x64 .f32) : FVec Ideal S1024x100000 .f32 :=
  subf (addf
      (broadcastInDim S1024x100000 ![0, 1] Cert.ReferenceDistancesIdeal.Gen.bcast_S1024x1_S1024x100000_0_1
        (broadcastInDim S1024x1 ![0] bcast_S1024_S1024x1_0 (qnorm q)))
      (broadcastInDim S1024x100000 ![0, 1] Cert.ReferenceDistancesIdeal.Gen.bcast_S1x100000_S1024x100000_0_1
        (broadcastInDim Cert.ReferenceDistancesIdeal.S1x100000 ![1] Cert.ReferenceDistancesIdeal.Gen.bcast_S100000_S1x100000_1 (mnorm mu))))
    (mulf (broadcastInDim S1024x100000 ![] Cert.ReferenceDistancesIdeal.Gen.bcast_S_S1024x100000 (constant S_ .f32 0x40000000#32))
      (Host.dotGeneral Cert.ReferenceDistancesIdeal.dot_S1024x64_S64x100000_S1024x100000_1_0_0_1_n_n none q
        (transpose Cert.ReferenceDistancesIdeal.S64x100000 [1, 0] mu Cert.ReferenceDistancesIdeal.Gen.transposes_S100000x64_S64x100000_1_0)))

/-- It holds the same distances. -/
theorem refDist_apply (q : FVec Ideal S1024x64 .f32) (mu : FVec Ideal S100000x64 .f32) (r : Fin 1024) (n : Fin 100000) :
    refDist q mu (ix2 r n) = dist q mu r n := by
  unfold dist
  generalize hq : qnorm q = a
  generalize hm : mnorm mu = b
  unfold refDist
  rw [hq, hm]
  pointwise [Cert.ReferenceDistancesIdeal.dot_S1024x64_S64x100000_S1024x100000_1_0_0_1_n_n]

/-! ## The claims -/

/-- The distances the program returns are the reference's. -/
theorem value : Cert.algebraic_DistancesIdeal_ReferenceDistancesIdeal := by
  intro m g m' g' _ hargs
  refine ⟨fun c => refDist (m ((c.tc : Thread nD τ).loc main_arg0)) (m ((c.tc : Thread nD τ).loc main_arg1)), ?_, ?_⟩
  · refine (θ_run Cert.DistancesIdeal.defs _ _).mono (fun r h c => ?_) (run_forget m g fgtCounts (body_counts m))
    refine ⟨?_, args_of m h.1 c⟩
    refine (((dats m 0 c).toRForget_arrAt_iff (fgt := fgtCounts) (w := 5) rfl cfg0.N _).mp ((h.1 c).1 5)).trans ?_
    funext i
    have hi : i = (ix2 (i 0) (i 1) : S1024x100000.Idx) := (ix2_eta i).symm
    rw [hi]
    exact (arr5_apply m c (i 0) (i 1)).trans (refDist_apply _ _ (i 0) (i 1)).symm
  · refine (θ_run Cert.ReferenceDistancesIdeal.defs _ _).mono (fun r h c => ?_)
      (Cert.ReferenceDistancesIdeal.Value.run (F := Ideal) m' g')
    obtain ⟨h0, ha⟩ := h c
    obtain ⟨e0, e1⟩ := hargs c
    refine ⟨h0.trans ?_, ha⟩
    rw [e0, e1]
    rfl

/-! ## The frames -/

/-- The two printings of the program have one body table, -/
theorem distances_bodies : Cert.Distances.defs₀ (F := Bits) = Cert.DistancesIdeal.defs₀ (F := Bits) := by
  unfold Cert.Distances.defs₀ Cert.DistancesIdeal.defs₀
  refine congrArg Defs.onTc (funext fun l => funext fun a => ?_)
  match l, a with
  | 0, (t, s) => rfl

theorem distances_defs : Cert.Distances.defs (F := Bits) = Cert.DistancesIdeal.defs (F := Bits) :=
  congrArg (Pipeline.defs (Cert.DistancesIdeal.pcfgs (F := Bits))) distances_bodies

set_option maxHeartbeats 4000000 in
/-- and one host text. -/
theorem distances_main (d : Dev Cert.Distances.nD) :
    Cert.Distances.main (F := Bits) d = Cert.DistancesIdeal.main (F := Bits) d := by
  with_unfolding_all rfl

theorem frame_distances : Cert.quiescent_Distances := fun m ρ _ => by
  rw [distances_defs, show Cert.Distances.main (F := Bits) = Cert.DistancesIdeal.main (F := Bits) from funext distances_main]
  exact frame (F := Bits) m ρ

theorem frame_distances_ideal : Cert.quiescent_DistancesIdeal := fun m ρ _ => frame (F := Ideal) m ρ

theorem frame_reference : Cert.quiescent_ReferenceDistancesIdeal := fun m ρ _ =>
  (θ_run Cert.ReferenceDistancesIdeal.defs _ _).mono (fun r h => ⟨fun c => (h c).2, sem_eq_zero_of_no_sems (by decide) r.2⟩)
    (Cert.ReferenceDistancesIdeal.Value.run (F := Ideal) m ρ)

end Cert.DistProof

end
-- ==== Proof.lean ====
/-
  The claims, assembled.
-/
module

public import proofs.«01_k».proof.Defs
public import proofs.«01_k».proof.Proof.Gen.Kernel
public import proofs.«01_k».proof.Proof.Gen.Distances
public import proofs.«01_k».proof.Proof.Gen.Distances.Launch
public import proofs.«01_k».proof.Proof.Gen.DistancesIdeal
public import proofs.«01_k».proof.Proof.Gen.DistancesIdeal.Launch
public import proofs.«01_k».proof.Proof.Gen.DistancesIdeal.Skeleton
public import proofs.«01_k».proof.Proof.Gen.ReferenceDistancesIdeal.Run
public import proofs.«01_k».proof.Proof.Gen.ReferenceDistancesIdeal
public import proofs.«01_k».proof.Proof.Gen.KernelIdeal
public import proofs.«01_k».proof.Proof.Gen.ReferenceIdeal
public import proofs.«01_k».proof.Proof.Gen.Pre_in_reach
public import proofs.«01_k».proof.Proof.Gen.ReferenceIdeal.Run
public import proofs.«01_k».proof.Proof.Frames
public import proofs.«01_k».proof.Proof.Cands
public import proofs.«01_k».proof.Proof.Reach
public import proofs.«01_k».proof.Proof.DistFinal

@[expose] public section

noncomputable section

namespace Cert.Proof

open Idealize.ShloMosaic Idealize.SL.Sem Cert.Proof.HostOps

/-- The kernel's three results are the reference's. -/
theorem value : Cert.algebraic_KernelIdeal_ReferenceIdeal_pre_in_reach := by
  intro m g m' g' hpre hargs
  refine ⟨fun c => out0 (m ((c.tc : Thread Cert.KernelIdeal.nD Cert.KernelIdeal.τ).loc Cert.KernelIdeal.main_arg1)) (refCand (F := Ideal) (m ((c.tc : Thread Cert.KernelIdeal.nD Cert.KernelIdeal.τ).loc Cert.KernelIdeal.main_arg2))),
    fun c => out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (refCand (F := Ideal) (m ((c.tc : Thread Cert.KernelIdeal.nD Cert.KernelIdeal.τ).loc Cert.KernelIdeal.main_arg2))),
    fun c => out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (refCand (F := Ideal) (m ((c.tc : Thread Cert.KernelIdeal.nD Cert.KernelIdeal.τ).loc Cert.KernelIdeal.main_arg2))), ?_, ?_⟩
  · refine (θ_run Cert.KernelIdeal.defs _ _).mono (fun r h c => ?_) (kernel_run (F := Ideal) m g)
    obtain ⟨cd, ci, hc, h0, h1, h2, ha⟩ := h c
    have hr := reach _ _ _ _ (hpre c)
    have e := cand_eq _ _ cd ci hc (fun r => (hr r).1) (fun r => (hr r).2)
    rw [e] at h0 h1 h2
    exact ⟨h0, h1, h2, ha⟩
  · refine (θ_run Cert.ReferenceIdeal.defs _ _).mono (fun r h c => ?_) (ref_run (F := Ideal) m' g')
    obtain ⟨h0, h1, h2, ha⟩ := h c
    obtain ⟨e0, e1, e2, -⟩ := hargs c
    have e0' : m' (rLoc c Cert.ReferenceIdeal.main_arg0) = _ := e0
    have e1' : m' (rLoc c Cert.ReferenceIdeal.main_arg1) = _ := e1
    have e2' : m' (rLoc c Cert.ReferenceIdeal.main_arg2) = _ := e2
    rw [e1', e2'] at h0
    rw [e0', e1', e2'] at h1 h2
    exact ⟨h0, h1, h2, ha⟩

theorem claim : Cert.Claim :=
  ⟨Cert.Kernel.Gen.facts, Cert.KernelIdeal.Gen.facts, Cert.ReferenceIdeal.Gen.facts,
    Cert.Distances.Gen.facts, Cert.DistancesIdeal.Gen.facts, Cert.ReferenceDistancesIdeal.Gen.facts, Cert.Pre_in_reach.Gen.facts,
    frame_kernel, frame_ideal, frame_ideal_pre, frame_ref, frame_ref_pre,
    Cert.DistProof.frame_distances, Cert.DistProof.frame_distances_ideal, Cert.DistProof.frame_reference,
    trivial, value, trivial, Cert.DistProof.value⟩

end Cert.Proof

end
